-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "inv_qk_dim" .f32 0x3BAAAAAB#32 ((1 / 192 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)) →
    ∃ (v0 : (c : Dev Cert.Kernel2Ideal.nD) → Buf (Elt Ideal) ((c.tc : Thread Cert.Kernel2Ideal.nD Cert.Kernel2Ideal.τ).loc Cert.Kernel2Ideal.main_v45_0)) (v1 : (c : Dev Cert.Kernel2Ideal.nD) → Buf (Elt Ideal) ((c.tc : Thread Cert.Kernel2Ideal.nD Cert.Kernel2Ideal.τ).loc Cert.Kernel2Ideal.main_v45_1)) (v2 : (c : Dev Cert.Kernel2Ideal.nD) → Buf (Elt Ideal) ((c.tc : Thread Cert.Kernel2Ideal.nD Cert.Kernel2Ideal.τ).loc Cert.Kernel2Ideal.main_v45_2)) (v3 : (c : Dev Cert.Kernel2Ideal.nD) → Buf (Elt Ideal) ((c.tc : Thread Cert.Kernel2Ideal.nD Cert.Kernel2Ideal.τ).loc Cert.Kernel2Ideal.main_v45_3)) (v4 : (c : Dev Cert.Kernel2Ideal.nD) → Buf (Elt Ideal) ((c.tc : Thread Cert.Kernel2Ideal.nD Cert.Kernel2Ideal.τ).loc Cert.Kernel2Ideal.main_v45_4)) (v5 : (c : Dev Cert.Kernel2Ideal.nD) → Buf (Elt Ideal) ((c.tc : Thread Cert.Kernel2Ideal.nD Cert.Kernel2Ideal.τ).loc Cert.Kernel2Ideal.main_v45_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v45_0) = v0 c
          ∧ r.2.mem ((c.tc : Thread Cert.Kernel2Ideal.nD Cert.Kernel2Ideal.τ).loc Cert.Kernel2Ideal.main_v45_1) = v1 c
          ∧ r.2.mem ((c.tc : Thread Cert.Kernel2Ideal.nD Cert.Kernel2Ideal.τ).loc Cert.Kernel2Ideal.main_v45_2) = v2 c
          ∧ r.2.mem ((c.tc : Thread Cert.Kernel2Ideal.nD Cert.Kernel2Ideal.τ).loc Cert.Kernel2Ideal.main_v45_3) = v3 c
          ∧ r.2.mem ((c.tc : Thread Cert.Kernel2Ideal.nD Cert.Kernel2Ideal.τ).loc Cert.Kernel2Ideal.main_v45_4) = v4 c
          ∧ r.2.mem ((c.tc : Thread Cert.Kernel2Ideal.nD Cert.Kernel2Ideal.τ).loc Cert.Kernel2Ideal.main_v45_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v281) = v0 c
          ∧ r.2.mem ((c.tc : Thread Cert.Reference2Ideal.nD Cert.Reference2Ideal.τ).loc Cert.Reference2Ideal.main_v282) = v1 c
          ∧ r.2.mem ((c.tc : Thread Cert.Reference2Ideal.nD Cert.Reference2Ideal.τ).loc Cert.Reference2Ideal.main_v283) = v2 c
          ∧ r.2.mem ((c.tc : Thread Cert.Reference2Ideal.nD Cert.Reference2Ideal.τ).loc Cert.Reference2Ideal.main_v284) = v3 c
          ∧ r.2.mem ((c.tc : Thread Cert.Reference2Ideal.nD Cert.Reference2Ideal.τ).loc Cert.Reference2Ideal.main_v285) = v4 c
          ∧ r.2.mem ((c.tc : Thread Cert.Reference2Ideal.nD Cert.Reference2Ideal.τ).loc Cert.Reference2Ideal.main_v287) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17))

def preserves_Kernel3_Kernel3Ideal : Prop :=
  True

def algebraic_Kernel3Ideal_Reference3Ideal_on_reals_for_the_router [hKernel3Ideal : Cert.Kernel3Ideal.Facts] [hReference3Ideal : Cert.Reference3Ideal.Facts] [hOn_reals_for_the_router : Cert.On_reals_for_the_router.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨3, ![2, 8192, 1024]⟩ : Shape).Idx, (Cert.On_reals_for_the_router.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 i = 1#1 → r.2.mem ((c.tc : Thread Cert.Kernel3Ideal.nD Cert.Kernel3Ideal.τ).loc Cert.Kernel3Ideal.main_v6_0) i = v0 c i)
          ∧ (∀ i : (⟨3, ![2, 65536, 128]⟩ : Shape).Idx, (Cert.On_reals_for_the_router.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 i = 1#1 → r.2.mem ((c.tc : Thread Cert.Kernel3Ideal.nD Cert.Kernel3Ideal.τ).loc Cert.Kernel3Ideal.main_v6_1) i = v1 c i)
          ∧ (∀ i : (⟨3, ![2, 16, 8192]⟩ : Shape).Idx, (Cert.On_reals_for_the_router.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2 i = 1#1 → r.2.mem ((c.tc : Thread Cert.Kernel3Ideal.nD Cert.Kernel3Ideal.τ).loc Cert.Kernel3Ideal.main_v6_2) i = v2 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨3, ![2, 8192, 1024]⟩ : Shape).Idx, (Cert.On_reals_for_the_router.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 i = 1#1 → r.2.mem ((c.tc : Thread Cert.Reference3Ideal.nD Cert.Reference3Ideal.τ).loc Cert.Reference3Ideal.main_v6) i = v0 c i)
          ∧ (∀ i : (⟨3, ![2, 65536, 128]⟩ : Shape).Idx, (Cert.On_reals_for_the_router.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 i = 1#1 → r.2.mem ((c.tc : Thread Cert.Reference3Ideal.nD Cert.Reference3Ideal.τ).loc Cert.Reference3Ideal.main_v35) i = v1 c i)
          ∧ (∀ i : (⟨3, ![2, 16, 8192]⟩ : Shape).Idx, (Cert.On_reals_for_the_router.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2 i = 1#1 → r.2.mem ((c.tc : Thread Cert.Reference3Ideal.nD Cert.Reference3Ideal.τ).loc Cert.Reference3Ideal.main_v36) i = v2 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_queries_and_keys : Cert.Pre_finite_queries_and_keys.Facts) (hOn_reals_for_the_router : Cert.On_reals_for_the_router.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_reals_for_the_router (hKernel3Ideal := hKernel3Ideal) (hReference3Ideal := hReference3Ideal) (hOn_reals_for_the_router := hOn_reals_for_the_router)
-- ==== On_reals_for_the_router.lean ====
abbrev S2x8192x1024 : Shape := ⟨3, ![2, 8192, 1024]⟩
abbrev S2x8192x256 : Shape := ⟨3, ![2, 8192, 256]⟩
abbrev S2x8192x512 : Shape := ⟨3, ![2, 8192, 512]⟩
abbrev S1024x1024 : Shape := ⟨2, ![1024, 1024]⟩
abbrev S2x1x1024 : Shape := ⟨3, ![2, 1, 1024]⟩
abbrev S1024x16 : Shape := ⟨2, ![1024, 16]⟩
abbrev S_ : Shape := ⟨0, ![]⟩
abbrev S2x65536x128 : Shape := ⟨3, ![2, 65536, 128]⟩
abbrev S2x16x8192 : Shape := ⟨3, ![2, 16, 8192]⟩

class Facts : Prop where
  bcast_S_S2x1x1024 : S_.BroadcastsInDim S2x1x1024 (![] : Fin 0 → Fin S2x1x1024.rank)
  reducesTo_S2x1x1024_S_d0_1_2 : S2x1x1024.ReducesTo [0, 1, 2] S_
  h_S_ : 0 < S_.numel
  bcast_S_S1024x16 : S_.BroadcastsInDim S1024x16 (![] : Fin 0 → Fin S1024x16.rank)
  reducesTo_S1024x16_S_d0_1 : S1024x16.ReducesTo [0, 1] S_
  bcast_S_S2x8192x1024 : S_.BroadcastsInDim S2x8192x1024 (![] : Fin 0 → Fin S2x8192x1024.rank)
  bcast_S_S2x65536x128 : S_.BroadcastsInDim S2x65536x128 (![] : Fin 0 → Fin S2x65536x128.rank)
  bcast_S_S2x16x8192 : S_.BroadcastsInDim S2x16x8192 (![] : Fin 0 → Fin S2x16x8192.rank)

variable [Facts]

def fn_part1 {F : FTy → Type} [FloatOps F] (main_v12 : IVec S2x8192x1024 1) (main_v13 : IVec S2x65536x128 1) (main_v15 : IVec S_ 1) : IVec S2x8192x1024 1 × IVec S2x65536x128 1 × IVec S2x16x8192 1 :=
  let main_v16 : IVec S2x16x8192 1 := broadcastInDim S2x16x8192 ![] bcast_S_S2x16x8192 main_v15
  (main_v12, main_v13, main_v16)

def fn {F : FTy → Type} [FloatOps F] (main_arg0 : FVec F S2x8192x1024 .f32) (main_arg1 : FVec F S2x8192x256 .bf16) (main_arg2 : FVec F S2x8192x256 .f32) (main_arg3 : FVec F S2x8192x512 .bf16) (main_arg4 : FVec F S1024x1024 .f32) (main_arg5 : FVec F S2x1x1024 .f32) (main_arg6 : FVec F S2x1x1024 .f32) (main_arg7 : FVec F S2x1x1024 .f32) (main_arg8 : FVec F S1024x16 .f32) : IVec S2x8192x1024 1 × IVec S2x65536x128 1 × IVec S2x16x8192 1 :=
  let main_v0 : FVec F S2x1x1024 .f32 := Host.absf main_arg6
  let main_cst : FVec F S_ .f32 := constant S_ .f32 0x7F800000#32
  let main_v1 : FVec F S2x1x1024 .f32 := broadcastInDim S2x1x1024 ![] bcast_S_S2x1x1024 main_cst
  let main_v2 : IVec S2x1x1024 1 := cmpf .olt main_v0 main_v1
  let main_c : IVec S_ 1 := constantI S_ 1 1#1
  let main_v3 : IVec S_ 1 := (fun x v => Host.reduce IntOp.andi x v reducesTo_S2x1x1024_S_d0_1_2 h_S_) main_v2 main_c
  let main_v4 : FVec F S2x1x1024 .f32 := Host.absf main_arg7
  let main_cst_0 : FVec F S_ .f32 := constant S_ .f32 0x7F800000#32
  let main_v5 : FVec F S2x1x1024 .f32 := broadcastInDim S2x1x1024 ![] bcast_S_S2x1x1024 main_cst_0
  let main_v6 : IVec S2x1x1024 1 := cmpf .olt main_v4 main_v5
  let main_c_1 : IVec S_ 1 := constantI S_ 1 1#1
  let main_v7 : IVec S_ 1 := (fun x v => Host.reduce IntOp.andi x v reducesTo_S2x1x1024_S_d0_1_2 h_S_) main_v6 main_c_1
  let main_v8 : FVec F S1024x16 .f32 := Host.absf main_arg8
  let main_cst_2 : FVec F S_ .f32 := constant S_ .f32 0x7F800000#32
  let main_v9 : FVec F S1024x16 .f32 := broadcastInDim S1024x16 ![] bcast_S_S1024x16 main_cst_2
  let main_v10 : IVec S1024x16 1 := cmpf .olt main_v8 main_v9
  let main_c_3 : IVec S_ 1 := constantI S_ 1 1#1
  let main_v11 : IVec S_ 1 := (fun x v => Host.reduce IntOp.andi x v reducesTo_S1024x16_S_d0_1 h_S_) main_v10 main_c_3
  let main_c_4 : IVec S_ 1 := constantI S_ 1 1#1
  let main_v12 : IVec S2x8192x1024 1 := broadcastInDim S2x8192x1024 ![] bcast_S_S2x8192x1024 main_c_4
  let main_c_5 : IVec S_ 1 := constantI S_ 1 1#1
  let main_v13 : IVec S2x65536x128 1 := broadcastInDim S2x65536x128 ![] bcast_S_S2x65536x128 main_c_5
  let main_v14 : IVec S_ 1 := andi main_v3 main_v7
  let main_v15 : IVec S_ 1 := andi main_v14 main_v11
  fn_part1 (F := F) main_v12 main_v13 main_v15
-- ==== Pre_finite_queries_and_keys.lean ====
abbrev S2x4x8192x256 : Shape := ⟨4, ![2, 4, 8192, 256]⟩
abbrev S2x4x256x256 : Shape := ⟨4, ![2, 4, 256, 256]⟩
abbrev S2x4x256x128 : Shape := ⟨4, ![2, 4, 256, 128]⟩
abbrev S2x4x8192x128 : Shape := ⟨4, ![2, 4, 8192, 128]⟩
abbrev S_ : Shape := ⟨0, ![]⟩

class Facts : Prop where
  bitsLt_bf16_f32 : FTy.bits .bf16 < FTy.bits .f32
  bcast_S_S2x4x8192x256 : S_.BroadcastsInDim S2x4x8192x256 (![] : Fin 0 → Fin S2x4x8192x256.rank)
  bcast_S_S2x4x256x256 : S_.BroadcastsInDim S2x4x256x256 (![] : Fin 0 → Fin S2x4x256x256.rank)

variable [Facts]

def fn {F : FTy → Type} [FloatOps F] (main_arg0 : FVec F S2x4x8192x256 .bf16) (main_arg1 : FVec F S2x4x256x256 .bf16) (main_arg2 : FVec F S2x4x256x128 .bf16) (main_arg3 : FVec F S2x4x8192x256 .bf16) (main_arg4 : FVec F S2x4x8192x128 .bf16) : IVec S2x4x8192x256 1 × IVec S2x4x256x256 1 × IVec S2x4x8192x256 1 :=
  let main_v0 : FVec F S2x4x8192x256 .f32 := (extf .f32 · bitsLt_bf16_f32) main_arg0
  let main_v1 : FVec F S2x4x8192x256 .f32 := Host.absf main_v0
  let main_cst : FVec F S_ .f32 := constant S_ .f32 0x7F800000#32
  let main_v2 : FVec F S2x4x8192x256 .f32 := broadcastInDim S2x4x8192x256 ![] bcast_S_S2x4x8192x256 main_cst
  let main_v3 : IVec S2x4x8192x256 1 := cmpf .olt main_v1 main_v2
  let main_v4 : FVec F S2x4x256x256 .f32 := (extf .f32 · bitsLt_bf16_f32) main_arg1
  let main_v5 : FVec F S2x4x256x256 .f32 := Host.absf main_v4
  let main_cst_0 : FVec F S_ .f32 := constant S_ .f32 0x7F800000#32
  let main_v6 : FVec F S2x4x256x256 .f32 := broadcastInDim S2x4x256x256 ![] bcast_S_S2x4x256x256 main_cst_0
  let main_v7 : IVec S2x4x256x256 1 := cmpf .olt main_v5 main_v6
  let main_v8 : FVec F S2x4x8192x256 .f32 := (extf .f32 · bitsLt_bf16_f32) main_arg3
  let main_v9 : FVec F S2x4x8192x256 .f32 := Host.absf main_v8
  let main_cst_1 : FVec F S_ .f32 := constant S_ .f32 0x7F800000#32
  let main_v10 : FVec F S2x4x8192x256 .f32 := broadcastInDim S2x4x8192x256 ![] bcast_S_S2x4x8192x256 main_cst_1
  let main_v11 : IVec S2x4x8192x256 1 := cmpf .olt main_v9 main_v10
  (main_v3, main_v7, main_v11)
-- ==== Kernel.lean ====
abbrev S2x4x8192x256 : Shape := ⟨4, ![2, 4, 8192, 256]⟩
abbrev S2x4x256x256 : Shape := ⟨4, ![2, 4, 256, 256]⟩
abbrev S2x4x256x128 : Shape := ⟨4, ![2, 4, 256, 128]⟩
abbrev S2x4x8192x128 : Shape := ⟨4, ![2, 4, 8192, 128]⟩
abbrev S2x4x128x256 : Shape := ⟨4, ![2, 4, 128, 256]⟩
abbrev S2x4x16x512x128 : Shape := ⟨5, ![2, 4, 16, 512, 128]⟩
abbrev S2x4x16x128x512 : Shape := ⟨5, ![2, 4, 16, 128, 512]⟩
abbrev S2x4x256x8192 : Shape := ⟨4, ![2, 4, 256, 8192]⟩
abbrev S2x8192x512 : Shape := ⟨3, ![2, 8192, 512]⟩
abbrev S1x1x256x512 : Shape := ⟨4, ![1, 1, 256, 512]⟩
abbrev S1x1x256x256 : Shape := ⟨4, ![1, 1, 256, 256]⟩
abbrev S1x1x128x256 : Shape := ⟨4, ![1, 1, 128, 256]⟩
abbrev S1x1x8192x256 : Shape := ⟨4, ![1, 1, 8192, 256]⟩
abbrev S1x1x16x128x512 : Shape := ⟨5, ![1, 1, 16, 128, 512]⟩
abbrev S1x512x128 : Shape := ⟨3, ![1, 512, 128]⟩
abbrev S128x512 : Shape := ⟨2, ![128, 512]⟩
abbrev S512x512 : Shape := ⟨2, ![512, 512]⟩
abbrev S256x512 : Shape := ⟨2, ![256, 512]⟩
abbrev S1x512 : Shape := ⟨2, ![1, 512]⟩
abbrev S1x1x512x256 : Shape := ⟨4, ![1, 1, 512, 256]⟩
abbrev S512x256 : Shape := ⟨2, ![512, 256]⟩
abbrev S256x256 : Shape := ⟨2, ![256, 256]⟩
abbrev S128x256 : Shape := ⟨2, ![128, 256]⟩
abbrev S512 : Shape := ⟨1, ![512]⟩
abbrev S1x1x1x128x512 : Shape := ⟨5, ![1, 1, 1, 128, 512]⟩
abbrev S512x128 : Shape := ⟨2, ![512, 128]⟩

abbrev nBuf : Space → Nat
  | .hbm => 10
  | .vmem => 15
  | .smem => 0
  | _ => 0

abbrev bufTy : (tb : Table) → Fin (tcTables nBuf tb) → BufTy
  | .hbm, ⟨0, _⟩ => ⟨S2x4x8192x256, .bf16⟩
  | .hbm, ⟨1, _⟩ => ⟨S2x4x256x256, .bf16⟩
  | .hbm, ⟨2, _⟩ => ⟨S2x4x256x128, .bf16⟩
  | .hbm, ⟨3, _⟩ => ⟨S2x4x8192x256, .bf16⟩
  | .hbm, ⟨4, _⟩ => ⟨S2x4x8192x128, .bf16⟩
  | .hbm, ⟨5, _⟩ => ⟨S2x4x128x256, .bf16⟩
  | .hbm, ⟨6, _⟩ => ⟨S2x4x16x512x128, .bf16⟩
  | .hbm, ⟨7, _⟩ => ⟨S2x4x16x128x512, .bf16⟩
  | .hbm, ⟨8, _⟩ => ⟨S2x4x256x8192, .bf16⟩
  | .hbm, ⟨9, _⟩ => ⟨S2x8192x512, .bf16⟩
  | .local _ .vmem, ⟨0, _⟩ => ⟨S1x1x256x512, .bf16⟩
  | .local _ .vmem, ⟨1, _⟩ => ⟨S1x1x256x512, .bf16⟩
  | .local _ .vmem, ⟨2, _⟩ => ⟨S1x1x256x256, .bf16⟩
  | .local _ .vmem, ⟨3, _⟩ => ⟨S1x1x256x256, .bf16⟩
  | .local _ .vmem, ⟨4, _⟩ => ⟨S1x1x128x256, .bf16⟩
  | .local _ .vmem, ⟨5, _⟩ => ⟨S1x1x128x256, .bf16⟩
  | .local _ .vmem, ⟨6, _⟩ => ⟨S1x1x8192x256, .bf16⟩
  | .local _ .vmem, ⟨7, _⟩ => ⟨S1x1x8192x256, .bf16⟩
  | .local _ .vmem, ⟨8, _⟩ => ⟨S1x1x16x128x512, .bf16⟩
  | .local _ .vmem, ⟨9, _⟩ => ⟨S1x1x16x128x512, .bf16⟩
  | .local _ .vmem, ⟨10, _⟩ => ⟨S1x512x128, .bf16⟩
  | .local _ .vmem, ⟨11, _⟩ => ⟨S1x512x128, .bf16⟩
  | .local _ .vmem, ⟨12, _⟩ => ⟨S128x512, .f32⟩
  | .local _ .vmem, ⟨13, _⟩ => ⟨S512x512, .f32⟩
  | .local _ .vmem, ⟨14, _⟩ => ⟨S512x512, .f32⟩
  | _, _ => ⟨S2x4x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 16], ![false, false, false]⟩

def k0_mult1 : BitVec 32 :=
  let c0_i32 : BitVec 32 := 0#32
  c0_i32
@[reducible] def k0_t1_loop : Scf.Loop 32 :=
  let c0_i32_24 : BitVec 32 := 0#32
  let c7_i32 : BitVec 32 := 7#32
  let v34 : BitVec 32 := Scalar.addi c0_i32_24 c7_i32
  let c1_i32 : BitVec 32 := 1#32
  ⟨c0_i32_24, v34, c1_i32⟩
def k0_mult2 (k0_t1 : Fin k0_t1_loop.trips) : BitVec 32 :=
  let c2_i32 : BitVec 32 := 2#32
  let c0_i32_24 : BitVec 32 := 0#32
  let c1_i32 : BitVec 32 := 1#32
  let arg12 : BitVec 32 := Scf.iv c0_i32_24 c1_i32 k0_t1
  let v100 : BitVec 32 := Scalar.muli c2_i32 arg12
  let c1_i32_63 : BitVec 32 := 1#32
  let v101 : BitVec 32 := Scalar.addi v100 c1_i32_63
  let c512_i32 : BitVec 32 := 512#32
  let v102 : BitVec 32 := Scalar.muli v101 c512_i32
  v102
def k0_off1 (k0_t1 : Fin k0_t1_loop.trips) (c1_i32_63 : BitVec 32) : Fin 4 → Nat :=
  let c0_64 : Index := 0#32
  let c0_65 : Index := 0#32
  let c2_i32 : BitVec 32 := 2#32
  let c0_i32_24 : BitVec 32 := 0#32
  let c1_i32 : BitVec 32 := 1#32
  let arg12 : BitVec 32 := Scf.iv c0_i32_24 c1_i32 k0_t1
  let v100 : BitVec 32 := Scalar.muli c2_i32 arg12
  let v101 : BitVec 32 := Scalar.addi v100 c1_i32_63
  let c512_i32 : BitVec 32 := 512#32
  let v102 : BitVec 32 := Scalar.muli v101 c512_i32
  let v103 : BitVec 32 := v102
  let v104 : Index := Scalar.indexCast v103
  let c0_66 : Index := 0#32
  ![0, 0, v104.toNat, 0]
def k0_off2 (k0_t1 : Fin k0_t1_loop.trips) : Fin 5 → Nat :=
  let c0_73 : Index := 0#32
  let c0_74 : Index := 0#32
  let c2_i32_72 : BitVec 32 := 2#32
  let c0_i32_24 : BitVec 32 := 0#32
  let c1_i32 : BitVec 32 := 1#32
  let arg12 : BitVec 32 := Scf.iv c0_i32_24 c1_i32 k0_t1
  let v112 : BitVec 32 := Scalar.muli c2_i32_72 arg12
  let v113 : Index := Scalar.indexCast v112
  let c0_75 : Index := 0#32
  let c0_76 : Index := 0#32
  ![0, 0, v113.toNat, 0, 0]
def k0_mult3 (k0_t1 : Fin k0_t1_loop.trips) : BitVec 32 :=
  let c2_i32_84 : BitVec 32 := 2#32
  let c0_i32_24 : BitVec 32 := 0#32
  let c1_i32 : BitVec 32 := 1#32
  let arg12 : BitVec 32 := Scf.iv c0_i32_24 c1_i32 k0_t1
  let v137 : BitVec 32 := Scalar.muli c2_i32_84 arg12
  let c2_i32_85 : BitVec 32 := 2#32
  let v138 : BitVec 32 := Scalar.addi v137 c2_i32_85
  let c512_i32_86 : BitVec 32 := 512#32
  let v139 : BitVec 32 := Scalar.muli v138 c512_i32_86
  v139
def k0_off3 (k0_t1 : Fin k0_t1_loop.trips) : Fin 5 → Nat :=
  let c0_97 : Index := 0#32
  let c0_98 : Index := 0#32
  let c2_i32_95 : BitVec 32 := 2#32
  let c0_i32_24 : BitVec 32 := 0#32
  let c1_i32 : BitVec 32 := 1#32
  let arg12 : BitVec 32 := Scf.iv c0_i32_24 c1_i32 k0_t1
  let v149 : BitVec 32 := Scalar.muli c2_i32_95 arg12
  let c1_i32_96 : BitVec 32 := 1#32
  let v150 : BitVec 32 := Scalar.addi v149 c1_i32_96
  let v151 : Index := Scalar.indexCast v150
  let c0_99 : Index := 0#32
  let c0_100 : Index := 0#32
  ![0, 0, v151.toNat, 0, 0]
def k0_mult4 : BitVec 32 :=
  let c7680_i32 : BitVec 32 := 7680#32
  c7680_i32
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x16x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x4x8192x256 : Shape := ⟨4, ![2, 4, 8192, 256]⟩
abbrev S2x4x256x256 : Shape := ⟨4, ![2, 4, 256, 256]⟩
abbrev S2x4x256x128 : Shape := ⟨4, ![2, 4, 256, 128]⟩
abbrev S2x4x8192x128 : Shape := ⟨4, ![2, 4, 8192, 128]⟩
abbrev S2x4x8448x256 : Shape := ⟨4, ![2, 4, 8448, 256]⟩
abbrev S2x4x8448x128 : Shape := ⟨4, ![2, 4, 8448, 128]⟩
abbrev S2x4x8192x8448 : Shape := ⟨4, ![2, 4, 8192, 8448]⟩
abbrev S_ : Shape := ⟨0, ![]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S2x8192x4x128 : Shape := ⟨4, ![2, 8192, 4, 128]⟩
abbrev S2x8192x512 : Shape := ⟨3, ![2, 8192, 512]⟩

abbrev nBuf : Space → Nat
  | .hbm => 33
  | .vmem => 0
  | .smem => 0
  | _ => 0

abbrev bufTy : (tb : Table) → Fin (tcTables nBuf tb) → BufTy
  | .hbm, ⟨0, _⟩ => ⟨S2x4x8192x256, .bf16⟩
  | .hbm, ⟨1, _⟩ => ⟨S2x4x256x256, .bf16⟩
  | .hbm, ⟨2, _⟩ => ⟨S2x4x256x128, .bf16⟩
  | .hbm, ⟨3, _⟩ => ⟨S2x4x8192x256, .bf16⟩
  | .hbm, ⟨4, _⟩ => ⟨S2x4x8192x128, .bf16⟩
  | .hbm, ⟨5, _⟩ => ⟨S2x4x8448x256, .bf16⟩
  | .hbm, ⟨6, _⟩ => ⟨S2x4x8448x256, .f32⟩
  | .hbm, ⟨7, _⟩ => ⟨S2x4x8448x128, .bf16⟩
  | .hbm, ⟨8, _⟩ => ⟨S2x4x8448x128, .f32⟩
  | .hbm, ⟨9, _⟩ => ⟨S2x4x8192x256, .f32⟩
  | .hbm, ⟨10, _⟩ => ⟨S2x4x8192x8448, .f32⟩
  | .hbm, ⟨11, _⟩ => ⟨S_, .f32⟩
  | .hbm, ⟨12, _⟩ => ⟨S_, .f32⟩
  | .hbm, ⟨13, _⟩ => ⟨S2x4x8192x8448, .f32⟩
  | .hbm, ⟨14, _⟩ => ⟨S2x4x8192x8448, .f32⟩
  | .hbm, ⟨15, _⟩ => ⟨S_, .f32⟩
  | .hbm, ⟨16, _⟩ => ⟨S2x4x8192, .f32⟩
  | .hbm, ⟨17, _⟩ => ⟨S_, .f32⟩
  | .hbm, ⟨18, _⟩ => ⟨S2x4x8192, .f32⟩
  | .hbm, ⟨19, _⟩ => ⟨S2x4x8192, .f32⟩
  | .hbm, ⟨20, _⟩ => ⟨S2x4x8192x1, .f32⟩
  | .hbm, ⟨21, _⟩ => ⟨S2x4x8192x8448, .f32⟩
  | .hbm, ⟨22, _⟩ => ⟨S2x4x8192x8448, .f32⟩
  | .hbm, ⟨23, _⟩ => ⟨S2x4x8192x8448, .f32⟩
  | .hbm, ⟨24, _⟩ => ⟨S_, .f32⟩
  | .hbm, ⟨25, _⟩ => ⟨S2x4x8192, .f32⟩
  | .hbm, ⟨26, _⟩ => ⟨S2x4x8192x1, .f32⟩
  | .hbm, ⟨27, _⟩ => ⟨S2x4x8192x8448, .f32⟩
  | .hbm, ⟨28, _⟩ => ⟨S2x4x8192x8448, .f32⟩
  | .hbm, ⟨29, _⟩ => ⟨S2x4x128x8192, .f32⟩
  | .hbm, ⟨30, _⟩ => ⟨S2x8192x4x128, .f32⟩
  | .hbm, ⟨31, _⟩ => ⟨S2x8192x512, .f32⟩
  | .hbm, ⟨32, _⟩ => ⟨S2x8192x512, .bf16⟩
  | _, _ => ⟨S2x4x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x1x1024 : Shape := ⟨3, ![2, 1, 1024]⟩
abbrev S1024x1216 : Shape := ⟨2, ![1024, 1216]⟩
abbrev S256 : Shape := ⟨1, ![256]⟩
abbrev S4x128x128 : Shape := ⟨3, ![4, 128, 128]⟩
abbrev S4x128 : Shape := ⟨2, ![4, 128]⟩
abbrev S256x512 : Shape := ⟨2, ![256, 512]⟩
abbrev S256x768 : Shape := ⟨2, ![256, 768]⟩
abbrev S128 : Shape := ⟨1, ![128]⟩
abbrev S128x1024 : Shape := ⟨2, ![128, 1024]⟩
abbrev S192 : Shape := ⟨1, ![192]⟩
abbrev S8192x16 : Shape := ⟨2, ![8192, 16]⟩
abbrev S1024x64 : Shape := ⟨2, ![1024, 64]⟩
abbrev S1024x1152 : Shape := ⟨2, ![1024, 1152]⟩
abbrev S1024x1280 : Shape := ⟨2, ![1024, 1280]⟩
abbrev S256x4x192 : Shape := ⟨3, ![256, 4, 192]⟩
abbrev S256x4x128 : Shape := ⟨3, ![256, 4, 128]⟩
abbrev S256x4x64 : Shape := ⟨3, ![256, 4, 64]⟩
abbrev S256x256 : Shape := ⟨2, ![256, 256]⟩
abbrev S1x256 : Shape := ⟨2, ![1, 256]⟩
abbrev S1x128x128 : Shape := ⟨3, ![1, 128, 128]⟩
abbrev S128x128 : Shape := ⟨2, ![128, 128]⟩
abbrev S128x512 : Shape := ⟨2, ![128, 512]⟩
abbrev S128x4 : Shape := ⟨2, ![128, 4]⟩
abbrev S128x4x64 : Shape := ⟨3, ![128, 4, 64]⟩
abbrev S128x256 : Shape := ⟨2, ![128, 256]⟩
abbrev S64 : Shape := ⟨1, ![64]⟩
abbrev S1x128 : Shape := ⟨2, ![1, 128]⟩
abbrev S8192x64 : Shape := ⟨2, ![8192, 64]⟩
abbrev S8192x128 : Shape := ⟨2, ![8192, 128]⟩
abbrev S2x8192x256 : Shape := ⟨3, ![2, 8192, 256]⟩
abbrev S2x4x8192x256 : Shape := ⟨4, ![2, 4, 8192, 256]⟩
abbrev S2x4x8192x128 : Shape := ⟨4, ![2, 4, 8192, 128]⟩
abbrev S1x256x1024 : Shape := ⟨3, ![1, 256, 1024]⟩
abbrev S1x1x1024 : Shape := ⟨3, ![1, 1, 1024]⟩
abbrev S256x128 : Shape := ⟨2, ![256, 128]⟩
abbrev S1x256x256 : Shape := ⟨3, ![1, 256, 256]⟩
abbrev S1x4x256x256 : Shape := ⟨4, ![1, 4, 256, 256]⟩
abbrev S1x4x256x128 : Shape := ⟨4, ![1, 4, 256, 128]⟩
abbrev S256x1024 : Shape := ⟨2, ![256, 1024]⟩
abbrev S256x1 : Shape := ⟨2, ![256, 1]⟩
abbrev S1x1024 : Shape := ⟨2, ![1, 1024]⟩
abbrev S256x1280 : Shape := ⟨2, ![256, 1280]⟩
abbrev S512x256 : Shape := ⟨2, ![512, 256]⟩
abbrev S1x128x256 : Shape := ⟨3, ![1, 128, 256]⟩
abbrev S1x1x256x128 : Shape := ⟨4, ![1, 1, 256, 128]⟩

abbrev nBuf : Space → Nat
  | .hbm => 69
  | .vmem => 33
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x1216, .f32⟩
  | .hbm, ⟨4, _⟩ => ⟨S256, .f32⟩
  | .hbm, ⟨5, _⟩ => ⟨S4x128x128, .f32⟩
  | .hbm, ⟨6, _⟩ => ⟨S4x128, .f32⟩
  | .hbm, ⟨7, _⟩ => ⟨S256x512, .f32⟩
  | .hbm, ⟨8, _⟩ => ⟨S256, .f32⟩
  | .hbm, ⟨9, _⟩ => ⟨S256x768, .f32⟩
  | .hbm, ⟨10, _⟩ => ⟨S128, .f32⟩
  | .hbm, ⟨11, _⟩ => ⟨S128x1024, .f32⟩
  | .hbm, ⟨12, _⟩ => ⟨S192, .f32⟩
  | .hbm, ⟨13, _⟩ => ⟨S192, .f32⟩
  | .hbm, ⟨14, _⟩ => ⟨S8192x16, .f32⟩
  | .hbm, ⟨15, _⟩ => ⟨S8192x16, .f32⟩
  | .hbm, ⟨16, _⟩ => ⟨S8192x16, .f32⟩
  | .hbm, ⟨17, _⟩ => ⟨S8192x16, .f32⟩
  | .hbm, ⟨18, _⟩ => ⟨S1024x64, .f32⟩
  | .hbm, ⟨19, _⟩ => ⟨S1024x1152, .f32⟩
  | .hbm, ⟨20, _⟩ => ⟨S1024x1280, .f32⟩
  | .hbm, ⟨21, _⟩ => ⟨S1024x1280, .bf16⟩
  | .hbm, ⟨22, _⟩ => ⟨S256x4x192, .f32⟩
  | .hbm, ⟨23, _⟩ => ⟨S256x4x128, .f32⟩
  | .hbm, ⟨24, _⟩ => ⟨S256x512, .f32⟩
  | .hbm, ⟨25, _⟩ => ⟨S256x4x64, .f32⟩
  | .hbm, ⟨26, _⟩ => ⟨S256x256, .f32⟩
  | .hbm, ⟨27, _⟩ => ⟨S256x768, .f32⟩
  | .hbm, ⟨28, _⟩ => ⟨S256x768, .bf16⟩
  | .hbm, ⟨29, _⟩ => ⟨S1x256, .f32⟩
  | .hbm, ⟨30, _⟩ => ⟨S1x128x128, .f32⟩
  | .hbm, ⟨31, _⟩ => ⟨S128x128, .f32⟩
  | .hbm, ⟨32, _⟩ => ⟨S1x128x128, .f32⟩
  | .hbm, ⟨33, _⟩ => ⟨S128x128, .f32⟩
  | .hbm, ⟨34, _⟩ => ⟨S1x128x128, .f32⟩
  | .hbm, ⟨35, _⟩ => ⟨S128x128, .f32⟩
  | .hbm, ⟨36, _⟩ => ⟨S1x128x128, .f32⟩
  | .hbm, ⟨37, _⟩ => ⟨S128x128, .f32⟩
  | .hbm, ⟨38, _⟩ => ⟨S128x512, .f32⟩
  | .hbm, ⟨39, _⟩ => ⟨S128x512, .bf16⟩
  | .hbm, ⟨40, _⟩ => ⟨S128x4, .f32⟩
  | .hbm, ⟨41, _⟩ => ⟨S128x4x64, .f32⟩
  | .hbm, ⟨42, _⟩ => ⟨S128x256, .f32⟩
  | .hbm, ⟨43, _⟩ => ⟨S256x512, .bf16⟩
  | .hbm, ⟨44, _⟩ => ⟨S1x256, .f32⟩
  | .hbm, ⟨45, _⟩ => ⟨S128, .f32⟩
  | .hbm, ⟨46, _⟩ => ⟨S64, .f32⟩
  | .hbm, ⟨47, _⟩ => ⟨S64, .f32⟩
  | .hbm, ⟨48, _⟩ => ⟨S256, .f32⟩
  | .hbm, ⟨49, _⟩ => ⟨S1x256, .f32⟩
  | .hbm, ⟨50, _⟩ => ⟨S1x128, .f32⟩
  | .hbm, ⟨51, _⟩ => ⟨S128x1024, .bf16⟩
  | .hbm, ⟨52, _⟩ => ⟨S128, .f32⟩
  | .hbm, ⟨53, _⟩ => ⟨S64, .f32⟩
  | .hbm, ⟨54, _⟩ => ⟨S64, .f32⟩
  | .hbm, ⟨55, _⟩ => ⟨S256, .f32⟩
  | .hbm, ⟨56, _⟩ => ⟨S1x256, .f32⟩
  | .hbm, ⟨57, _⟩ => ⟨S8192x64, .f32⟩
  | .hbm, ⟨58, _⟩ => ⟨S8192x16, .f32⟩
  | .hbm, ⟨59, _⟩ => ⟨S8192x16, .f32⟩
  | .hbm, ⟨60, _⟩ => ⟨S8192x64, .f32⟩
  | .hbm, ⟨61, _⟩ => ⟨S8192x128, .f32⟩
  | .hbm, ⟨62, _⟩ => ⟨S8192x128, .f32⟩
  | .hbm, ⟨63, _⟩ => ⟨S2x8192x256, .bf16⟩
  | .hbm, ⟨64, _⟩ => ⟨S2x8192x256, .f32⟩
  | .hbm, ⟨65, _⟩ => ⟨S2x8192x256, .f32⟩
  | .hbm, ⟨66, _⟩ => ⟨S2x4x8192x256, .bf16⟩
  | .hbm, ⟨67, _⟩ => ⟨S2x4x8192x256, .bf16⟩
  | .hbm, ⟨68, _⟩ => ⟨S2x4x8192x128, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1280, .bf16⟩
  | .local _ .vmem, ⟨7, _⟩ => ⟨S1x256, .f32⟩
  | .local _ .vmem, ⟨8, _⟩ => ⟨S128x512, .bf16⟩
  | .local _ .vmem, ⟨9, _⟩ => ⟨S128x256, .f32⟩
  | .local _ .vmem, ⟨10, _⟩ => ⟨S256x512, .bf16⟩
  | .local _ .vmem, ⟨11, _⟩ => ⟨S1x256, .f32⟩
  | .local _ .vmem, ⟨12, _⟩ => ⟨S256x768, .bf16⟩
  | .local _ .vmem, ⟨13, _⟩ => ⟨S1x256, .f32⟩
  | .local _ .vmem, ⟨14, _⟩ => ⟨S1x128, .f32⟩
  | .local _ .vmem, ⟨15, _⟩ => ⟨S128x1024, .bf16⟩
  | .local _ .vmem, ⟨16, _⟩ => ⟨S1x256, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S1x256x256, .bf16⟩
  | .local _ .vmem, ⟨22, _⟩ => ⟨S1x256x256, .bf16⟩
  | .local _ .vmem, ⟨23, _⟩ => ⟨S1x256x256, .f32⟩
  | .local _ .vmem, ⟨24, _⟩ => ⟨S1x256x256, .f32⟩
  | .local _ .vmem, ⟨25, _⟩ => ⟨S1x256x256, .f32⟩
  | .local _ .vmem, ⟨26, _⟩ => ⟨S1x256x256, .f32⟩
  | .local _ .vmem, ⟨27, _⟩ => ⟨S1x4x256x256, .bf16⟩
  | .local _ .vmem, ⟨28, _⟩ => ⟨S1x4x256x256, .bf16⟩
  | .local _ .vmem, ⟨29, _⟩ => ⟨S1x4x256x256, .bf16⟩
  | .local _ .vmem, ⟨30, _⟩ => ⟨S1x4x256x256, .bf16⟩
  | .local _ .vmem, ⟨31, _⟩ => ⟨S1x4x256x128, .bf16⟩
  | .local _ .vmem, ⟨32, _⟩ => ⟨S1x4x256x128, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45_0 : Ref sig .tc := ⟨.hbm, 63, rfl⟩
abbrev main_v45_1 : Ref sig .tc := ⟨.hbm, 64, rfl⟩
abbrev main_v45_2 : Ref sig .tc := ⟨.hbm, 65, rfl⟩
abbrev main_v45_3 : Ref sig .tc := ⟨.hbm, 66, rfl⟩
abbrev main_v45_4 : Ref sig .tc := ⟨.hbm, 67, rfl⟩
abbrev main_v45_5 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x4x256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x4x256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x4x256x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Kernel2Ideal.lean ====
variable {F : FTy → Type} [FloatOps F] [Named F]
def κ : String → Option EReal := fun
  | "inv_qk_dim" => some ((1 / 192 : ℝ) : EReal)
  | _ => none
-- ==== Reference2Ideal.lean ====
abbrev S2x8192x1024 : Shape := ⟨3, ![2, 8192, 1024]⟩
abbrev S2x1x1024 : Shape := ⟨3, ![2, 1, 1024]⟩
abbrev S1024x1216 : Shape := ⟨2, ![1024, 1216]⟩
abbrev S256 : Shape := ⟨1, ![256]⟩
abbrev S4x128x128 : Shape := ⟨3, ![4, 128, 128]⟩
abbrev S4x128 : Shape := ⟨2, ![4, 128]⟩
abbrev S256x512 : Shape := ⟨2, ![256, 512]⟩
abbrev S256x768 : Shape := ⟨2, ![256, 768]⟩
abbrev S128 : Shape := ⟨1, ![128]⟩
abbrev S128x1024 : Shape := ⟨2, ![128, 1024]⟩
abbrev S192 : Shape := ⟨1, ![192]⟩
abbrev S8192x16 : Shape := ⟨2, ![8192, 16]⟩
abbrev S_ : Shape := ⟨0, ![]⟩
abbrev S2x8192 : Shape := ⟨2, ![2, 8192]⟩
abbrev S2x8192x1 : Shape := ⟨3, ![2, 8192, 1]⟩
abbrev S2x8192x1216 : Shape := ⟨3, ![2, 8192, 1216]⟩
abbrev S2x8192x256 : Shape := ⟨3, ![2, 8192, 256]⟩
abbrev S1x1x256 : Shape := ⟨3, ![1, 1, 256]⟩
abbrev S2x64x128x4x64 : Shape := ⟨5, ![2, 64, 128, 4, 64]⟩
abbrev S4x2x64x64x128 : Shape := ⟨5, ![4, 2, 64, 64, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S2x8192x512 : Shape := ⟨3, ![2, 8192, 512]⟩
abbrev S2x8192x768 : Shape := ⟨3, ![2, 8192, 768]⟩
abbrev S2x8192x4x192 : Shape := ⟨4, ![2, 8192, 4, 192]⟩
abbrev S2x8192x4 : Shape := ⟨3, ![2, 8192, 4]⟩
abbrev S2x8192x4x1 : Shape := ⟨4, ![2, 8192, 4, 1]⟩
abbrev S1x1x1x192 : Shape := ⟨4, ![1, 1, 1, 192]⟩
abbrev S2x8192x128 : Shape := ⟨3, ![2, 8192, 128]⟩
abbrev S2x8192x64 : Shape := ⟨3, ![2, 8192, 64]⟩
abbrev S1x1x128 : Shape := ⟨3, ![1, 1, 128]⟩
abbrev S2x8192x4x256 : Shape := ⟨4, ![2, 8192, 4, 256]⟩
abbrev S2x8192x4x128 : Shape := ⟨4, ![2, 8192, 4, 128]⟩
abbrev S2x8192x1x64 : Shape := ⟨4, ![2, 8192, 1, 64]⟩
abbrev S2x8192x4x64 : Shape := ⟨4, ![2, 8192, 4, 64]⟩
abbrev S2x8192x4x32 : Shape := ⟨4, ![2, 8192, 4, 32]⟩
abbrev S8192x1x16 : Shape := ⟨3, ![8192, 1, 16]⟩
abbrev S2x8192x4x16 : Shape := ⟨4, ![2, 8192, 4, 16]⟩
abbrev S1x8192x1x16 : Shape := ⟨4, ![1, 8192, 1, 16]⟩
abbrev S2x8192x1x128 : Shape := ⟨4, ![2, 8192, 1, 128]⟩
abbrev S2x1x8192x256 : Shape := ⟨4, ![2, 1, 8192, 256]⟩
abbrev S2x4x8192x256 : Shape := ⟨4, ![2, 4, 8192, 256]⟩
abbrev S2x4x8192x128 : Shape := ⟨4, ![2, 4, 8192, 128]⟩

abbrev nBuf : Space → Nat
  | .hbm => 335
  | .vmem => 0
  | .smem => 0
  | _ => 0

abbrev hbmTy0_0 (i : Nat) : BufTy := match i % 128 with
  | 0 => ⟨S2x8192x1024, .f32⟩
  | 1 => ⟨S2x1x1024, .f32⟩
  | 2 => ⟨S2x1x1024, .f32⟩
  | 3 => ⟨S1024x1216, .f32⟩
  | 4 => ⟨S256, .f32⟩
  | 5 => ⟨S4x128x128, .f32⟩
  | 6 => ⟨S4x128, .f32⟩
  | 7 => ⟨S256x512, .f32⟩
  | 8 => ⟨S256, .f32⟩
  | 9 => ⟨S256x768, .f32⟩
  | 10 => ⟨S128, .f32⟩
  | 11 => ⟨S128x1024, .f32⟩
  | 12 => ⟨S192, .f32⟩
  | 13 => ⟨S192, .f32⟩
  | 14 => ⟨S8192x16, .f32⟩
  | 15 => ⟨S8192x16, .f32⟩
  | 16 => ⟨S8192x16, .f32⟩
  | 17 => ⟨S8192x16, .f32⟩
  | 18 => ⟨S2x8192x1024, .f32⟩
  | 19 => ⟨S_, .f32⟩
  | 20 => ⟨S2x8192, .f32⟩
  | 21 => ⟨S2x8192x1, .f32⟩
  | 22 => ⟨S_, .f32⟩
  | 23 => ⟨S2x8192x1, .f32⟩
  | 24 => ⟨S2x8192x1, .f32⟩
  | 25 => ⟨S_, .f32⟩
  | 26 => ⟨S2x8192x1, .f32⟩
  | 27 => ⟨S2x8192x1, .f32⟩
  | 28 => ⟨S2x8192x1, .f32⟩
  | 29 => ⟨S2x8192x1024, .f32⟩
  | 30 => ⟨S2x8192x1024, .f32⟩
  | 31 => ⟨S_, .f32⟩
  | 32 => ⟨S2x1x1024, .f32⟩
  | 33 => ⟨S2x1x1024, .f32⟩
  | 34 => ⟨S2x8192x1024, .f32⟩
  | 35 => ⟨S2x8192x1024, .f32⟩
  | 36 => ⟨S2x8192x1024, .f32⟩
  | 37 => ⟨S2x8192x1024, .f32⟩
  | 38 => ⟨S2x8192x1216, .f32⟩
  | 39 => ⟨S2x8192x256, .f32⟩
  | 40 => ⟨S2x8192x256, .f32⟩
  | 41 => ⟨S2x8192x256, .f32⟩
  | 42 => ⟨S2x8192x256, .f32⟩
  | 43 => ⟨S_, .f32⟩
  | 44 => ⟨S2x8192x256, .f32⟩
  | 45 => ⟨S2x8192x256, .f32⟩
  | 46 => ⟨S2x8192x256, .f32⟩
  | 47 => ⟨S_, .f32⟩
  | 48 => ⟨S2x8192x256, .f32⟩
  | 49 => ⟨S2x8192x256, .f32⟩
  | 50 => ⟨S2x8192x256, .f32⟩
  | 51 => ⟨S_, .f32⟩
  | 52 => ⟨S2x8192x256, .f32⟩
  | 53 => ⟨S2x8192x256, .f32⟩
  | 54 => ⟨S_, .f32⟩
  | 55 => ⟨S2x8192x256, .f32⟩
  | 56 => ⟨S2x8192x256, .f32⟩
  | 57 => ⟨S2x8192x256, .f32⟩
  | 58 => ⟨S2x8192x256, .f32⟩
  | 59 => ⟨S2x8192x256, .f32⟩
  | 60 => ⟨S_, .f32⟩
  | 61 => ⟨S2x8192x256, .f32⟩
  | 62 => ⟨S2x8192x256, .f32⟩
  | 63 => ⟨S2x8192x256, .f32⟩
  | 64 => ⟨S_, .f32⟩
  | 65 => ⟨S2x8192x256, .f32⟩
  | 66 => ⟨S2x8192x256, .f32⟩
  | 67 => ⟨S2x8192x256, .f32⟩
  | 68 => ⟨S_, .f32⟩
  | 69 => ⟨S2x8192x256, .f32⟩
  | 70 => ⟨S2x8192x256, .f32⟩
  | 71 => ⟨S_, .f32⟩
  | 72 => ⟨S2x8192x256, .f32⟩
  | 73 => ⟨S2x8192x256, .f32⟩
  | 74 => ⟨S2x8192x256, .f32⟩
  | 75 => ⟨S2x8192x256, .f32⟩
  | 76 => ⟨S_, .f32⟩
  | 77 => ⟨S2x8192, .f32⟩
  | 78 => ⟨S2x8192x1, .f32⟩
  | 79 => ⟨S_, .f32⟩
  | 80 => ⟨S2x8192x1, .f32⟩
  | 81 => ⟨S2x8192x1, .f32⟩
  | 82 => ⟨S_, .f32⟩
  | 83 => ⟨S2x8192x1, .f32⟩
  | 84 => ⟨S2x8192x1, .f32⟩
  | 85 => ⟨S2x8192x1, .f32⟩
  | 86 => ⟨S2x8192x256, .f32⟩
  | 87 => ⟨S2x8192x256, .f32⟩
  | 88 => ⟨S1x1x256, .f32⟩
  | 89 => ⟨S2x8192x256, .f32⟩
  | 90 => ⟨S2x8192x256, .f32⟩
  | 91 => ⟨S2x64x128x4x64, .f32⟩
  | 92 => ⟨S4x2x64x64x128, .f32⟩
  | 93 => ⟨S2x64x128x4x64, .f32⟩
  | 94 => ⟨S128x4, .f32⟩
  | 95 => ⟨S128x4x1, .f32⟩
  | 96 => ⟨S1x1x128x4x1, .f32⟩
  | 97 => ⟨S2x64x128x4x64, .f32⟩
  | 98 => ⟨S2x64x128x4x64, .f32⟩
  | 99 => ⟨S2x8192x256, .f32⟩
  | 100 => ⟨S2x8192x256, .f32⟩
  | 101 => ⟨S2x8192x256, .f32⟩
  | 102 => ⟨S2x8192x512, .f32⟩
  | 103 => ⟨S2x8192x256, .f32⟩
  | 104 => ⟨S2x8192x256, .f32⟩
  | 105 => ⟨S_, .f32⟩
  | 106 => ⟨S2x8192, .f32⟩
  | 107 => ⟨S2x8192x1, .f32⟩
  | 108 => ⟨S_, .f32⟩
  | 109 => ⟨S2x8192x1, .f32⟩
  | 110 => ⟨S2x8192x1, .f32⟩
  | 111 => ⟨S_, .f32⟩
  | 112 => ⟨S2x8192x1, .f32⟩
  | 113 => ⟨S2x8192x1, .f32⟩
  | 114 => ⟨S2x8192x1, .f32⟩
  | 115 => ⟨S2x8192x256, .f32⟩
  | 116 => ⟨S2x8192x256, .f32⟩
  | 117 => ⟨S1x1x256, .f32⟩
  | 118 => ⟨S2x8192x256, .f32⟩
  | 119 => ⟨S2x8192x256, .f32⟩
  | 120 => ⟨S2x8192x768, .f32⟩
  | 121 => ⟨S2x8192x4x192, .f32⟩
  | 122 => ⟨S2x8192x4x192, .f32⟩
  | 123 => ⟨S_, .f32⟩
  | 124 => ⟨S2x8192x4, .f32⟩
  | 125 => ⟨S2x8192x4x1, .f32⟩
  | 126 => ⟨S_, .f32⟩
  | 127 => ⟨S2x8192x4x1, .f32⟩
  | _ => ⟨S2x8192x1024, .f32⟩

abbrev hbmTy0_1 (i : Nat) : BufTy := match i % 128 with
  | 0 => ⟨S2x8192x4x1, .f32⟩
  | 1 => ⟨S_, .f32⟩
  | 2 => ⟨S2x8192x4x1, .f32⟩
  | 3 => ⟨S2x8192x4x1, .f32⟩
  | 4 => ⟨S2x8192x4x1, .f32⟩
  | 5 => ⟨S2x8192x4x192, .f32⟩
  | 6 => ⟨S2x8192x4x192, .f32⟩
  | 7 => ⟨S1x1x1x192, .f32⟩
  | 8 => ⟨S2x8192x4x192, .f32⟩
  | 9 => ⟨S2x8192x4x192, .f32⟩
  | 10 => ⟨S2x8192x128, .f32⟩
  | 11 => ⟨S2x8192x64, .f32⟩
  | 12 => ⟨S2x8192x128, .f32⟩
  | 13 => ⟨S_, .f32⟩
  | 14 => ⟨S2x8192, .f32⟩
  | 15 => ⟨S2x8192x1, .f32⟩
  | 16 => ⟨S_, .f32⟩
  | 17 => ⟨S2x8192x1, .f32⟩
  | 18 => ⟨S2x8192x1, .f32⟩
  | 19 => ⟨S_, .f32⟩
  | 20 => ⟨S2x8192x1, .f32⟩
  | 21 => ⟨S2x8192x1, .f32⟩
  | 22 => ⟨S2x8192x1, .f32⟩
  | 23 => ⟨S2x8192x128, .f32⟩
  | 24 => ⟨S2x8192x128, .f32⟩
  | 25 => ⟨S1x1x128, .f32⟩
  | 26 => ⟨S2x8192x128, .f32⟩
  | 27 => ⟨S2x8192x128, .f32⟩
  | 28 => ⟨S2x8192x1024, .f32⟩
  | 29 => ⟨S2x8192x4x256, .f32⟩
  | 30 => ⟨S2x8192x4x128, .f32⟩
  | 31 => ⟨S2x8192x4x128, .f32⟩
  | 32 => ⟨S2x8192x1x64, .f32⟩
  | 33 => ⟨S2x8192x4x64, .f32⟩
  | 34 => ⟨S2x8192x4x192, .f32⟩
  | 35 => ⟨S2x8192x4x192, .f32⟩
  | 36 => ⟨S_, .f32⟩
  | 37 => ⟨S2x8192x4, .f32⟩
  | 38 => ⟨S2x8192x4x1, .f32⟩
  | 39 => ⟨S_, .f32⟩
  | 40 => ⟨S2x8192x4x1, .f32⟩
  | 41 => ⟨S2x8192x4x1, .f32⟩
  | 42 => ⟨S_, .f32⟩
  | 43 => ⟨S2x8192x4x1, .f32⟩
  | 44 => ⟨S2x8192x4x1, .f32⟩
  | 45 => ⟨S2x8192x4x1, .f32⟩
  | 46 => ⟨S2x8192x4x192, .f32⟩
  | 47 => ⟨S2x8192x4x192, .f32⟩
  | 48 => ⟨S1x1x1x192, .f32⟩
  | 49 => ⟨S2x8192x4x192, .f32⟩
  | 50 => ⟨S2x8192x4x192, .f32⟩
  | 51 => ⟨S2x8192x4x64, .f32⟩
  | 52 => ⟨S2x8192x4x32, .f32⟩
  | 53 => ⟨S8192x1x16, .f32⟩
  | 54 => ⟨S8192x1x16, .f32⟩
  | 55 => ⟨S2x8192x4x16, .f32⟩
  | 56 => ⟨S2x8192x4x16, .f32⟩
  | 57 => ⟨S1x8192x1x16, .f32⟩
  | 58 => ⟨S2x8192x4x16, .f32⟩
  | 59 => ⟨S2x8192x4x16, .f32⟩
  | 60 => ⟨S1x8192x1x16, .f32⟩
  | 61 => ⟨S2x8192x4x16, .f32⟩
  | 62 => ⟨S2x8192x4x16, .f32⟩
  | 63 => ⟨S2x8192x4x16, .f32⟩
  | 64 => ⟨S1x8192x1x16, .f32⟩
  | 65 => ⟨S2x8192x4x16, .f32⟩
  | 66 => ⟨S2x8192x4x16, .f32⟩
  | 67 => ⟨S1x8192x1x16, .f32⟩
  | 68 => ⟨S2x8192x4x16, .f32⟩
  | 69 => ⟨S2x8192x4x16, .f32⟩
  | 70 => ⟨S2x8192x4x16, .f32⟩
  | 71 => ⟨S2x8192x4x32, .f32⟩
  | 72 => ⟨S2x8192x4x32, .f32⟩
  | 73 => ⟨S8192x1x16, .f32⟩
  | 74 => ⟨S8192x1x16, .f32⟩
  | 75 => ⟨S2x8192x4x16, .f32⟩
  | 76 => ⟨S2x8192x4x16, .f32⟩
  | 77 => ⟨S1x8192x1x16, .f32⟩
  | 78 => ⟨S2x8192x4x16, .f32⟩
  | 79 => ⟨S2x8192x4x16, .f32⟩
  | 80 => ⟨S1x8192x1x16, .f32⟩
  | 81 => ⟨S2x8192x4x16, .f32⟩
  | 82 => ⟨S2x8192x4x16, .f32⟩
  | 83 => ⟨S2x8192x4x16, .f32⟩
  | 84 => ⟨S1x8192x1x16, .f32⟩
  | 85 => ⟨S2x8192x4x16, .f32⟩
  | 86 => ⟨S2x8192x4x16, .f32⟩
  | 87 => ⟨S1x8192x1x16, .f32⟩
  | 88 => ⟨S2x8192x4x16, .f32⟩
  | 89 => ⟨S2x8192x4x16, .f32⟩
  | 90 => ⟨S2x8192x4x16, .f32⟩
  | 91 => ⟨S2x8192x4x32, .f32⟩
  | 92 => ⟨S2x8192x4x64, .f32⟩
  | 93 => ⟨S2x8192x4x64, .f32⟩
  | 94 => ⟨S2x8192x4x32, .f32⟩
  | 95 => ⟨S8192x1x16, .f32⟩
  | 96 => ⟨S8192x1x16, .f32⟩
  | 97 => ⟨S2x8192x4x16, .f32⟩
  | 98 => ⟨S2x8192x4x16, .f32⟩
  | 99 => ⟨S1x8192x1x16, .f32⟩
  | 100 => ⟨S2x8192x4x16, .f32⟩
  | 101 => ⟨S2x8192x4x16, .f32⟩
  | 102 => ⟨S1x8192x1x16, .f32⟩
  | 103 => ⟨S2x8192x4x16, .f32⟩
  | 104 => ⟨S2x8192x4x16, .f32⟩
  | 105 => ⟨S2x8192x4x16, .f32⟩
  | 106 => ⟨S1x8192x1x16, .f32⟩
  | 107 => ⟨S2x8192x4x16, .f32⟩
  | 108 => ⟨S2x8192x4x16, .f32⟩
  | 109 => ⟨S1x8192x1x16, .f32⟩
  | 110 => ⟨S2x8192x4x16, .f32⟩
  | 111 => ⟨S2x8192x4x16, .f32⟩
  | 112 => ⟨S2x8192x4x16, .f32⟩
  | 113 => ⟨S2x8192x4x32, .f32⟩
  | 114 => ⟨S2x8192x4x32, .f32⟩
  | 115 => ⟨S8192x1x16, .f32⟩
  | 116 => ⟨S8192x1x16, .f32⟩
  | 117 => ⟨S2x8192x4x16, .f32⟩
  | 118 => ⟨S2x8192x4x16, .f32⟩
  | 119 => ⟨S1x8192x1x16, .f32⟩
  | 120 => ⟨S2x8192x4x16, .f32⟩
  | 121 => ⟨S2x8192x4x16, .f32⟩
  | 122 => ⟨S1x8192x1x16, .f32⟩
  | 123 => ⟨S2x8192x4x16, .f32⟩
  | 124 => ⟨S2x8192x4x16, .f32⟩
  | 125 => ⟨S2x8192x4x16, .f32⟩
  | 126 => ⟨S1x8192x1x16, .f32⟩
  | 127 => ⟨S2x8192x4x16, .f32⟩
  | _ => ⟨S2x8192x1024, .f32⟩

abbrev hbmTy0_2 (i : Nat) : BufTy := match i % 128 with
  | 0 => ⟨S2x8192x4x16, .f32⟩
  | 1 => ⟨S1x8192x1x16, .f32⟩
  | 2 => ⟨S2x8192x4x16, .f32⟩
  | 3 => ⟨S2x8192x4x16, .f32⟩
  | 4 => ⟨S2x8192x4x16, .f32⟩
  | 5 => ⟨S2x8192x4x32, .f32⟩
  | 6 => ⟨S2x8192x4x64, .f32⟩
  | 7 => ⟨S2x8192x1x64, .f32⟩
  | 8 => ⟨S2x8192x64, .f32⟩
  | 9 => ⟨S_, .f32⟩
  | 10 => ⟨S2x8192x64, .f32⟩
  | 11 => ⟨S2x8192x1x64, .f32⟩
  | 12 => ⟨S2x8192x64, .f32⟩
  | 13 => ⟨S2x8192x1x64, .f32⟩
  | 14 => ⟨S2x8192x64, .f32⟩
  | 15 => ⟨S2x8192x1x64, .f32⟩
  | 16 => ⟨S2x8192x64, .f32⟩
  | 17 => ⟨S2x8192x1x64, .f32⟩
  | 18 => ⟨S2x8192x64, .f32⟩
  | 19 => ⟨S2x8192x1x64, .f32⟩
  | 20 => ⟨S2x8192x64, .f32⟩
  | 21 => ⟨S2x8192x1x64, .f32⟩
  | 22 => ⟨S2x8192x64, .f32⟩
  | 23 => ⟨S2x8192x1x64, .f32⟩
  | 24 => ⟨S2x8192x64, .f32⟩
  | 25 => ⟨S2x8192x1x64, .f32⟩
  | 26 => ⟨S2x8192x64, .f32⟩
  | 27 => ⟨S2x8192x1x64, .f32⟩
  | 28 => ⟨S2x8192x64, .f32⟩
  | 29 => ⟨S2x8192x1x64, .f32⟩
  | 30 => ⟨S2x8192x64, .f32⟩
  | 31 => ⟨S2x8192x1x64, .f32⟩
  | 32 => ⟨S2x8192x64, .f32⟩
  | 33 => ⟨S2x8192x1x64, .f32⟩
  | 34 => ⟨S2x8192x64, .f32⟩
  | 35 => ⟨S2x8192x1x128, .f32⟩
  | 36 => ⟨S2x8192x128, .f32⟩
  | 37 => ⟨S2x8192x256, .f32⟩
  | 38 => ⟨S2x8192x1x128, .f32⟩
  | 39 => ⟨S2x8192x128, .f32⟩
  | 40 => ⟨S2x8192x256, .f32⟩
  | 41 => ⟨S2x8192x1x128, .f32⟩
  | 42 => ⟨S2x8192x128, .f32⟩
  | 43 => ⟨S2x8192x256, .f32⟩
  | 44 => ⟨S2x8192x1x128, .f32⟩
  | 45 => ⟨S2x8192x128, .f32⟩
  | 46 => ⟨S2x8192x256, .f32⟩
  | 47 => ⟨S2x1x8192x256, .f32⟩
  | 48 => ⟨S2x1x8192x256, .f32⟩
  | 49 => ⟨S2x1x8192x256, .f32⟩
  | 50 => ⟨S2x1x8192x256, .f32⟩
  | 51 => ⟨S2x4x8192x256, .f32⟩
  | 52 => ⟨S2x8192x1x128, .f32⟩
  | 53 => ⟨S2x8192x128, .f32⟩
  | 54 => ⟨S2x8192x256, .f32⟩
  | 55 => ⟨S2x8192x1x128, .f32⟩
  | 56 => ⟨S2x8192x128, .f32⟩
  | 57 => ⟨S2x8192x256, .f32⟩
  | 58 => ⟨S2x8192x1x128, .f32⟩
  | 59 => ⟨S2x8192x128, .f32⟩
  | 60 => ⟨S2x8192x256, .f32⟩
  | 61 => ⟨S2x8192x1x128, .f32⟩
  | 62 => ⟨S2x8192x128, .f32⟩
  | 63 => ⟨S2x8192x256, .f32⟩
  | 64 => ⟨S2x1x8192x256, .f32⟩
  | 65 => ⟨S2x1x8192x256, .f32⟩
  | 66 => ⟨S2x1x8192x256, .f32⟩
  | 67 => ⟨S2x1x8192x256, .f32⟩
  | 68 => ⟨S2x4x8192x256, .f32⟩
  | 69 => ⟨S_, .f32⟩
  | 70 => ⟨S2x4x8192x256, .f32⟩
  | 71 => ⟨S2x4x8192x256, .f32⟩
  | 72 => ⟨S2x8192x256, .bf16⟩
  | 73 => ⟨S2x8192x256, .f32⟩
  | 74 => ⟨S2x8192x256, .f32⟩
  | 75 => ⟨S2x4x8192x256, .bf16⟩
  | 76 => ⟨S2x4x8192x256, .bf16⟩
  | 77 => ⟨S2x4x8192x128, .f32⟩
  | 78 => ⟨S2x4x8192x128, .bf16⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_cst_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_8 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_9 : Ref sig .tc := ⟨.hbm, 68, rfl⟩
abbrev main_v40 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_11 : Ref sig .tc := ⟨.hbm, 76, rfl⟩
abbrev main_v46 : Ref sig .tc := ⟨.hbm, 77, rfl⟩
abbrev main_v47 : Ref sig .tc := ⟨.hbm, 78, rfl⟩
abbrev main_cst_12 : Ref sig .tc := ⟨.hbm, 79, rfl⟩
abbrev main_v48 : Ref sig .tc := ⟨.hbm, 80, rfl⟩
abbrev main_v49 : Ref sig .tc := ⟨.hbm, 81, rfl⟩
abbrev main_cst_13 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_14 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_v75 : Ref sig .tc := ⟨.hbm, 110, rfl⟩
abbrev main_cst_16 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_cst_18 : Ref sig .tc := ⟨.hbm, 126, rfl⟩
abbrev main_v89 : Ref sig .tc := ⟨.hbm, 127, rfl⟩
abbrev main_v90 : Ref sig .tc := ⟨.hbm, 128, rfl⟩
abbrev main_cst_19 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_20 : Ref sig .tc := ⟨.hbm, 141, rfl⟩
abbrev main_v102 : Ref sig .tc := ⟨.hbm, 142, rfl⟩
abbrev main_v103 : Ref sig .tc := ⟨.hbm, 143, rfl⟩
abbrev main_cst_21 : Ref sig .tc := ⟨.hbm, 144, rfl⟩
abbrev main_v104 : Ref sig .tc := ⟨.hbm, 145, rfl⟩
abbrev main_v105 : Ref sig .tc := ⟨.hbm, 146, rfl⟩
abbrev main_cst_22 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_23 : Ref sig .tc := ⟨.hbm, 164, rfl⟩
abbrev main_v122 : Ref sig .tc := ⟨.hbm, 165, rfl⟩
abbrev main_v123 : Ref sig .tc := ⟨.hbm, 166, rfl⟩
abbrev main_cst_24 : Ref sig .tc := ⟨.hbm, 167, rfl⟩
abbrev main_v124 : Ref sig .tc := ⟨.hbm, 168, rfl⟩
abbrev main_v125 : Ref sig .tc := ⟨.hbm, 169, rfl⟩
abbrev main_cst_25 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_cst_26 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_cst_27 : Ref sig .tc := ⟨.hbm, 325, rfl⟩
abbrev main_v279 : Ref sig .tc := ⟨.hbm, 326, rfl⟩
abbrev main_v280 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_v284 : Ref sig .tc := ⟨.hbm, 331, rfl⟩
abbrev main_v285 : Ref sig .tc := ⟨.hbm, 332, rfl⟩
abbrev main_v286 : Ref sig .tc := ⟨.hbm, 333, rfl⟩
abbrev main_v287 : Ref sig .tc := ⟨.hbm, 334, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192x256 : Shape := ⟨3, ![2, 8192, 256]⟩
abbrev S2x8192x512 : Shape := ⟨3, ![2, 8192, 512]⟩
abbrev S1024x1024 : Shape := ⟨2, ![1024, 1024]⟩
abbrev S2x1x1024 : Shape := ⟨3, ![2, 1, 1024]⟩
abbrev S1024x16 : Shape := ⟨2, ![1024, 16]⟩
abbrev S16x1024 : Shape := ⟨2, ![16, 1024]⟩
abbrev S2x65536x128 : Shape := ⟨3, ![2, 65536, 128]⟩
abbrev S2x16x8192 : Shape := ⟨3, ![2, 16, 8192]⟩
abbrev S1x512x1024 : Shape := ⟨3, ![1, 512, 1024]⟩
abbrev S1x512x256 : Shape := ⟨3, ![1, 512, 256]⟩
abbrev S1x512x512 : Shape := ⟨3, ![1, 512, 512]⟩
abbrev S1x1x1024 : Shape := ⟨3, ![1, 1, 1024]⟩
abbrev S1x4096x128 : Shape := ⟨3, ![1, 4096, 128]⟩
abbrev S1x16x512 : Shape := ⟨3, ![1, 16, 512]⟩
abbrev S512x256 : Shape := ⟨2, ![512, 256]⟩
abbrev S256x1024 : Shape := ⟨2, ![256, 1024]⟩
abbrev S512x1024 : Shape := ⟨2, ![512, 1024]⟩
abbrev S512x512 : Shape := ⟨2, ![512, 512]⟩
abbrev S1x1024 : Shape := ⟨2, ![1, 1024]⟩
abbrev S512 : Shape := ⟨1, ![512]⟩
abbrev S512x1 : Shape := ⟨2, ![512, 1]⟩
abbrev S8x128 : Shape := ⟨2, ![8, 128]⟩
abbrev S1x8x128 : Shape := ⟨3, ![1, 8, 128]⟩
abbrev S16x512 : Shape := ⟨2, ![16, 512]⟩
abbrev S1x512 : Shape := ⟨2, ![1, 512]⟩

abbrev nBuf : Space → Nat
  | .hbm => 18
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .bf16⟩
  | .hbm, ⟨2, _⟩ => ⟨S2x8192x256, .f32⟩
  | .hbm, ⟨3, _⟩ => ⟨S2x8192x512, .bf16⟩
  | .hbm, ⟨4, _⟩ => ⟨S1024x1024, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S1024x16, .f32⟩
  | .hbm, ⟨9, _⟩ => ⟨S16x1024, .f32⟩
  | .hbm, ⟨10, _⟩ => ⟨S16x1024, .bf16⟩
  | .hbm, ⟨11, _⟩ => ⟨S16x1024, .f32⟩
  | .hbm, ⟨12, _⟩ => ⟨S16x1024, .f32⟩
  | .hbm, ⟨13, _⟩ => ⟨S16x1024, .bf16⟩
  | .hbm, ⟨14, _⟩ => ⟨S1024x1024, .bf16⟩
  | .hbm, ⟨15, _⟩ => ⟨S2x8192x1024, .f32⟩
  | .hbm, ⟨16, _⟩ => ⟨S2x65536x128, .f32⟩
  | .hbm, ⟨17, _⟩ => ⟨S2x16x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .bf16⟩
  | .local _ .vmem, ⟨3, _⟩ => ⟨S1x512x256, .bf16⟩
  | .local _ .vmem, ⟨4, _⟩ => ⟨S1x512x256, .f32⟩
  | .local _ .vmem, ⟨5, _⟩ => ⟨S1x512x256, .f32⟩
  | .local _ .vmem, ⟨6, _⟩ => ⟨S1x512x512, .bf16⟩
  | .local _ .vmem, ⟨7, _⟩ => ⟨S1x512x512, .bf16⟩
  | .local _ .vmem, ⟨8, _⟩ => ⟨S1024x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S16x1024, .bf16⟩
  | .local _ .vmem, ⟨16, _⟩ => ⟨S16x1024, .bf16⟩
  | .local _ .vmem, ⟨17, _⟩ => ⟨S1x512x1024, .f32⟩
  | .local _ .vmem, ⟨18, _⟩ => ⟨S1x512x1024, .f32⟩
  | .local _ .vmem, ⟨19, _⟩ => ⟨S1x4096x128, .f32⟩
  | .local _ .vmem, ⟨20, _⟩ => ⟨S1x4096x128, .f32⟩
  | .local _ .vmem, ⟨21, _⟩ => ⟨S1x16x512, .f32⟩
  | .local _ .vmem, ⟨22, _⟩ => ⟨S1x16x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S16x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S2x8192x1024 : Shape := ⟨3, ![2, 8192, 1024]⟩
abbrev S2x8192x256 : Shape := ⟨3, ![2, 8192, 256]⟩
abbrev S2x8192x512 : Shape := ⟨3, ![2, 8192, 512]⟩
abbrev S1024x1024 : Shape := ⟨2, ![1024, 1024]⟩
abbrev S2x1x1024 : Shape := ⟨3, ![2, 1, 1024]⟩
abbrev S1024x16 : Shape := ⟨2, ![1024, 16]⟩
abbrev S_ : Shape := ⟨0, ![]⟩
abbrev S2x8192 : Shape := ⟨2, ![2, 8192]⟩
abbrev S2x8192x1 : Shape := ⟨3, ![2, 8192, 1]⟩
abbrev S2x8192x16 : Shape := ⟨3, ![2, 8192, 16]⟩
abbrev S2x65536x128 : Shape := ⟨3, ![2, 65536, 128]⟩
abbrev S2x16x8192 : Shape := ⟨3, ![2, 16, 8192]⟩

abbrev nBuf : Space → Nat
  | .hbm => 53
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .bf16⟩
  | .hbm, ⟨2, _⟩ => ⟨S2x8192x256, .f32⟩
  | .hbm, ⟨3, _⟩ => ⟨S2x8192x512, .bf16⟩
  | .hbm, ⟨4, _⟩ => ⟨S1024x1024, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S1024x16, .f32⟩
  | .hbm, ⟨9, _⟩ => ⟨S2x8192x256, .f32⟩
  | .hbm, ⟨10, _⟩ => ⟨S2x8192x512, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x1, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x16, .f32⟩
  | .hbm, ⟨37, _⟩ => ⟨S_, .f32⟩
  | .hbm, ⟨38, _⟩ => ⟨S2x8192, .f32⟩
  | .hbm, ⟨39, _⟩ => ⟨S_, .f32⟩
  | .hbm, ⟨40, _⟩ => ⟨S2x8192, .f32⟩
  | .hbm, ⟨41, _⟩ => ⟨S2x8192, .f32⟩
  | .hbm, ⟨42, _⟩ => ⟨S2x8192x1, .f32⟩
  | .hbm, ⟨43, _⟩ => ⟨S2x8192x16, .f32⟩
  | .hbm, ⟨44, _⟩ => ⟨S2x8192x16, .f32⟩
  | .hbm, ⟨45, _⟩ => ⟨S2x8192x16, .f32⟩
  | .hbm, ⟨46, _⟩ => ⟨S_, .f32⟩
  | .hbm, ⟨47, _⟩ => ⟨S2x8192, .f32⟩
  | .hbm, ⟨48, _⟩ => ⟨S2x8192x1, .f32⟩
  | .hbm, ⟨49, _⟩ => ⟨S2x8192x16, .f32⟩
  | .hbm, ⟨50, _⟩ => ⟨S2x8192x16, .f32⟩
  | .hbm, ⟨51, _⟩ => ⟨S2x65536x128, .f32⟩
  | .hbm, ⟨52, _⟩ => ⟨S2x16x8192, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Proof.Attn.Blocks.lean ====
/- The attention call's block function: what one grid point computes from its five input blocks, as a fold of one
   online-softmax step over the key blocks (the context block first, then the sixteen latent ones). -/
module

public import proofs.«01_k».proof.Proof.Gen.KernelIdeal.Skeleton
public import Idealize.ShloMosaic.Lib.Pipeline.Value

@[expose] public section

noncomputable section

namespace Cert.KernelIdeal.Attn

open Cert.KernelIdeal Cert.KernelIdeal.Gen Idealize.ShloMosaic Idealize.SL.Sem

variable {F : FTy → Type} [FloatOps F]

/-- The running maximum, the running sum of the weights, and the running weighted sum of the values, one per query. -/
structure St (F : FTy → Type) where
  m : FVec F S1x512 .f32
  l : FVec F S1x512 .f32
  acc : FVec F S128x512 .f32

/-- The `j`-th block of 512 latent keys of the resident key array. -/
def keyBlk (x : Vec F S1x1x8192x256 .bf16) (j : ℕ) : Vec F S1x1x512x256 .bf16 := fun y =>
  x (Fin.cons (y 0) (Fin.cons (y 1) (Fin.cons (⟨(512 * j + (y 2).val) % 8192, Nat.mod_lt _ (by decide)⟩ : Fin 8192) (Fin.cons (y 3) finZeroElim))))

/-- The `j`-th block of latent values, transposed. -/
def valBlk (x : Vec F S1x1x16x128x512 .bf16) (j : ℕ) : Vec F S1x1x1x128x512 .bf16 := fun y =>
  x (Fin.cons (y 0) (Fin.cons (y 1) (Fin.cons (⟨j % 16, Nat.mod_lt _ (by decide)⟩ : Fin 16) (Fin.cons (y 3) (Fin.cons (y 4) finZeroElim)))))

/-- The scores of a block of 512 keys against the 512 queries. -/
def scores (q : FVec F S256x512 .bf16) (kb : Vec F S1x1x512x256 .bf16) : FVec F S512x512 .f32 := k0_pay1 q kb

/-- One online-softmax step over a block of 512 keys: scores `s`, transposed values `vt`. -/
def step (s : FVec F S512x512 .f32) (vt : Vec F S1x1x1x128x512 .bf16) (st : St F) : St F :=
  ⟨k0_pay2 st.m s, k0_pay5 st.m st.l s, k0_pay6 st.m s vt st.acc⟩

/-- The step over the context block, from the initial state. -/
def first (x0 : Vec F S1x1x256x512 .bf16) (x1 : Vec F S1x1x256x256 .bf16) (x2 : Vec F S1x1x128x256 .bf16) : St F :=
  ⟨k0_pay19 x0 x1, k0_pay21 x0 x1, k0_pay22 x0 x1 x2⟩

/-- The state after the context block and the first `n` latent blocks. -/
def fold (q : FVec F S256x512 .bf16) (x3 : Vec F S1x1x8192x256 .bf16) (x4 : Vec F S1x1x16x128x512 .bf16) (st₀ : St F) : ℕ → St F
  | 0 => st₀
  | n + 1 => step (scores q (keyBlk x3 n)) (valBlk x4 n) (fold q x3 x4 st₀ n)

/-- The state and the scores ahead of it after `k` trips of the loop, each of which takes two blocks: the scores of one
    block are computed while the block before it is consumed. -/
def pairs (q : FVec F S256x512 .bf16) (x3 : Vec F S1x1x8192x256 .bf16) (x4 : Vec F S1x1x16x128x512 .bf16) (st₀ : St F) (s₀ : FVec F S512x512 .f32) :
    ℕ → St F × FVec F S512x512 .f32
  | 0 => (st₀, s₀)
  | k + 1 => (step (scores q (keyBlk x3 (2 * k + 1))) (valBlk x4 (2 * k + 1)) (step (pairs q x3 x4 st₀ s₀ k).2 (valBlk x4 (2 * k)) (pairs q x3 x4 st₀ s₀ k).1),
      scores q (keyBlk x3 (2 * k + 1 + 1)))

/-- After `k` trips that start with the scores of the first block, `2 k` blocks are consumed and the scores of the next are ahead. -/
theorem pairs_eq (q : FVec F S256x512 .bf16) (x3 : Vec F S1x1x8192x256 .bf16) (x4 : Vec F S1x1x16x128x512 .bf16) (st₀ : St F) :
    ∀ k, pairs q x3 x4 st₀ (scores q (keyBlk x3 0)) k = (fold q x3 x4 st₀ (2 * k), scores q (keyBlk x3 (2 * k)))
  | 0 => rfl
  | k + 1 => by
    rw [pairs, pairs_eq q x3 x4 st₀ k]
    rfl

/-- The quotient of the weighted sum by the sum of the weights, transposed to a block of the output. -/
def quot (st : St F) : FVec F S1x512x128 .bf16 :=
  shapeCast S1x512x128 (truncf .bf16 (transpose S512x128 [1, 0]
    (divf st.acc (broadcastTo S128x512 st.l broadcasts_S1x512_S128x512)) transposes_S128x512_p1_0_S512x128) bitsLt_bf16_f32) shapeCasts_S512x128_S1x512x128

/-- What a grid point leaves in the output's block, from its five input blocks. -/
def blockOut (x0 : Vec F S1x1x256x512 .bf16) (x1 : Vec F S1x1x256x256 .bf16) (x2 : Vec F S1x1x128x256 .bf16)
    (x3 : Vec F S1x1x8192x256 .bf16) (x4 : Vec F S1x1x16x128x512 .bf16) : Vec F S1x512x128 .bf16 :=
  quot (fold (k0_pay15 x0) x3 x4 (first x0 x1 x2) 16)

/-- The two blocks consumed after the loop, and the quotient, are two steps and `quot`. -/
theorem last_two (q : FVec F S256x512 .bf16) (kb : Vec F S1x1x512x256 .bf16) (s : FVec F S512x512 .f32) (v v' : Vec F S1x1x1x128x512 .bf16) (st : St F) :
    k0_pay37 (k0_pay26 st.m s) (k0_pay29 st.m st.l s) (k0_pay25 q kb)
        (k0_pay36 (k0_pay26 st.m s) (k0_pay25 q kb) v' (k0_pay32 (k0_pay30 st.m s v) (k0_pay31 st.m s st.acc)))
      = quot (step (scores q kb) v' (step s v st)) := by
  have h32 : k0_pay32 (k0_pay30 st.m s v) (k0_pay31 st.m s st.acc) = k0_pay6 st.m s v st.acc := shapeCast_self _ _
  have h36 : k0_pay36 (k0_pay26 st.m s) (k0_pay25 q kb) v' (k0_pay6 st.m s v st.acc) = k0_pay6 (k0_pay2 st.m s) (scores q kb) v' (k0_pay6 st.m s v st.acc) :=
    shapeCast_self _ _
  rw [h32, h36]
  rfl

/-- The first scores and the state at the loop's entry. -/
theorem pairs_start (x0 : Vec F S1x1x256x512 .bf16) (x1 : Vec F S1x1x256x256 .bf16) (x2 : Vec F S1x1x128x256 .bf16) (x3 : Vec F S1x1x8192x256 .bf16)
    (x4 : Vec F S1x1x16x128x512 .bf16) (k : ℕ) :
    pairs (k0_pay15 x0) x3 x4 ⟨k0_pay19 x0 x1, k0_pay21 x0 x1, k0_pay23 (k0_pay22 x0 x1 x2)⟩ (k0_pay17 x0 (keyBlk x3 0)) k
      = (fold (k0_pay15 x0) x3 x4 (first x0 x1 x2) (2 * k), scores (k0_pay15 x0) (keyBlk x3 (2 * k))) := by
  rw [show k0_pay23 (k0_pay22 x0 x1 x2) = k0_pay22 x0 x1 x2 from shapeCast_self _ _]
  exact pairs_eq (k0_pay15 x0) x3 x4 (first x0 x1 x2) k

end Cert.KernelIdeal.Attn

end
-- ==== Proof.Attn.Trip.lean ====
/- One trip of the attention call's loop over the latent key blocks, and the loop's invariant. -/
module

public import proofs.«01_k».proof.Proof.Attn.Blocks
public import proofs.«01_k».proof.Proof.Gen.KernelIdeal.Loops
public import Idealize.ShloMosaic.Lib.VecWindow
public import Idealize.ShloMosaic.Lib.Pipeline.Value
public import Idealize.ShloMosaic.Lib.Tactic.Stretches

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ) (i : grid0.Coords)
  (arg3 : Memref sig .tc .vmem S1x1x256x512 .bf16) (harg3 : arg3.IsWhole) (arg4 : Memref sig .tc .vmem S1x1x256x256 .bf16) (harg4 : arg4.IsWhole) (arg5 : Memref sig .tc .vmem S1x1x128x256 .bf16) (harg5 : arg5.IsWhole) (arg6 : Memref sig .tc .vmem S1x1x8192x256 .bf16) (harg6 : arg6.IsWhole) (arg7 : Memref sig .tc .vmem S1x1x16x128x512 .bf16) (harg7 : arg7.IsWhole)
  (arg8 : Memref sig .tc .vmem S1x512x128 .bf16) (harg8 : arg8.IsWhole) (arg9 : Memref sig .tc .vmem S128x512 .f32) (harg9 : arg9.IsWhole) (arg10 : Memref sig .tc .vmem S512x512 .f32) (harg10 : arg10.IsWhole) (arg11 : Memref sig .tc .vmem S512x512 .f32) (harg11 : arg11.IsWhole)
  (v1 : FVec F S256x512 .bf16) (v19 v28 : FVec F S1x512 .f32) (v30 : FVec F S128x512 .f32)

section Reads

variable {sp : Space}

/-- A load of 512 rows of the key array at row `512 j` reads its `j`-th block. -/
theorem read_key (v : View sig .tc sp S1x1x8192x256 .bf16) (X : v.ty.Contents (Elt F)) {x3 : Vec F S1x1x8192x256 .bf16} (hx : v.read (Elt F) X = x3) (j : ℕ)
    {off : Fin 4 → ℕ} (h : off = ![0, 0, 512 * j, 0]) (inb : ∀ a, off a + S1x1x512x256.size a ≤ S1x1x8192x256.size a) :
    v.readAt (Elt F) (Rect.unit (s := S1x1x8192x256) off S1x1x512x256.size inb).toLoadRect X = keyBlk x3 j := by
  subst h; subst hx
  funext y
  refine congrArg (v.read (Elt F) X) (funext fun a => Fin.ext ?_)
  have h2 : 512 * j + 512 ≤ 8192 := inb 2
  have hy : (y 2).val < 512 := (y 2).isLt
  match a with
  | ⟨0, _⟩ => show 0 + 1 * (y 0).val = (y 0).val; omega
  | ⟨1, _⟩ => show 0 + 1 * (y 1).val = (y 1).val; omega
  | ⟨2, _⟩ => show 512 * j + 1 * (y 2).val = (512 * j + (y 2).val) % 8192; rw [Nat.mod_eq_of_lt (by omega)]; omega
  | ⟨3, _⟩ => show 0 + 1 * (y 3).val = (y 3).val; omega

/-- A load of one block of the value array at block `j` reads its `j`-th block. -/
theorem read_val (v : View sig .tc sp S1x1x16x128x512 .bf16) (X : v.ty.Contents (Elt F)) {x4 : Vec F S1x1x16x128x512 .bf16} (hx : v.read (Elt F) X = x4) (j : ℕ)
    {off : Fin 5 → ℕ} (h : off = ![0, 0, j, 0, 0]) (inb : ∀ a, off a + S1x1x1x128x512.size a ≤ S1x1x16x128x512.size a) :
    v.readAt (Elt F) (Rect.unit (s := S1x1x16x128x512) off S1x1x1x128x512.size inb).toLoadRect X = valBlk x4 j := by
  subst h; subst hx
  funext y
  refine congrArg (v.read (Elt F) X) (funext fun a => Fin.ext ?_)
  have h2 : j + 1 ≤ 16 := inb 2
  have hy : (y 2).val < 1 := (y 2).isLt
  match a with
  | ⟨0, _⟩ => show 0 + 1 * (y 0).val = (y 0).val; omega
  | ⟨1, _⟩ => show 0 + 1 * (y 1).val = (y 1).val; omega
  | ⟨2, _⟩ => show j + 1 * (y 2).val = j % 16; rw [Nat.mod_eq_of_lt (by omega)]; omega
  | ⟨3, _⟩ => show 0 + 1 * (y 3).val = (y 3).val; omega
  | ⟨4, _⟩ => show 0 + 1 * (y 4).val = (y 4).val; omega

end Reads

theorem off1_0 (k : Fin k0_t1_loop.trips) : k0_off1 k 1#32 = ![0, 0, 512 * (2 * k.val + 1), 0] := by
  have h := k0_off1_eq k (0 : Fin 2)
  refine h.trans ?_
  show ![0, 0, 1024 * k.val + 512 * 0 + 512, 0] = _
  rw [show 1024 * k.val + 512 * 0 + 512 = 512 * (2 * k.val + 1) by omega]

theorem off1_1 (k : Fin k0_t1_loop.trips) : k0_off1 k 2#32 = ![0, 0, 512 * (2 * k.val + 1 + 1), 0] := by
  have h := k0_off1_eq k (1 : Fin 2)
  refine h.trans ?_
  show ![0, 0, 1024 * k.val + 512 * 1 + 512, 0] = _
  rw [show 1024 * k.val + 512 * 1 + 512 = 512 * (2 * k.val + 1 + 1) by omega]

/-- Before trip `k`: the key and value arrays as they are; the accumulator and the first score buffer at what `k` trips leave, from what they held at the
    loop's entry; the second score buffer at anything; the carried maximum and sum likewise. -/
abbrev inv (X6 : BufTy.Contents (Elt F) arg6.view.ty) (X7 : BufTy.Contents (Elt F) arg7.view.ty) (G9 : BufTy.Contents (Elt F) arg9.view.ty)
    (G10 : BufTy.Contents (Elt F) arg10.view.ty) (init : FVec F S1x512 .f32 × FVec F S1x512 .f32) (k : ℕ) (acc : FVec F S1x512 .f32 × FVec F S1x512 .f32) : sProp 𝕄 :=
  iprop((arg6.view.loc (c : Thread nD τ) ↦[arg6.view.set]{fullShare} X6) ∗ (arg7.view.loc (c : Thread nD τ) ↦[arg7.view.set]{fullShare} X7)
    ∗ (∃ g, (arg9.view.loc (c : Thread nD τ) ↦[arg9.view.set]{fullShare} g)
        ∗ ⌜arg9.view.read (Elt F) g = (pairs v1 (arg6.view.read (Elt F) X6) (arg7.view.read (Elt F) X7) ⟨init.1, init.2, arg9.view.read (Elt F) G9⟩ (arg10.view.read (Elt F) G10) k).1.acc⌝)
    ∗ (∃ g, (arg10.view.loc (c : Thread nD τ) ↦[arg10.view.set]{fullShare} g)
        ∗ ⌜arg10.view.read (Elt F) g = (pairs v1 (arg6.view.read (Elt F) X6) (arg7.view.read (Elt F) X7) ⟨init.1, init.2, arg9.view.read (Elt F) G9⟩ (arg10.view.read (Elt F) G10) k).2⌝)
    ∗ (∃ g, arg11.view.loc (c : Thread nD τ) ↦[arg11.view.set]{fullShare} g)
    ∗ ⌜acc = ((pairs v1 (arg6.view.read (Elt F) X6) (arg7.view.read (Elt F) X7) ⟨init.1, init.2, arg9.view.read (Elt F) G9⟩ (arg10.view.read (Elt F) G10) k).1.m,
        (pairs v1 (arg6.view.read (Elt F) X6) (arg7.view.read (Elt F) X7) ⟨init.1, init.2, arg9.view.read (Elt F) G9⟩ (arg10.view.read (Elt F) G10) k).1.l)⌝)

/-- One trip consumes the block whose scores are ahead, then the next one, and leaves the scores of the block after it ahead. -/
theorem trip (k : Fin k0_t1_loop.trips) (X6 : BufTy.Contents (Elt F) arg6.view.ty) (X7 : BufTy.Contents (Elt F) arg7.view.ty) (f9 : BufTy.Contents (Elt F) arg9.view.ty)
    (f10 : BufTy.Contents (Elt F) arg10.view.ty) (f11 : BufTy.Contents (Elt F) arg11.view.ty) (x3 : Vec F S1x1x8192x256 .bf16) (x4 : Vec F S1x1x16x128x512 .bf16)
    (st : St F) (s : FVec F S512x512 .f32) (h6 : arg6.view.read (Elt F) X6 = x3) (h7 : arg7.view.read (Elt F) X7 = x4)
    (h9 : arg9.view.read (Elt F) f9 = st.acc) (h10 : arg10.view.read (Elt F) f10 = s) :
    iprop((arg6.view.loc (c : Thread nD τ) ↦[arg6.view.set]{fullShare} X6) ∗ (arg7.view.loc (c : Thread nD τ) ↦[arg7.view.set]{fullShare} X7)
      ∗ (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11) : sProp 𝕄)
    ⊢ wp frame (wpE (defs₀ (F := F)) 𝒱 (c : Thread nD τ) bd) E
        (k0_t1_body (F := F) i arg3 harg3 arg4 harg4 arg5 harg5 arg6 harg6 arg7 harg7 arg8 harg8 arg9 harg9 arg10 harg10 arg11 harg11 v1 v19 v28 v30 k (st.m, st.l))
        (fun yld => iprop(⌜yld = ((step (scores v1 (keyBlk x3 (2 * k.val + 1))) (valBlk x4 (2 * k.val + 1)) (step s (valBlk x4 (2 * k.val)) st)).m,
              (step (scores v1 (keyBlk x3 (2 * k.val + 1))) (valBlk x4 (2 * k.val + 1)) (step s (valBlk x4 (2 * k.val)) st)).l)⌝
          ∗ (arg6.view.loc (c : Thread nD τ) ↦[arg6.view.set]{fullShare} X6) ∗ (arg7.view.loc (c : Thread nD τ) ↦[arg7.view.set]{fullShare} X7)
          ∗ (∃ g, (arg9.view.loc (c : Thread nD τ) ↦[arg9.view.set]{fullShare} g)
              ∗ ⌜arg9.view.read (Elt F) g = (step (scores v1 (keyBlk x3 (2 * k.val + 1))) (valBlk x4 (2 * k.val + 1)) (step s (valBlk x4 (2 * k.val)) st)).acc⌝)
          ∗ (∃ g, (arg10.view.loc (c : Thread nD τ) ↦[arg10.view.set]{fullShare} g) ∗ ⌜arg10.view.read (Elt F) g = scores v1 (keyBlk x3 (2 * k.val + 1 + 1))⌝)
          ∗ (∃ g, arg11.view.loc (c : Thread nD τ) ↦[arg11.view.set]{fullShare} g))) := by
  have hk : k.val < 7 := Nat.lt_of_lt_of_le k.isLt k0_t1_abs.2.1
  unfold k0_t1_body
  iintro ⟨H6, H7, H9, H10, H11⟩
  sl_exec
  sl_step
  isplitr
  · ipureintro
    sl_open_run
    simp -proj only [View.readAt_full, View.readCov_full, View.read_writes_full, View.readAt_writes_full, h9, h10, read_key arg6.view X6 h6 _ (off1_0 k), read_key arg6.view X6 h6 _ (off1_1 k), read_val arg7.view X7 h7 _ (k0_off2_eq k), read_val arg7.view X7 h7 _ (k0_off3_eq k)]
    rfl
  isplitl [H6]; · iexact H6
  isplitl [H7]; · iexact H7
  isplitl [H9]
  · iexists _; isplitl [H9]; · iexact H9
    ipureintro
    sl_open_run
    simp -proj only [View.readAt_full, View.readCov_full, View.read_writes_full, View.readAt_writes_full, h9, h10, read_key arg6.view X6 h6 _ (off1_0 k), read_key arg6.view X6 h6 _ (off1_1 k), read_val arg7.view X7 h7 _ (k0_off2_eq k), read_val arg7.view X7 h7 _ (k0_off3_eq k)]
    refine (shapeCast_self _ _).trans ?_
    rw [show ∀ x : FVec F S128x512 .f32, k0_pay7 x = x from fun x => shapeCast_self x _]
    rfl
  isplitl [H10]
  · iexists _; isplitl [H10]; · iexact H10
    ipureintro
    sl_open_run
    simp -proj only [View.readAt_full, View.readCov_full, View.read_writes_full, View.readAt_writes_full, h9, h10, read_key arg6.view X6 h6 _ (off1_0 k), read_key arg6.view X6 h6 _ (off1_1 k), read_val arg7.view X7 h7 _ (k0_off2_eq k), read_val arg7.view X7 h7 _ (k0_off3_eq k)]
    rfl
  iexists _; iexact H11

/-- The loop's invariant, kept by every trip. -/
@[sl_loop, instance_reducible] def loopInv (X6 : BufTy.Contents (Elt F) arg6.view.ty) (X7 : BufTy.Contents (Elt F) arg7.view.ty) (G9 : BufTy.Contents (Elt F) arg9.view.ty)
    (G10 : BufTy.Contents (Elt F) arg10.view.ty) (init : FVec F S1x512 .f32 × FVec F S1x512 .f32) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 v1 v19 v28 v30 init where
  inv := inv (F := F) c arg6 arg7 arg9 arg10 arg11 v1 X6 X7 G9 G10 init
  step k acc := by
    iintro ⟨H6, H7, ⟨%f9, H9, %h9⟩, ⟨%f10, H10, %h10⟩, ⟨%f11, H11⟩, %hacc⟩
    subst hacc
    iapply (wp_wand_r Idealize.ShloMosaic.frame (wpE (defs₀ (F := F)) 𝒱 (c : Thread nD τ) bd) E)
    isplitl [H6 H7 H9 H10 H11]
    · iapply (trip (F := F) 𝒱 c bd E i arg3 harg3 arg4 harg4 arg5 harg5 arg6 harg6 arg7 harg7 arg8 harg8 arg9 harg9 arg10 harg10 arg11 harg11 v1 v19 v28 v30 k X6 X7 f9 f10 f11 _ _ _ _ rfl rfl h9 h10)
      isplitl [H6]; · iexact H6
      isplitl [H7]; · iexact H7
      isplitl [H9]; · iexact H9
      isplitl [H10]; · iexact H10
      iexact H11
    · iintro %yld ⟨%hy, H6, H7, ⟨%g9, H9, %h9'⟩, ⟨%g10, H10, %h10'⟩, ⟨%g11, H11⟩⟩
      isplitl [H6]; · iexact H6
      isplitl [H7]; · iexact H7
      isplitl [H9]
      · iexists _; isplitl [H9]; · iexact H9
        ipureintro; exact h9'
      isplitl [H10]
      · iexists _; isplitl [H10]; · iexact H10
        ipureintro; exact h10'
      isplitl [H11]; · iexists _; iexact H11
      ipureintro; exact hy

end Cert.KernelIdeal.Attn

end
-- ==== Proof.Attn.Body.lean ====
/- The attention call's whole body at one grid point: from the five input blocks it leaves `blockOut` of them in the output's block. -/
module

public import proofs.«01_k».proof.Proof.Attn.Trip

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Owning a memref's elements at some contents is owning them at what these contents read. -/
theorem owned (c : Dev nD) {sp : Space} {s : Shape} {e : EltTy} (v : Memref sig .tc sp s e) (f : BufTy.Contents (Elt F) v.view.ty) :
    (v.view.loc (c : Thread nD τ) ↦[v.view.set]{fullShare} f : sProp 𝕄)
      ⊢ iprop(∃ x g, ⌜v.view.read (Elt F) g = x⌝ ∗ (v.view.loc (c : Thread nD τ) ↦[v.view.set]{fullShare} g)) := by
  iintro H
  iexists (v.view.read (Elt F) f)
  iexists f
  isplitr
  · ipureintro; rfl
  iexact H

variable (𝒱 : Variants) (c : Dev nD) (bd : Option 𝒱.V) (E : Set ℕ) (i : grid0.Coords)
  (arg3 : Memref sig .tc .vmem S1x1x256x512 .bf16) (harg3 : arg3.IsWhole) (arg4 : Memref sig .tc .vmem S1x1x256x256 .bf16) (harg4 : arg4.IsWhole) (arg5 : Memref sig .tc .vmem S1x1x128x256 .bf16) (harg5 : arg5.IsWhole) (arg6 : Memref sig .tc .vmem S1x1x8192x256 .bf16) (harg6 : arg6.IsWhole) (arg7 : Memref sig .tc .vmem S1x1x16x128x512 .bf16) (harg7 : arg7.IsWhole)
  (arg8 : Memref sig .tc .vmem S1x512x128 .bf16) (harg8 : arg8.IsWhole) (arg9 : Memref sig .tc .vmem S128x512 .f32) (harg9 : arg9.IsWhole) (arg10 : Memref sig .tc .vmem S512x512 .f32) (harg10 : arg10.IsWhole) (arg11 : Memref sig .tc .vmem S512x512 .f32) (harg11 : arg11.IsWhole)

set_option maxHeartbeats 4000000 in
set_option maxRecDepth 8192 in
/-- One grid point: the inputs' blocks stay as they are, the output's block is left at `blockOut` of them. -/
theorem body (x0 : Vec F S1x1x256x512 .bf16) (x1 : Vec F S1x1x256x256 .bf16) (x2 : Vec F S1x1x128x256 .bf16) (x3 : Vec F S1x1x8192x256 .bf16)
    (x4 : Vec F S1x1x16x128x512 .bf16) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
      ∗ (∃ x, owns (c : Thread nD τ) arg8 fullShare x) ∗ (∃ x, owns (c : Thread nD τ) arg9 fullShare x) ∗ (∃ x, owns (c : Thread nD τ) arg10 fullShare x) ∗ (∃ x, owns (c : Thread nD τ) arg11 fullShare x) : sProp 𝕄)
    ⊢ wp frame (wpE (defs₀ (F := F)) 𝒱 (c : Thread nD τ) bd) E
        (cc0_attention (F := F) i arg3 harg3 arg4 harg4 arg5 harg5 arg6 harg6 arg7 harg7 arg8 harg8 arg9 harg9 arg10 harg10 arg11 harg11)
        (fun _ => iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
          ∗ owns (c : Thread nD τ) arg8 fullShare (blockOut x0 x1 x2 x3 x4) ∗ (∃ x, owns (c : Thread nD τ) arg9 fullShare x) ∗ (∃ x, owns (c : Thread nD τ) arg10 fullShare x) ∗ (∃ x, owns (c : Thread nD τ) arg11 fullShare x))) := by
  simp only [cc0_attention_eq_skeleton]
  unfold cc0_attention_skel
  simp only [k0_part3_eq_skeleton, k0_part4_eq_skeleton, k0_part5_eq_skeleton]
  unfold owns
  iintro ⟨⟨%f3, %h3, H3⟩, ⟨%f4, %h4, H4⟩, ⟨%f5, %h5, H5⟩, ⟨%f6, %h6, H6⟩, ⟨%f7, %h7, H7⟩, ⟨%x8, %f8, %h8, H8⟩, ⟨%x9, %f9, %h9, H9⟩, ⟨%x10, %f10, %h10, H10⟩, ⟨%x11, %f11, %h11, H11⟩⟩
  subst h3; subst h4; subst h5; subst h6; subst h7
  sl_exec
  sl_step
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _
    isplitr
    rotate_left
    · iexact H8
    · ipureintro
      revert hL3 hL5
      sl_open_run
      rw [show Scf.trips k0_t1_loop.lb k0_t1_loop.ub k0_t1_loop.st = 7 by decide +kernel]
      simp -proj only [View.readAt_full, View.readCov_full, View.read_writes_full, View.readAt_writes_full, read_key arg6.view f6 rfl 0 rfl,
        read_key arg6.view f6 rfl 15 rfl, read_val arg7.view f7 rfl 14 rfl, read_val arg7.view f7 rfl 15 rfl]
      intro hL3 hL5
      rw [pairs_start] at hL3 hL5
      rw [pairs_start, hL3, hL5, last_two]
      rfl
  isplitl [H9]
  · iapply (owned (F := F) c arg9 _) $$ [H9]; iexact H9
  isplitl [H10]
  · iapply (owned (F := F) c arg10 _) $$ [H10]; iexact H10
  iapply (owned (F := F) c arg11 _) $$ [H11]; iexact H11

end Cert.KernelIdeal.Attn

end
-- ==== Proof.Attn.Launch.lean ====
/- The attention call's launch: the pipeline's proof data over the block function, the body obligation at every grid
   point, the run of `main`, and the frame. -/
module

public import proofs.«01_k».proof.Proof.Attn.Body
public import proofs.«01_k».proof.Proof.Gen.KernelIdeal.Frame
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging memref at point `t`. -/
abbrev stg0 (t : Fin cfg0.N) : Memref sig .tc .vmem S1x1x256x512 .bf16 := win0_0.stage (cfg0.slots t 0)
/-- Window 1's staging memref at point `t`. -/
abbrev stg1 (t : Fin cfg0.N) : Memref sig .tc .vmem S1x1x256x256 .bf16 := win0_1.stage (cfg0.slots t 1)
/-- Window 2's staging memref at point `t`. -/
abbrev stg2 (t : Fin cfg0.N) : Memref sig .tc .vmem S1x1x128x256 .bf16 := win0_2.stage (cfg0.slots t 2)
/-- Window 3's staging memref at point `t`. -/
abbrev stg3 (t : Fin cfg0.N) : Memref sig .tc .vmem S1x1x8192x256 .bf16 := win0_3.stage (cfg0.slots t 3)
/-- Window 4's staging memref at point `t`. -/
abbrev stg4 (t : Fin cfg0.N) : Memref sig .tc .vmem S1x1x16x128x512 .bf16 := win0_4.stage (cfg0.slots t 4)
/-- Window 5's staging memref at point `t`. -/
abbrev stg5 (t : Fin cfg0.N) : Memref sig .tc .vmem S1x512x128 .bf16 := win0_5.stage (cfg0.slots t 5)
/-- The three scratch buffers: the accumulator and the two score buffers. -/
abbrev scr0 : Memref sig .tc .vmem S128x512 .f32 := Memref.whole cc0_scratch0
abbrev scr1 : Memref sig .tc .vmem S512x512 .f32 := Memref.whole cc0_scratch1
abbrev scr2 : Memref sig .tc .vmem S512x512 .f32 := Memref.whole cc0_scratch2

/-- The pipeline's own invariant: the three scratch buffers at some contents, and the generator register. -/
theorem rest_eq (c : Dev nD) :
    (Pipeline.ΦA spec0 c : sProp 𝕄) = iprop(((∃ x, owns (c : Thread nD τ) scr0 fullShare x) ∗ (∃ x, owns (c : Thread nD τ) scr1 fullShare x) ∗ (∃ x, owns (c : Thread nD τ) scr2 fullShare x))
      ∗ (∃ r, prngReg c r)) := by
  unfold Pipeline.ΦA
  rw [scopedRest0_eq]
  simp only [scr0, scr1, scr2, owns_whole]
  rfl

/-- What point `t` leaves in the output's block. -/
def outsAt (c : Dev nD) (t : Fin cfg0.N) : Vec F S1x512x128 .bf16 :=
  blockOut (iblk m c 0 t) (iblk m c 1 t) (iblk m c 2 t) (iblk m c 3 t) (iblk m c 4 t)

/-- The proof data: the arrays as the region finds them, every input's block left in place, the output's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t
  Φ _ := Pipeline.ΦA spec0 c
  q _ := fullShare
  owed _ := 0

theorem A_eq (c : Dev nD) (w : Fin cfg0.W) : (dats m 0 c).A w = V m c (Pipeline.arrRef spec0 w) := by dsimp only [dats]

/-! What the body leaves and what it finds, window by window. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outsAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t))

set_option maxHeartbeats 800000 in
/-- The body at any point, by `body` at the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, rest_eq]
  unfold outsAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (wp_wand_r Idealize.ShloMosaic.frame (wpE (defs₀ (F := F)) Variants.none (c : Thread nD τ) none) Set.univ)
  isplitl [H0 H1 H2 H3 H4 H5 HS0 HS1 HS2]
  · iapply (body (F := F) Variants.none c none Set.univ (grid0.coords t) _ _ _ _ _ _ _ _ _ _ _ _ _ _ _ _ _ _ (iblk m c 0 t) (iblk m c 1 t) (iblk m c 2 t) (iblk m c 3 t) (iblk m c 4 t))
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iexact HS2
  · iintro %yld ⟨H0, H1, H2, H3, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution of `main` ends with the pipeline's arrays at what the proof data gives, every other unscoped buffer as
    the region found it, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Attn

end
-- ==== Proof.Attn.Softmax.lean ====
/- Softmax over the extended reals, one row at a time: real scores, extended-real values. The weighted sum of the
   values under the weights `2 ^ (score - m)` for any real `m`, how it moves with `m`, and its quotient by the sum of the
   weights, which is the softmax in base `e` of the scores times `log 2`. -/
module

public import Idealize.ShloMosaic.PureOps.Ideal
public import Mathlib.Algebra.BigOperators.Intervals

@[expose] public section

noncomputable section

namespace Cert.Softmax

open Idealize.ShloMosaic
open scoped BigOperators

/-- The extended exponential in base two of a difference of reals. -/
theorem exp2_sub (a b : ℝ) : Ideal.exp2 ((a : EReal) - (b : EReal)) = (((2 : ℝ) ^ (a - b) : ℝ) : EReal) := by
  rw [← EReal.coe_sub, Ideal.exp2_coe]; rfl

/-- The extended exponential of a difference of reals. -/
theorem exp_sub (a b : ℝ) : Ideal.exp ((a : EReal) - (b : EReal)) = ((Real.exp (a - b) : ℝ) : EReal) := by
  rw [← EReal.coe_sub, Ideal.exp_coe]

/-- A sum of reals, read in the extended reals. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A nonnegative real distributes over a sum of two extended reals. -/
theorem coe_mul_add {c : ℝ} (hc : 0 ≤ c) (x y : EReal) : (c : EReal) * (x + y) = c * x + c * y :=
  EReal.left_distrib_of_nonneg_of_ne_top (EReal.coe_nonneg.mpr hc) (EReal.coe_ne_top c) x y

/-- A nonnegative real distributes over a finite sum of extended reals. -/
theorem coe_mul_sum {ι : Type*} {c : ℝ} (hc : 0 ≤ c) (t : Finset ι) (f : ι → EReal) :
    (c : EReal) * ∑ i ∈ t, f i = ∑ i ∈ t, (c : EReal) * f i := by
  classical
  induction t using Finset.induction_on with
  | empty => simp
  | insert a t ha ih => rw [Finset.sum_insert ha, Finset.sum_insert ha, coe_mul_add hc, ih]

/-- The weighted sum of the first `n` values, each under the weight `2 ^ (score - m)`. -/
def wsum (s : ℕ → ℝ) (v : ℕ → EReal) (m : ℝ) (n : ℕ) : EReal := ∑ j ∈ Finset.range n, v j * (((2 : ℝ) ^ (s j - m) : ℝ) : EReal)

/-- Rescaling by `2 ^ (m - m')` moves the reference point of the weights from `m` to `m'`. -/
theorem rescale (s : ℕ → ℝ) (v : ℕ → EReal) (m m' : ℝ) (n : ℕ) :
    (((2 : ℝ) ^ (m - m') : ℝ) : EReal) * wsum s v m n = wsum s v m' n := by
  unfold wsum
  rw [coe_mul_sum (by positivity)]
  refine Finset.sum_congr rfl fun j _ => ?_
  rw [mul_left_comm, ← EReal.coe_mul, ← Real.rpow_add two_pos, show m - m' + (s j - m) = s j - m' by ring]

/-- The weighted sum of the first `n + k` values is that of the first `n` and of the next `k`. -/
theorem wsum_add (s : ℕ → ℝ) (v : ℕ → EReal) (m : ℝ) (n k : ℕ) :
    wsum s v m (n + k) = wsum s v m n + ∑ y : Fin k, v (n + y.val) * (((2 : ℝ) ^ (s (n + y.val) - m) : ℝ) : EReal) := by
  unfold wsum
  rw [Finset.sum_range_add, Finset.sum_range (fun x => v (n + x) * (((2 : ℝ) ^ (s (n + x) - m) : ℝ) : EReal))]

/-- With every value one, the weighted sum is the real sum of the weights. -/
theorem wsum_one (s : ℕ → ℝ) (m : ℝ) (n : ℕ) : wsum s (fun _ => 1) m n = ((∑ j ∈ Finset.range n, (2 : ℝ) ^ (s j - m) : ℝ) : EReal) := by
  unfold wsum; rw [coe_sum]; exact Finset.sum_congr rfl fun j _ => one_mul _

/-- The greatest of finitely many reals and `⊥` is not `⊤`. -/
theorem fold_max_lt_top {ι : Type*} (t : Finset ι) (f : ι → ℝ) (b : EReal) (hb : b < ⊤) :
    t.fold max b (fun i => (f i : EReal)) < ⊤ :=
  (Finset.fold_max_lt ⊤).mpr ⟨hb, fun _ _ => EReal.coe_lt_top _⟩

/-- The greater of a real and the greatest of finitely many reals is a real. -/
theorem max_fold_real {ι : Type*} (t : Finset ι) (f : ι → ℝ) (a : ℝ) :
    ∃ r : ℝ, max (a : EReal) (t.fold max ⊥ (fun i => (f i : EReal))) = (r : EReal) := by
  refine ⟨_, (EReal.coe_toReal ?_ ?_).symm⟩
  · exact (max_lt (EReal.coe_lt_top a) (fold_max_lt_top t f ⊥ bot_lt_top)).ne
  · exact (lt_of_lt_of_le (EReal.bot_lt_coe a) (le_max_left _ _)).ne'

/-- The greatest of finitely many reals, at least one, is a real. -/
theorem fold_real {ι : Type*} (t : Finset ι) (ht : t.Nonempty) (f : ι → ℝ) :
    ∃ r : ℝ, t.fold max ⊥ (fun i => (f i : EReal)) = (r : EReal) := by
  obtain ⟨i, hi⟩ := ht
  refine ⟨_, (EReal.coe_toReal (fold_max_lt_top t f ⊥ bot_lt_top).ne ?_).symm⟩
  exact ((Finset.lt_fold_max ⊥).mpr (.inr ⟨i, hi, EReal.bot_lt_coe _⟩)).ne'

/-- The quotient of the weighted sum by the sum of the weights, for any reference point, is the sum of the values under
    the softmax weights of the scores times `log 2`, computed with any reference point of its own. -/
theorem quotient (s : ℕ → ℝ) (v : ℕ → EReal) (m M : ℝ) {n : ℕ} (hn : 0 < n) :
    Ideal.div (wsum s v m n) (wsum s (fun _ => 1) m n)
      = ∑ j : Fin n, v j.val * Ideal.div ((Real.exp (s j.val * Real.log 2 - M) : ℝ) : EReal)
          (∑ i : Fin n, ((Real.exp (s i.val * Real.log 2 - M) : ℝ) : EReal)) := by
  have hex : ∀ j, Real.exp (s j * Real.log 2 - M) = (2 : ℝ) ^ (s j - m) * Real.exp (m * Real.log 2 - M) := fun j => by
    rw [Real.rpow_def_of_pos two_pos, ← Real.exp_add]; ring_nf
  set A : ℝ := ∑ j ∈ Finset.range n, (2 : ℝ) ^ (s j - m) with hA
  have hA0 : 0 < A := Finset.sum_pos (fun j _ => by positivity) ⟨0, Finset.mem_range.mpr hn⟩
  have hE : (∑ i : Fin n, ((Real.exp (s i.val * Real.log 2 - M) : ℝ) : EReal)) = ((A * Real.exp (m * Real.log 2 - M) : ℝ) : EReal) := by
    rw [← coe_sum, Fin.sum_univ_eq_sum_range (fun i => Real.exp (s i * Real.log 2 - M)) n, hA, Finset.sum_mul]
    simp only [hex]
  have hc := Real.exp_pos (m * Real.log 2 - M)
  have hne : A * Real.exp (m * Real.log 2 - M) ≠ 0 := (mul_pos hA0 hc).ne'
  rw [wsum_one, hE, ← hA]
  unfold Ideal.div
  simp only [if_neg (EReal.coe_eq_zero.not.mpr hA0.ne'), if_neg (EReal.coe_eq_zero.not.mpr hne), ← EReal.coe_inv]
  rw [mul_comm]
  unfold wsum
  rw [coe_mul_sum (inv_nonneg.mpr hA0.le), ← Fin.sum_univ_eq_sum_range (fun j => ((A⁻¹ : ℝ) : EReal) * (v j * (((2 : ℝ) ^ (s j - m) : ℝ) : EReal))) n]
  refine Finset.sum_congr rfl fun j _ => ?_
  rw [mul_left_comm, ← EReal.coe_mul, ← EReal.coe_mul, hex]
  congr 2
  field_simp

end Cert.Softmax

end
-- ==== Proof.Attn.Pointwise.lean ====
/- The block operations of the attention call at one index, over the extended reals. -/
module

public import proofs.«01_k».proof.Proof.Attn.Blocks
public import proofs.«01_k».proof.Proof.Attn.Softmax
public import Idealize.ShloMosaic.Lib.Pointwise
public import Idealize.ShloMosaic.Lib.IdealHost

@[expose] public section

noncomputable section

namespace Cert.KernelIdeal.Attn

open Cert.KernelIdeal Cert.KernelIdeal.Gen Idealize.ShloMosaic
open scoped BigOperators

/-- The pattern of minus infinity is the least extended real. -/
theorem bits_bot : Ideal.ofBits .f32 0xFF800000#32 = ⊥ := by simp [Ideal.ofBits, Ideal.ieee]

/-- The running maximum's first value is a real number. -/
theorem bits_start : ∃ r : ℝ, Ideal.ofBits .f32 0xF149F2CA#32 = (r : EReal) := by
  refine ⟨_, (EReal.coe_toReal ?_ ?_).symm⟩ <;> simp [Ideal.ofBits, Ideal.ieee, -EReal.coe_mul]

/-- The scores of a block of latent keys at a key and a query. -/
theorem scores_apply (q : FVec Ideal S256x512 .bf16) (kb : Vec Ideal S1x1x512x256 .bf16) (y x : Fin 512) :
    scores q kb (ix2 y x) = ∑ c : Fin 256, kb (ix4 0 0 y c) * q (ix2 c x) := by
  pointwise [scores, k0_pay1, dot_S512x256_S256x512_S512x512_1_0_0_1_n_n]

/-- The running maximum after a block of latent keys. -/
theorem pay2_apply (a : FVec Ideal S1x512 .f32) (s : FVec Ideal S512x512 .f32) (x : Fin 512) :
    k0_pay2 a s (ix2 0 x) = max (a (ix2 0 x)) ((Finset.univ : Finset (Fin 512)).fold max ⊥ fun y => s (ix2 y x)) := by
  pointwise [k0_pay2]
  rw [bits_bot]

/-- The factor that rescales the old sums. -/
theorem pay3_apply (a : FVec Ideal S1x512 .f32) (s : FVec Ideal S512x512 .f32) (x : Fin 512) :
    k0_pay3 a s (ix2 0 x) = Ideal.exp2 (a (ix2 0 x) - k0_pay2 a s (ix2 0 x)) := by
  pointwise [k0_pay3]
  rfl

/-- A block's weights. -/
theorem pay4_apply (a : FVec Ideal S1x512 .f32) (s : FVec Ideal S512x512 .f32) (y x : Fin 512) :
    k0_pay4 a s (ix2 y x) = Ideal.exp2 (s (ix2 y x) - k0_pay2 a s (ix2 0 x)) := by
  pointwise [k0_pay4]
  rfl

/-- The running sum of the weights after a block. -/
theorem pay5_apply (a l : FVec Ideal S1x512 .f32) (s : FVec Ideal S512x512 .f32) (x : Fin 512) :
    k0_pay5 a l s (ix2 0 x) = k0_pay3 a s (ix2 0 x) * l (ix2 0 x) + ∑ y : Fin 512, k0_pay4 a s (ix2 y x) := by
  pointwise [k0_pay5]

/-- The running weighted sum of the values after a block. -/
theorem pay6_apply (a : FVec Ideal S1x512 .f32) (s : FVec Ideal S512x512 .f32) (vt : Vec Ideal S1x1x1x128x512 .bf16) (acc : FVec Ideal S128x512 .f32)
    (d : Fin 128) (x : Fin 512) :
    k0_pay6 a s vt acc (ix2 d x) = k0_pay3 a s (ix2 0 x) * acc (ix2 d x) + ∑ y : Fin 512, vt (ix5 0 0 0 d y) * k0_pay4 a s (ix2 y x) := by
  pointwise [k0_pay6, dot_S128x512_S512x512_S128x512_1_0_0_1_n_n]

/-- The queries of the block, as the products take them. -/
theorem pay15_apply (x0 : Vec Ideal S1x1x256x512 .bf16) (c : Fin 256) (x : Fin 512) : k0_pay15 x0 (ix2 c x) = x0 (ix4 0 0 c x) := by
  pointwise [k0_pay15]

/-- The scores of the context keys. -/
theorem pay18_apply (x0 : Vec Ideal S1x1x256x512 .bf16) (x1 : Vec Ideal S1x1x256x256 .bf16) (y : Fin 256) (x : Fin 512) :
    k0_pay18 x0 x1 (ix2 y x) = ∑ c : Fin 256, x1 (ix4 0 0 y c) * x0 (ix4 0 0 c x) := by
  pointwise [k0_pay18, k0_pay15, dot_S256x256_S256x512_S256x512_1_0_0_1_n_n]

/-- The running maximum after the context keys. -/
theorem pay19_apply (x0 : Vec Ideal S1x1x256x512 .bf16) (x1 : Vec Ideal S1x1x256x256 .bf16) (x : Fin 512) :
    k0_pay19 x0 x1 (ix2 0 x) = max (Ideal.ofBits .f32 0xF149F2CA#32) ((Finset.univ : Finset (Fin 256)).fold max ⊥ fun y => k0_pay18 x0 x1 (ix2 y x)) := by
  pointwise [k0_pay19, k0_pay16]
  rw [bits_bot]

/-- The weights of the context keys. -/
theorem pay20_apply (x0 : Vec Ideal S1x1x256x512 .bf16) (x1 : Vec Ideal S1x1x256x256 .bf16) (y : Fin 256) (x : Fin 512) :
    k0_pay20 x0 x1 (ix2 y x) = Ideal.exp2 (k0_pay18 x0 x1 (ix2 y x) - k0_pay19 x0 x1 (ix2 0 x)) := by
  pointwise [k0_pay20]
  rfl

/-- The sum of the context weights. -/
theorem pay21_apply (x0 : Vec Ideal S1x1x256x512 .bf16) (x1 : Vec Ideal S1x1x256x256 .bf16) (x : Fin 512) :
    k0_pay21 x0 x1 (ix2 0 x) = ∑ y : Fin 256, k0_pay20 x0 x1 (ix2 y x) := by
  pointwise [k0_pay21]
  rw [mul_zero, zero_add]

/-- The weighted sum of the context values. -/
theorem pay22_apply (x0 : Vec Ideal S1x1x256x512 .bf16) (x1 : Vec Ideal S1x1x256x256 .bf16) (x2 : Vec Ideal S1x1x128x256 .bf16) (d : Fin 128) (x : Fin 512) :
    k0_pay22 x0 x1 x2 (ix2 d x) = ∑ y : Fin 256, x2 (ix4 0 0 d y) * k0_pay20 x0 x1 (ix2 y x) := by
  pointwise [k0_pay22, dot_S128x256_S256x512_S128x512_1_0_0_1_n_n]

/-- The quotient at a query and a value column. -/
theorem quot_apply (st : St Ideal) (x : Fin 512) (d : Fin 128) :
    quot st (ix3 0 x d) = Ideal.div (st.acc (ix2 d x)) (st.l (ix2 0 x)) := by
  pointwise [quot]

end Cert.KernelIdeal.Attn

end
-- ==== Proof.Attn.Row.lean ====
/- What a grid point of the attention call leaves at one query and one value column, over the extended reals: with real
   scores, the weighted sum of all values divided by the sum of all weights, for some real reference point. -/
module

public import proofs.«01_k».proof.Proof.Attn.Pointwise

@[expose] public section

noncomputable section

namespace Cert.KernelIdeal.Attn

open Cert.KernelIdeal Cert.KernelIdeal.Gen Idealize.ShloMosaic Cert.Softmax
open scoped BigOperators

/-- The state holds, at query `x` and value column `d`, the sums over the first `n` keys. -/
def Holds (s : ℕ → ℝ) (v : ℕ → EReal) (x : Fin 512) (d : Fin 128) (n : ℕ) (st : St Ideal) : Prop :=
  ∃ m : ℝ, st.m (ix2 0 x) = (m : EReal) ∧ st.l (ix2 0 x) = wsum s (fun _ => 1) m n ∧ st.acc (ix2 d x) = wsum s v m n

/-- After the context keys the state holds the sums over them. -/
theorem holds_first (s : ℕ → ℝ) (v : ℕ → EReal) (x : Fin 512) (d : Fin 128) (x0 : Vec Ideal S1x1x256x512 .bf16) (x1 : Vec Ideal S1x1x256x256 .bf16)
    (x2 : Vec Ideal S1x1x128x256 .bf16) (hs : ∀ y : Fin 256, ∑ c : Fin 256, x1 (ix4 0 0 y c) * x0 (ix4 0 0 c x) = (s y.val : EReal))
    (hv : ∀ y : Fin 256, x2 (ix4 0 0 d y) = v y.val) : Holds s v x d 256 (first x0 x1 x2) := by
  obtain ⟨a, ha⟩ := bits_start
  obtain ⟨m, hm⟩ := max_fold_real (Finset.univ : Finset (Fin 256)) (fun y => s y.val) a
  have h18 : ∀ y : Fin 256, k0_pay18 x0 x1 (ix2 y x) = (s y.val : EReal) := fun y => (pay18_apply x0 x1 y x).trans (hs y)
  have h19 : k0_pay19 x0 x1 (ix2 0 x) = (m : EReal) := by rw [pay19_apply]; simp only [h18]; rw [ha, hm]
  have h20 : ∀ y : Fin 256, k0_pay20 x0 x1 (ix2 y x) = (((2 : ℝ) ^ (s y.val - m) : ℝ) : EReal) := fun y => by
    rw [pay20_apply, h18, h19, exp2_sub]
  refine ⟨m, h19, ?_, ?_⟩
  · show k0_pay21 x0 x1 (ix2 0 x) = _
    rw [pay21_apply, wsum, Finset.sum_range]
    exact Finset.sum_congr rfl fun y _ => by rw [h20, one_mul]
  · show k0_pay22 x0 x1 x2 (ix2 d x) = _
    rw [pay22_apply, wsum, Finset.sum_range]
    exact Finset.sum_congr rfl fun y _ => by rw [h20, hv]

/-- One block of 512 keys takes the sums over the first `n` keys to the sums over the first `n + 512`. -/
theorem holds_step (s : ℕ → ℝ) (v : ℕ → EReal) (x : Fin 512) (d : Fin 128) (n : ℕ) (st : St Ideal) (sc : FVec Ideal S512x512 .f32)
    (vt : Vec Ideal S1x1x1x128x512 .bf16) (hs : ∀ y : Fin 512, sc (ix2 y x) = (s (n + y.val) : EReal))
    (hv : ∀ y : Fin 512, vt (ix5 0 0 0 d y) = v (n + y.val)) (h : Holds s v x d n st) : Holds s v x d (n + 512) (step sc vt st) := by
  obtain ⟨m, hm, hl, hacc⟩ := h
  obtain ⟨m', hm'⟩ := max_fold_real (Finset.univ : Finset (Fin 512)) (fun y => s (n + y.val)) m
  have h2 : k0_pay2 st.m sc (ix2 0 x) = (m' : EReal) := by rw [pay2_apply]; simp only [hs]; rw [hm, hm']
  have h3 : k0_pay3 st.m sc (ix2 0 x) = (((2 : ℝ) ^ (m - m') : ℝ) : EReal) := by rw [pay3_apply, h2, hm, exp2_sub]
  have h4 : ∀ y : Fin 512, k0_pay4 st.m sc (ix2 y x) = (((2 : ℝ) ^ (s (n + y.val) - m') : ℝ) : EReal) := fun y => by
    rw [pay4_apply, hs, h2, exp2_sub]
  refine ⟨m', h2, ?_, ?_⟩
  · show k0_pay5 st.m st.l sc (ix2 0 x) = _
    rw [pay5_apply, h3, hl, rescale, wsum_add]
    exact congrArg _ (Finset.sum_congr rfl fun y _ => by rw [h4, one_mul])
  · show k0_pay6 st.m sc vt st.acc (ix2 d x) = _
    rw [pay6_apply, h3, hacc, rescale, wsum_add]
    exact congrArg _ (Finset.sum_congr rfl fun y _ => by rw [h4, hv])

/-- The `j`-th block of the resident keys at a key and a column. -/
theorem keyBlk_apply (x3 : Vec Ideal S1x1x8192x256 .bf16) (j : ℕ) (hj : j < 16) (y : Fin 512) (c : Fin 256) :
    keyBlk x3 j (ix4 0 0 y c) = x3 (ix4 0 0 ⟨512 * j + y.val, by omega⟩ c) := by
  refine congrArg x3 (funext fun a => ?_)
  match a with
  | ⟨0, _⟩ => rfl
  | ⟨1, _⟩ => rfl
  | ⟨2, _⟩ => exact Fin.ext (Nat.mod_eq_of_lt (show 512 * j + y.val < 8192 by omega))
  | ⟨3, _⟩ => rfl

/-- The `j`-th block of the resident values at a column and a key. -/
theorem valBlk_apply (x4 : Vec Ideal S1x1x16x128x512 .bf16) (j : ℕ) (hj : j < 16) (d : Fin 128) (y : Fin 512) :
    valBlk x4 j (ix5 0 0 0 d y) = x4 (ix5 0 0 ⟨j, hj⟩ d y) := by
  refine congrArg x4 (funext fun a => ?_)
  match a with
  | ⟨0, _⟩ => rfl
  | ⟨1, _⟩ => rfl
  | ⟨2, _⟩ => exact Fin.ext (Nat.mod_eq_of_lt hj)
  | ⟨3, _⟩ => rfl
  | ⟨4, _⟩ => rfl

/-- After the context keys and `n` latent blocks the state holds the sums over those keys. -/
theorem holds_fold (s : ℕ → ℝ) (v : ℕ → EReal) (x : Fin 512) (d : Fin 128) (x0 : Vec Ideal S1x1x256x512 .bf16)
    (x3 : Vec Ideal S1x1x8192x256 .bf16) (x4 : Vec Ideal S1x1x16x128x512 .bf16) (st₀ : St Ideal) (h₀ : Holds s v x d 256 st₀)
    (hs : ∀ n : Fin 8192, ∑ c : Fin 256, x3 (ix4 0 0 n c) * x0 (ix4 0 0 c x) = (s (256 + n.val) : EReal))
    (hv : ∀ (j : Fin 16) (y : Fin 512), x4 (ix5 0 0 j d y) = v (256 + (512 * j.val + y.val))) :
    ∀ n, n ≤ 16 → Holds s v x d (256 + 512 * n) (fold (k0_pay15 x0) x3 x4 st₀ n)
  | 0, _ => h₀
  | n + 1, hn => by
    have hlt : n < 16 := hn
    refine holds_step s v x d (256 + 512 * n) _ _ _ (fun y => ?_) (fun y => ?_) (holds_fold s v x d x0 x3 x4 st₀ h₀ hs hv n (Nat.le_of_lt hn))
    · rw [scores_apply, Nat.add_assoc, ← hs ⟨512 * n + y.val, by omega⟩]
      exact Finset.sum_congr rfl fun c _ => by rw [keyBlk_apply x3 n hlt, pay15_apply]
    · rw [valBlk_apply x4 n hlt, Nat.add_assoc, hv ⟨n, hlt⟩ y]

/-- What a grid point leaves at query `x` and value column `d`. -/
theorem blockOut_apply (s : ℕ → ℝ) (v : ℕ → EReal) (x : Fin 512) (d : Fin 128) (x0 : Vec Ideal S1x1x256x512 .bf16) (x1 : Vec Ideal S1x1x256x256 .bf16)
    (x2 : Vec Ideal S1x1x128x256 .bf16) (x3 : Vec Ideal S1x1x8192x256 .bf16) (x4 : Vec Ideal S1x1x16x128x512 .bf16)
    (hs₁ : ∀ y : Fin 256, ∑ c : Fin 256, x1 (ix4 0 0 y c) * x0 (ix4 0 0 c x) = (s y.val : EReal))
    (hv₁ : ∀ y : Fin 256, x2 (ix4 0 0 d y) = v y.val)
    (hs₂ : ∀ n : Fin 8192, ∑ c : Fin 256, x3 (ix4 0 0 n c) * x0 (ix4 0 0 c x) = (s (256 + n.val) : EReal))
    (hv₂ : ∀ (j : Fin 16) (y : Fin 512), x4 (ix5 0 0 j d y) = v (256 + (512 * j.val + y.val))) :
    ∃ m : ℝ, blockOut x0 x1 x2 x3 x4 (ix3 0 x d) = Ideal.div (wsum s v m 8448) (wsum s (fun _ => 1) m 8448) := by
  obtain ⟨m, -, hl, hacc⟩ := holds_fold s v x d x0 x3 x4 _ (holds_first s v x d x0 x1 x2 hs₁ hv₁) hs₂ hv₂ 16 le_rfl
  exact ⟨m, by rw [blockOut, quot_apply, hl, hacc]⟩

end Cert.KernelIdeal.Attn

end
-- ==== Proof.Attn.Spec.lean ====
/- What the attention call computes, as one row of the softmax: the scores and values along the whole row of context
   and sequence keys, and the weighted mean of the values. -/
module

public import proofs.«01_k».proof.Proof.Attn.Softmax

@[expose] public section

noncomputable section

namespace Cert.Softmax

open Idealize.ShloMosaic
open scoped BigOperators

/-- Row `j` of the context's 256 rows followed by the sequence's 8192 rows, for one batch entry and head. -/
def rowAt {D : ℕ} (a : Fin 2 → Fin 4 → Fin 256 → Fin D → EReal) (z : Fin 2 → Fin 4 → Fin 8192 → Fin D → EReal)
    (b : Fin 2) (h : Fin 4) (j : ℕ) (c : Fin D) : EReal :=
  if hj : j < 256 then a b h ⟨j, hj⟩ c else if hz : j - 256 < 8192 then z b h ⟨j - 256, hz⟩ c else 0

theorem rowAt_context {D : ℕ} (a : Fin 2 → Fin 4 → Fin 256 → Fin D → EReal) (z : Fin 2 → Fin 4 → Fin 8192 → Fin D → EReal)
    (b : Fin 2) (h : Fin 4) (y : Fin 256) (c : Fin D) : rowAt a z b h y.val c = a b h y c := dif_pos y.isLt

theorem rowAt_sequence {D : ℕ} (a : Fin 2 → Fin 4 → Fin 256 → Fin D → EReal)
    (z : Fin 2 → Fin 4 → Fin 8192 → Fin D → EReal) (b : Fin 2) (h : Fin 4) (n : Fin 8192) (c : Fin D) :
    rowAt a z b h (256 + n.val) c = z b h n c := by
  have hn : 256 + n.val - 256 = n.val := by omega
  unfold rowAt
  rw [dif_neg (by omega), dif_pos (by omega)]
  exact congrArg (fun n => z b h n c) (Fin.ext hn)

/-- The score of query row `n` against key row `j`, as a real number. -/
def score (q : Fin 2 → Fin 4 → Fin 8192 → Fin 256 → EReal) (a : Fin 2 → Fin 4 → Fin 256 → Fin 256 → EReal)
    (z : Fin 2 → Fin 4 → Fin 8192 → Fin 256 → EReal) (b : Fin 2) (h : Fin 4) (n : Fin 8192) (j : ℕ) : ℝ :=
  (∑ c : Fin 256, rowAt a z b h j c * q b h n c).toReal

/-- The attention: the values' mean weighted by two to the power of the scores. -/
def attention (q : Fin 2 → Fin 4 → Fin 8192 → Fin 256 → EReal) (a : Fin 2 → Fin 4 → Fin 256 → Fin 256 → EReal)
    (va : Fin 2 → Fin 4 → Fin 256 → Fin 128 → EReal) (z : Fin 2 → Fin 4 → Fin 8192 → Fin 256 → EReal)
    (vz : Fin 2 → Fin 4 → Fin 8192 → Fin 128 → EReal) (b : Fin 2) (n : Fin 8192) (h : Fin 4) (d : Fin 128) : EReal :=
  Ideal.div (wsum (score q a z b h n) (fun j => rowAt va vz b h j d) 0 8448)
    (wsum (score q a z b h n) (fun _ => 1) 0 8448)

/-- An array of four axes holds real numbers only. -/
def Real4 {A B C D : ℕ} (f : Fin A → Fin B → Fin C → Fin D → EReal) : Prop :=
  ∀ a b c d, ∃ r : ℝ, f a b c d = r

/-- A sum of products of reals is a real. -/
theorem sum_mul_real {ι : Type*} (t : Finset ι) (f g : ι → EReal) (hf : ∀ i, ∃ r : ℝ, f i = r)
    (hg : ∀ i, ∃ r : ℝ, g i = r) : ∃ r : ℝ, ∑ i ∈ t, f i * g i = r := by
  choose u hu using hf
  choose w hw using hg
  exact ⟨∑ i ∈ t, u i * w i, by rw [coe_sum]; exact Finset.sum_congr rfl fun i _ => by rw [hu, hw, EReal.coe_mul]⟩

/-- With real queries and keys the score is the sum itself. -/
theorem score_eq {q : Fin 2 → Fin 4 → Fin 8192 → Fin 256 → EReal} {a : Fin 2 → Fin 4 → Fin 256 → Fin 256 → EReal}
    {z : Fin 2 → Fin 4 → Fin 8192 → Fin 256 → EReal} (hq : Real4 q) (ha : Real4 a) (hz : Real4 z)
    (b : Fin 2) (h : Fin 4) (n : Fin 8192) (j : ℕ) :
    ∑ c : Fin 256, rowAt a z b h j c * q b h n c = (score q a z b h n j : EReal) := by
  obtain ⟨r, hr⟩ := sum_mul_real Finset.univ (fun c => rowAt a z b h j c) (fun c => q b h n c) (fun c => by
    unfold rowAt
    split
    · exact ha _ _ _ _
    · split
      · exact hz _ _ _ _
      · exact ⟨0, rfl⟩) (fun c => hq _ _ _ _)
  unfold score
  rw [hr, EReal.toReal_coe]

/-- The quotient does not depend on the shift. -/
theorem quotient_shift (s : ℕ → ℝ) (v : ℕ → EReal) (m m' : ℝ) {n : ℕ} (hn : 0 < n) :
    Ideal.div (wsum s v m n) (wsum s (fun _ => 1) m n) = Ideal.div (wsum s v m' n) (wsum s (fun _ => 1) m' n) :=
  (quotient s v m 0 hn).trans (quotient s v m' 0 hn).symm

end Cert.Softmax

end
-- ==== Proof.Attn.Value.lean ====
/- The attention call's input blocks as reads of the five arguments, and the result array. -/
module

public import proofs.«01_k».proof.Proof.Attn.Launch
public import proofs.«01_k».proof.Proof.Attn.Row
public import proofs.«01_k».proof.Proof.Attn.Spec
public import Idealize.ShloMosaic.Lib.Pipeline.ValueKit.Point

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.Sem

variable (m : (ℓ : Loc nD τ sig) → Buf (Elt Ideal) ℓ)

/-- The batch entry of a grid point. -/
def ptB (t : Fin cfg0.N) : Fin 2 := grid0.coords t 0
/-- The head of a grid point. -/
def ptH (t : Fin cfg0.N) : Fin 4 := grid0.coords t 1
/-- The query block of a grid point. -/
def ptI (t : Fin cfg0.N) : Fin 16 := grid0.coords t 2

theorem index0 : ∀ t : Fin cfg0.N, win0_0.index t = ![(ptB t).val, (ptH t).val, 0, (ptI t).val] :=
  (by decide +kernel : ∀ t : Fin grid0.N, win0_0.index t = ![(grid0.coords t 0).val, (grid0.coords t 1).val, 0, (grid0.coords t 2).val])
theorem index1 : ∀ t : Fin cfg0.N, win0_1.index t = ![(ptB t).val, (ptH t).val, 0, 0] :=
  (by decide +kernel : ∀ t : Fin grid0.N, win0_1.index t = ![(grid0.coords t 0).val, (grid0.coords t 1).val, 0, 0])
theorem index2 : ∀ t : Fin cfg0.N, win0_2.index t = ![(ptB t).val, (ptH t).val, 0, 0] :=
  (by decide +kernel : ∀ t : Fin grid0.N, win0_2.index t = ![(grid0.coords t 0).val, (grid0.coords t 1).val, 0, 0])
theorem index3 : ∀ t : Fin cfg0.N, win0_3.index t = ![(ptB t).val, (ptH t).val, 0, 0] :=
  (by decide +kernel : ∀ t : Fin grid0.N, win0_3.index t = ![(grid0.coords t 0).val, (grid0.coords t 1).val, 0, 0])
theorem index4 : ∀ t : Fin cfg0.N, win0_4.index t = ![(ptB t).val, (ptH t).val, 0, 0, 0] :=
  (by decide +kernel : ∀ t : Fin grid0.N, win0_4.index t = ![(grid0.coords t 0).val, (grid0.coords t 1).val, 0, 0, 0])
theorem index5 : ∀ t : Fin cfg0.N, win0_5.index t = ![(ptB t).val, (ptI t).val, (ptH t).val] :=
  (by decide +kernel : ∀ t : Fin grid0.N, win0_5.index t = ![(grid0.coords t 0).val, (grid0.coords t 2).val, (grid0.coords t 1).val])

/-- The query block: transposed queries of one batch entry and head. -/
theorem blk0 (c : Dev nD) (t : Fin cfg0.N) (k : Fin 256) (x : Fin 512) :
    iblk m c 0 t (ix4 0 0 k x) = m ((c : Thread nD τ).loc main_arg0) (ix4 (ptB t) (ptH t) ⟨512 * (ptI t).val + x.val, by omega⟩ k) := by
  blk_simp [iblk]
  entry_read
  pointwise
  blk_ext [index0]

/-- The context keys' block. -/
theorem blk1 (c : Dev nD) (t : Fin cfg0.N) (y k : Fin 256) :
    iblk m c 1 t (ix4 0 0 y k) = m ((c : Thread nD τ).loc main_arg1) (ix4 (ptB t) (ptH t) y k) := by
  blk_simp [iblk]
  entry_read
  pointwise
  blk_ext [index1]

/-- The context values' block, transposed. -/
theorem blk2 (c : Dev nD) (t : Fin cfg0.N) (d : Fin 128) (y : Fin 256) :
    iblk m c 2 t (ix4 0 0 d y) = m ((c : Thread nD τ).loc main_arg2) (ix4 (ptB t) (ptH t) y d) := by
  blk_simp [iblk]
  entry_read
  pointwise
  blk_ext [index2]

/-- The keys' block. -/
theorem blk3 (c : Dev nD) (t : Fin cfg0.N) (n : Fin 8192) (k : Fin 256) :
    iblk m c 3 t (ix4 0 0 n k) = m ((c : Thread nD τ).loc main_arg3) (ix4 (ptB t) (ptH t) n k) := by
  blk_simp [iblk]
  entry_read
  pointwise
  blk_ext [index3]

/-- The values' block: sixteen transposed pieces of 512 rows. -/
theorem blk4 (c : Dev nD) (t : Fin cfg0.N) (j : Fin 16) (d : Fin 128) (y : Fin 512) :
    iblk m c 4 t (ix5 0 0 j d y)
      = m ((c : Thread nD τ).loc main_arg4) (ix4 (ptB t) (ptH t) ⟨512 * j.val + y.val, by omega⟩ d) := by
  blk_simp [iblk]
  entry_read
  pointwise
  blk_ext [index4]

/-- An argument of four axes as a function of its coordinates. -/
abbrev arg0 (c : Dev nD) : Fin 2 → Fin 4 → Fin 8192 → Fin 256 → EReal :=
  fun b h n k => m ((c : Thread nD τ).loc main_arg0) (ix4 b h n k)
abbrev arg1 (c : Dev nD) : Fin 2 → Fin 4 → Fin 256 → Fin 256 → EReal :=
  fun b h n k => m ((c : Thread nD τ).loc main_arg1) (ix4 b h n k)
abbrev arg2 (c : Dev nD) : Fin 2 → Fin 4 → Fin 256 → Fin 128 → EReal :=
  fun b h n k => m ((c : Thread nD τ).loc main_arg2) (ix4 b h n k)
abbrev arg3 (c : Dev nD) : Fin 2 → Fin 4 → Fin 8192 → Fin 256 → EReal :=
  fun b h n k => m ((c : Thread nD τ).loc main_arg3) (ix4 b h n k)
abbrev arg4 (c : Dev nD) : Fin 2 → Fin 4 → Fin 8192 → Fin 128 → EReal :=
  fun b h n k => m ((c : Thread nD τ).loc main_arg4) (ix4 b h n k)

/-- The result array: entry `(b, n, 128 h + d)` is the attention of query row `n` of head `h` at value column `d`. -/
def result (c : Dev nD) : Buf (Elt Ideal) ((c : Thread nD τ).loc main_v4) := fun i : S2x8192x512.Idx =>
  Softmax.attention (arg0 m c) (arg1 m c) (arg2 m c) (arg3 m c) (arg4 m c) (i 0) (i 1)
    ⟨(i 2).val / 128, by have : (i 2).val < 512 := (i 2).isLt; omega⟩ ⟨(i 2).val % 128, Nat.mod_lt _ (by decide)⟩

/-- What a grid point leaves in its output block, for real queries and keys. -/
theorem outsAt_apply (c : Dev nD) (hq : Softmax.Real4 (arg0 m c)) (ha : Softmax.Real4 (arg1 m c))
    (hz : Softmax.Real4 (arg3 m c)) (t : Fin cfg0.N) (x : Fin 512) (d : Fin 128) :
    outsAt m c t (ix3 0 x d) = Softmax.attention (arg0 m c) (arg1 m c) (arg2 m c) (arg3 m c) (arg4 m c)
      (ptB t) ⟨512 * (ptI t).val + x.val, by omega⟩ (ptH t) d := by
  obtain ⟨r, hr⟩ := blockOut_apply
    (Softmax.score (arg0 m c) (arg1 m c) (arg3 m c) (ptB t) (ptH t) ⟨512 * (ptI t).val + x.val, by omega⟩)
    (fun j => Softmax.rowAt (arg2 m c) (arg4 m c) (ptB t) (ptH t) j d) x d
    (iblk m c 0 t) (iblk m c 1 t) (iblk m c 2 t) (iblk m c 3 t) (iblk m c 4 t)
    (fun y => by
      rw [← Softmax.score_eq hq ha hz]
      exact Finset.sum_congr rfl fun k _ => by rw [blk0, blk1, Softmax.rowAt_context])
    (fun y => by rw [blk2, Softmax.rowAt_context])
    (fun n => by
      rw [← Softmax.score_eq hq ha hz]
      exact Finset.sum_congr rfl fun k _ => by rw [blk0, blk3, Softmax.rowAt_sequence])
    (fun j y => by
      rw [blk4]
      exact (Softmax.rowAt_sequence (arg2 m c) (arg4 m c) (ptB t) (ptH t) ⟨512 * j.val + y.val, by omega⟩ d).symm)
  unfold outsAt Softmax.attention
  rw [hr]
  exact Softmax.quotient_shift _ _ _ _ (by decide)

/-- The array the call returns. -/
theorem arr5 (c : Dev nD) (hq : Softmax.Real4 (arg0 m c)) (ha : Softmax.Real4 (arg1 m c))
    (hz : Softmax.Real4 (arg3 m c)) : (dats m 0 c).arrAt 5 cfg0.N = result m c := by
  refine (dats m 0 c).arrAt_eq_of_covers 5 _ (by decide +kernel) fun t hf y => ?_
  have e : ∀ (i : S2x8192x512.Idx) (x : Fin 512) (d : Fin 128), (i 0 : ℕ) = ptB t → (i 1 : ℕ) = 512 * (ptI t).val + x.val →
      (i 2 : ℕ) = 128 * (ptH t).val + d.val → outsAt m c t (ix3 0 x d) = result m c i := by
    intro i x d h0 h1 h2
    rw [outsAt_apply m c hq ha hz]
    unfold result
    have a0 : ptB t = i 0 := Fin.ext h0.symm
    have a1 : (⟨512 * (ptI t).val + x.val, by omega⟩ : Fin 8192) = i 1 := Fin.ext h1.symm
    have a2 : ptH t = ⟨(i 2).val / 128, by have : (i 2).val < 512 := (i 2).isLt; omega⟩ := Fin.ext (by show _ = (i 2).val / 128; omega)
    have a3 : d = ⟨(i 2).val % 128, Nat.mod_lt _ (by decide)⟩ := Fin.ext (by show _ = (i 2).val % 128; omega)
    rw [← a0, ← a1, ← a2, ← a3]
  blk_simp
  have hy : y = (ix3 0 (y 1) (y 2) : S1x512x128.Idx) := by
    funext a
    fin_cases a
    · exact Fin.ext (by have : (y 0).val < 1 := (y 0).isLt; show (y 0).val = 0; omega)
    · rfl
    · rfl
  refine (congrArg (outsAt m c t) hy).trans (e _ (y 1) (y 2) ?_ ?_ ?_)
  · blk_simp [index5]; try omega
  · blk_simp [index5]; try omega
  · blk_simp [index5]; try omega

/-- The run: the result array holds the attention and the arguments are unchanged. -/
theorem run (ρ : Dev nD → PrngReg) (hq : ∀ c, Softmax.Real4 (arg0 m c)) (ha : ∀ c, Softmax.Real4 (arg1 m c))
    (hz : ∀ c, Softmax.Real4 (arg3 m c)) :
    θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h.1.1.out_eq c 5).trans (arr5 m c (hq c) (ha c) (hz c)), h.2.1 c⟩)
    (θ_run_and (run_main m ρ) (frame m ρ))

end Cert.KernelIdeal.Attn

end
-- ==== Proof.Attn.RefOps.lean ====
/- The reference's stages as functions of arrays, and the shift of a row of reals. -/
module

public import proofs.«01_k».proof.Proof.Gen.ReferenceIdeal.Run
public import proofs.«01_k».proof.Proof.Attn.Spec
public import Idealize.ShloMosaic.PureOps.Reduce
public import Idealize.ShloMosaic.Lib.Pointwise
public import Idealize.ShloMosaic.Lib.IdealHost

@[expose] public section

set_option maxRecDepth 16384

noncomputable section

namespace Cert.ReferenceIdeal.Attn

open Cert.ReferenceIdeal Cert.ReferenceIdeal.Gen
open Idealize.ShloMosaic Idealize.ShloMosaic.TcCoe

/-- The scores times the logarithm of two. -/
def logits (q : FVec Ideal S2x4x8192x256 .bf16) (a : FVec Ideal S2x4x256x256 .bf16)
    (z : FVec Ideal S2x4x8192x256 .bf16) : FVec Ideal S2x4x8192x8448 .f32 :=
  mulf (Host.dotGeneral dot_S2x4x8192x256_S2x4x8448x256_S2x4x8192x8448_3_3_2_2_01_01 none (extf .f32 q bitsLt_bf16_f32)
      (extf .f32 (concatenate S2x4x8448x256 2 [⟨S2x4x256x256, a⟩, ⟨S2x4x8192x256, z⟩]
        concatenates_S2x4x256x256_S2x4x8192x256_S2x4x8448x256_d2) bitsLt_bf16_f32))
    (broadcastInDim S2x4x8192x8448 ![] bcast_S_S2x4x8192x8448 (Host.log (constant S_ .f32 0x40000000#32)))

/-- Each row's largest entry. -/
def rowMax (s : FVec Ideal S2x4x8192x8448 .f32) : FVec Ideal S2x4x8192 .f32 :=
  Host.reduce FloatOps.maximumf s (constant S_ .f32 0xFF800000#32) reducesTo_S2x4x8192x8448_S2x4x8192_d3 h_S_

/-- The larger of each entry and the bottom. -/
def overBot (x : FVec Ideal S2x4x8192 .f32) : FVec Ideal S2x4x8192 .f32 :=
  maximumf (broadcastInDim S2x4x8192 ![] bcast_S_S2x4x8192 (constant S_ .f32 0xFF800000#32)) x

/-- The shift of each row. -/
def top (s : FVec Ideal S2x4x8192x8448 .f32) : FVec Ideal S2x4x8192 .f32 := overBot (rowMax s)

/-- A row's number at each of its entries. -/
def spread (x : FVec Ideal S2x4x8192 .f32) : FVec Ideal S2x4x8192x8448 .f32 :=
  broadcastInDim S2x4x8192x8448 ![0, 1, 2, 3] bcast_S2x4x8192x1_S2x4x8192x8448_0_1_2_3
    (broadcastInDim S2x4x8192x1 ![0, 1, 2] bcast_S2x4x8192_S2x4x8192x1_0_1_2 x)

/-- The exponential of each entry less its row's largest. -/
def exps (s : FVec Ideal S2x4x8192x8448 .f32) : FVec Ideal S2x4x8192x8448 .f32 := Host.exp (subf s (spread (top s)))

/-- The softmax of each row. -/
def softmax (s : FVec Ideal S2x4x8192x8448 .f32) : FVec Ideal S2x4x8192x8448 .f32 :=
  Host.divf (exps s) (spread (Host.reduceAdd (exps s) (constant S_ .f32 0x00000000#32)
    reducesTo_S2x4x8192x8448_S2x4x8192_d3 h_S_))

/-- The weights applied to the values, the heads side by side. -/
def mean (va : FVec Ideal S2x4x256x128 .bf16) (vz : FVec Ideal S2x4x8192x128 .bf16)
    (p : FVec Ideal S2x4x8192x8448 .f32) : FVec Ideal S2x8192x512 .bf16 :=
  truncf .bf16 (shapeCast _ (transpose S2x8192x4x128 [0, 3, 1, 2]
    (Host.dotGeneral dot_S2x4x8448x128_S2x4x8192x8448_S2x4x128x8192_2_3_3_2_01_01 none
      (extf .f32 (concatenate S2x4x8448x128 2 [⟨S2x4x256x128, va⟩, ⟨S2x4x8192x128, vz⟩]
        concatenates_S2x4x256x128_S2x4x8192x128_S2x4x8448x128_d2) bitsLt_bf16_f32) p)
    transposes_S2x4x128x8192_S2x8192x4x128_0_3_1_2) shapeCasts_S2x8192x4x128_S2x8192x512) bitsLt_bf16_f32

/-- The bits of the smallest float read the bottom. -/
theorem bits_bot : Ideal.ofBits .f32 0xFF800000#32 = ⊥ := by simp [Ideal.ofBits, Ideal.ieee]

/-- The bits of the float two read two. -/
theorem bits_two : Ideal.ofBits .f32 0x40000000#32 = ((2 : ℝ) : EReal) := by
  simp [Ideal.ofBits, Ideal.ieee]
  rw [← EReal.coe_mul]
  norm_num

/-- The logarithm of the float two. -/
theorem log_two : Ideal.log (Ideal.ofBits .f32 0x40000000#32) = ((Real.log 2 : ℝ) : EReal) := by
  rw [bits_two]
  show (if (2 : ℝ) ≤ 0 then (⊥ : EReal) else ((Real.log 2 : ℝ) : EReal)) = _
  rw [if_neg (by norm_num)]

/-- The largest entry along one axis of an array of reals, from the bottom, is a real. -/
theorem reduce_max_real {s t u : Shape} {a : Fin s.rank} (x : FVec Ideal s .f32) (r : s.Idx → ℝ) (hx : ∀ i, x i = (r i : EReal))
    (init : FVec Ideal u .f32) (hi : ∀ i, init i = (⊥ : EReal)) (h' : s.ReducesTo [a] t) (h : s.Reduces [a] t)
    (hu : 0 < u.numel) (hp : 0 < s.size a) (j : t.Idx) :
    ∃ y : ℝ, Host.reduce (FloatOps.maximumf (F := Ideal) (φ := .f32)) x init h' hu j = (y : EReal) := by
  have hfun : (x : s.Idx → EReal) = fun i => (r i : EReal) := funext hx
  have hne : (Finset.univ : Finset (Fin (s.size a))).Nonempty := ⟨⟨0, hp⟩, Finset.mem_univ _⟩
  obtain ⟨y, hy⟩ := Softmax.fold_real Finset.univ hne (fun k => r (h.lift j k))
  refine ⟨y, ?_⟩
  have e := Host.reduce_eq_fold_single (max : EReal → EReal → EReal) x init h' h hu j
  refine Eq.trans e ?_
  rw [hi, hfun]
  exact hy

theorem overBot_apply (x : FVec Ideal S2x4x8192 .f32) (i : S2x4x8192.Idx) : overBot x i = x i := by
  unfold overBot
  show max (Ideal.ofBits .f32 0xFF800000#32) (x i) = x i
  rw [bits_bot, max_eq_right bot_le]

/-- The shift of each row of an array of reals is a real. -/
theorem top_apply (s : FVec Ideal S2x4x8192x8448 .f32) (r : S2x4x8192x8448.Idx → ℝ) (hs : ∀ i, s i = (r i : EReal))
    (i : S2x4x8192.Idx) : ∃ y : ℝ, top s i = (y : EReal) := by
  have hp : 0 < S2x4x8192x8448.size 3 := by decide
  have hr : S2x4x8192x8448.Reduces [3] S2x4x8192 := by decide
  obtain ⟨y, hy⟩ := reduce_max_real s r hs (constant S_ .f32 0xFF800000#32) (fun _ => bits_bot)
    reducesTo_S2x4x8192x8448_S2x4x8192_d3 hr h_S_ hp i
  refine ⟨y, ?_⟩
  unfold top
  rw [overBot_apply]
  unfold rowMax
  exact hy

variable (q : FVec Ideal S2x4x8192x256 .bf16) (a : FVec Ideal S2x4x256x256 .bf16)
  (va : FVec Ideal S2x4x256x128 .bf16) (z : FVec Ideal S2x4x8192x256 .bf16) (vz : FVec Ideal S2x4x8192x128 .bf16)

abbrev fq : Fin 2 → Fin 4 → Fin 8192 → Fin 256 → EReal := fun b h n k => q (ix4 b h n k)
abbrev fa : Fin 2 → Fin 4 → Fin 256 → Fin 256 → EReal := fun b h n k => a (ix4 b h n k)
abbrev fva : Fin 2 → Fin 4 → Fin 256 → Fin 128 → EReal := fun b h n k => va (ix4 b h n k)
abbrev fvz : Fin 2 → Fin 4 → Fin 8192 → Fin 128 → EReal := fun b h n k => vz (ix4 b h n k)

end Cert.ReferenceIdeal.Attn

end
-- ==== Proof.Attn.RefMean.lean ====
/- The reference's weighted mean of the values at an index. -/
module

public import proofs.«01_k».proof.Proof.Attn.RefOps
public import proofs.«01_k».proof.Proof.Gen.ReferenceIdeal.Run
public import proofs.«01_k».proof.Proof.Attn.Spec
public import Idealize.ShloMosaic.PureOps.Reduce
public import Idealize.ShloMosaic.Lib.Pointwise
public import Idealize.ShloMosaic.Lib.IdealHost

@[expose] public section

set_option maxRecDepth 16384

noncomputable section

namespace Cert.ReferenceIdeal.Attn

open Cert.ReferenceIdeal Cert.ReferenceIdeal.Gen
open Idealize.ShloMosaic Idealize.ShloMosaic.TcCoe

variable (q : FVec Ideal S2x4x8192x256 .bf16) (a : FVec Ideal S2x4x256x256 .bf16)
  (va : FVec Ideal S2x4x256x128 .bf16) (z : FVec Ideal S2x4x8192x256 .bf16) (vz : FVec Ideal S2x4x8192x128 .bf16)

/-- The values' mean under given weights. -/
theorem mean_apply (p : FVec Ideal S2x4x8192x8448 .f32) (b : Fin 2) (n : Fin 8192) (i : Fin 512) :
    mean va vz p (ix3 b n i) = ∑ j : Fin 8448,
      Softmax.rowAt (fva va) (fvz vz) b ⟨i.val / 128, by omega⟩ j.val ⟨i.val % 128, by omega⟩
        * p (ix4 b ⟨i.val / 128, by omega⟩ n j) := by
  pointwise [mean]
  symm
  refine (Fin.sum_univ_add (a := 256) (b := 8192) _).trans (congrArg₂ (· + ·) ?_ ?_)
  · refine Finset.sum_congr rfl fun x _ => ?_
    refine congrArg (· * _) ?_
    exact Softmax.rowAt_context (fva va) (fvz vz) _ _ x _
  · refine Finset.sum_congr rfl fun x _ => ?_
    refine congrArg (· * _) ?_
    exact Softmax.rowAt_sequence (fva va) (fvz vz) _ _ x _

end Cert.ReferenceIdeal.Attn

end
-- ==== Proof.Attn.RefSoftmax.lean ====
/- The reference's softmax at an index. -/
module

public import proofs.«01_k».proof.Proof.Attn.RefOps
public import proofs.«01_k».proof.Proof.Gen.ReferenceIdeal.Run
public import proofs.«01_k».proof.Proof.Attn.Spec
public import Idealize.ShloMosaic.PureOps.Reduce
public import Idealize.ShloMosaic.Lib.Pointwise
public import Idealize.ShloMosaic.Lib.IdealHost

@[expose] public section

set_option maxRecDepth 16384

noncomputable section

namespace Cert.ReferenceIdeal.Attn

open Cert.ReferenceIdeal Cert.ReferenceIdeal.Gen
open Idealize.ShloMosaic Idealize.ShloMosaic.TcCoe

/-- The softmax at an entry. -/
theorem softmax_apply (s : FVec Ideal S2x4x8192x8448 .f32) (b : Fin 2) (h : Fin 4) (n : Fin 8192) (j : Fin 8448) :
    softmax s (ix4 b h n j) = Ideal.div (Ideal.exp (s (ix4 b h n j) - top s (ix3 b h n)))
      (∑ x : Fin 8448, Ideal.exp (s (ix4 b h n x) - top s (ix3 b h n))) := by
  pointwise [softmax, exps, spread]

end Cert.ReferenceIdeal.Attn

end
-- ==== Proof.Attn.RefLogits.lean ====
/- The reference's logits at an index. -/
module

public import proofs.«01_k».proof.Proof.Attn.RefOps
public import proofs.«01_k».proof.Proof.Gen.ReferenceIdeal.Run
public import proofs.«01_k».proof.Proof.Attn.Spec
public import Idealize.ShloMosaic.PureOps.Reduce
public import Idealize.ShloMosaic.Lib.Pointwise
public import Idealize.ShloMosaic.Lib.IdealHost

@[expose] public section

set_option maxRecDepth 16384

noncomputable section

namespace Cert.ReferenceIdeal.Attn

open Cert.ReferenceIdeal Cert.ReferenceIdeal.Gen
open Idealize.ShloMosaic Idealize.ShloMosaic.TcCoe

variable (q : FVec Ideal S2x4x8192x256 .bf16) (a : FVec Ideal S2x4x256x256 .bf16)
  (va : FVec Ideal S2x4x256x128 .bf16) (z : FVec Ideal S2x4x8192x256 .bf16) (vz : FVec Ideal S2x4x8192x128 .bf16)

/-- A logit is the score times `log 2`. -/
theorem logits_apply (hq : Softmax.Real4 (fq q)) (ha : Softmax.Real4 (fa a)) (hz : Softmax.Real4 (fq z))
    (b : Fin 2) (h : Fin 4) (n : Fin 8192) (j : Fin 8448) :
    logits q a z (ix4 b h n j) = ((Softmax.score (fq q) (fa a) (fq z) b h n j.val * Real.log 2 : ℝ) : EReal) := by
  pointwise [logits]
  rw [EReal.coe_mul, ← Softmax.score_eq hq ha hz, log_two]
  refine congrArg (· * _) (Finset.sum_congr rfl fun x _ => ?_)
  rw [mul_comm]
  refine congrArg (· * _) ?_
  unfold Softmax.rowAt
  by_cases hj : j.val < 256
  · rw [dif_pos hj, dif_pos hj]
  · rw [dif_neg hj, dif_neg hj, dif_pos (by omega)]

end Cert.ReferenceIdeal.Attn

end
-- ==== Proof.Attn.Reference.lean ====
/- The reference's result array read at an index: for real queries and keys, the softmax of the scores times
   `log 2` applied to the values, which is the attention. -/
module

public import proofs.«01_k».proof.Proof.Attn.RefMean
public import proofs.«01_k».proof.Proof.Attn.RefSoftmax
public import proofs.«01_k».proof.Proof.Attn.RefLogits
public import proofs.«01_k».proof.Proof.Gen.ReferenceIdeal.Run
public import proofs.«01_k».proof.Proof.Attn.Spec
public import Idealize.ShloMosaic.PureOps.Reduce
public import Idealize.ShloMosaic.Lib.Pointwise
public import Idealize.ShloMosaic.Lib.IdealHost

@[expose] public section

set_option maxRecDepth 16384

noncomputable section

namespace Cert.ReferenceIdeal.Attn

open Cert.ReferenceIdeal Cert.ReferenceIdeal.Gen
open Idealize.ShloMosaic Idealize.ShloMosaic.TcCoe

variable (q : FVec Ideal S2x4x8192x256 .bf16) (a : FVec Ideal S2x4x256x256 .bf16)
  (va : FVec Ideal S2x4x256x128 .bf16) (z : FVec Ideal S2x4x8192x256 .bf16) (vz : FVec Ideal S2x4x8192x128 .bf16)

/-- The reference's result at an index: the attention. -/
theorem result_apply (hq : Softmax.Real4 (fq q)) (ha : Softmax.Real4 (fa a)) (hz : Softmax.Real4 (fq z))
    (b : Fin 2) (n : Fin 8192) (i : Fin 512) :
    mean va vz (softmax (logits q a z)) (ix3 b n i)
      = Softmax.attention (fq q) (fa a) (fva va) (fq z) (fvz vz) b n ⟨i.val / 128, by omega⟩ ⟨i.val % 128, by omega⟩ := by
  obtain ⟨M, hM⟩ := top_apply (logits q a z)
    (fun i => Softmax.score (fq q) (fa a) (fq z) (i 0) (i 1) (i 2) (i 3).val * Real.log 2)
    (fun i => (congrArg (logits q a z) (eq_ix4 i)).trans (logits_apply q a z hq ha hz (i 0) (i 1) (i 2) (i 3)))
    (ix3 b ⟨i.val / 128, by omega⟩ n)
  rw [mean_apply]
  unfold Softmax.attention
  rw [Softmax.quotient _ _ _ M (by decide)]
  refine Finset.sum_congr rfl fun j _ => congrArg (_ * ·) ?_
  rw [softmax_apply, hM]
  simp only [logits_apply q a z hq ha hz, Softmax.exp_sub]

end Cert.ReferenceIdeal.Attn

end
-- ==== Proof.Attn.Finite.lean ====
/- The precondition read: the queries, the context's keys and the sequence's keys hold reals only. -/
module

public import proofs.«01_k».proof.Pre_finite_queries_and_keys
public import proofs.«01_k».proof.Proof.Attn.Spec
public import Idealize.ShloMosaic.Lib.Pointwise

@[expose] public section

set_option maxRecDepth 16384

noncomputable section

namespace Cert.Pre_finite_queries_and_keys

open Idealize.ShloMosaic

/-- The relations of shapes the precondition's operations take. -/
theorem facts : Facts where
  bitsLt_bf16_f32 := by decide
  bcast_S_S2x4x8192x256 := by decide
  bcast_S_S2x4x256x256 := by decide

/-- A value whose absolute value is below the infinity is a real. -/
theorem real_of_abs_lt (x : Ideal .f32)
    (h : FloatOps.cmpf .olt (FloatOps.hostAbsf x) (FloatOps.ofBits (F := Ideal) .f32 0x7F800000#32) = 1#1) :
    ∃ r : ℝ, (x : EReal) = r := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hx : (x : EReal) ≠ ⊤ ∧ (x : EReal) ≠ ⊥ := by
    constructor <;> intro e <;> rw [e] at h' <;> simp at h'
  exact ⟨EReal.toReal x, (EReal.coe_toReal hx.1 hx.2).symm⟩

variable [Facts] (q : FVec Ideal S2x4x8192x256 .bf16) (a : FVec Ideal S2x4x256x256 .bf16)
  (va : FVec Ideal S2x4x256x128 .bf16) (z : FVec Ideal S2x4x8192x256 .bf16) (vz : FVec Ideal S2x4x8192x128 .bf16)

theorem queries (h : (fn q a va z vz).1 = fun _ => 1#1) : Softmax.Real4 fun b h n k => q (ix4 b h n k) :=
  fun b h' n k => real_of_abs_lt (q (ix4 b h' n k)) (congrFun h (ix4 b h' n k))

theorem context_keys (h : (fn q a va z vz).2.1 = fun _ => 1#1) : Softmax.Real4 fun b h n k => a (ix4 b h n k) :=
  fun b h' n k => real_of_abs_lt (a (ix4 b h' n k)) (congrFun h (ix4 b h' n k))

theorem sequence_keys (h : (fn q a va z vz).2.2 = fun _ => 1#1) : Softmax.Real4 fun b h n k => z (ix4 b h n k) :=
  fun b h' n k => real_of_abs_lt (z (ix4 b h' n k)) (congrFun h (ix4 b h' n k))

end Cert.Pre_finite_queries_and_keys

end
-- ==== Proof.Mix.Spec.lean ====
/- What the input projection call computes, as functions of its arguments' entries over the extended reals. -/
module

public import Idealize.ShloMosaic.PureOps.Ideal
public import Idealize.ShloMosaic.Lib.Pointwise

@[expose] public section

noncomputable section

namespace Cert.Mix

open Idealize.ShloMosaic
open scoped BigOperators

/-- The reciprocal root of a row's mean square, `k` being one over the row's length. -/
def scale {n : ℕ} (v : Fin n → EReal) (k : EReal) : EReal :=
  Ideal.rsqrt ((∑ i, v i * v i) * k + Ideal.ofBits .f32 0x358637BD#32)

/-- The gelu in its tanh form. -/
def gelu (x : EReal) : EReal :=
  Ideal.ofBits .f32 0x3F000000#32 * x
    * (1
      + Ideal.tanh (Ideal.ofBits .f32 0x3F4C422A#32 * (x + Ideal.ofBits .f32 0x3D372713#32 * x * x * x)))

/-- A modulated row: the row at unit mean square, times one plus `s`, plus `h`. -/
def hid (x s h : Fin 1024 → EReal) (d : Fin 1024) : EReal :=
  x d * scale x (Ideal.ofBits .f32 0x3A800000#32) * (1 + s d) + h d

/-- A row at unit mean square of its 256 entries, times the gain `g`. -/
def norm256 (v g : Fin 256 → EReal) (j : Fin 256) : EReal := v j * scale v (Ideal.ofBits .f32 0x3B800000#32) * g j

/-- A row at unit mean square of its 128 entries, times the gain `g`. -/
def norm128 (v g : Fin 128 → EReal) (j : Fin 128) : EReal := v j * scale v (Ideal.ofBits .f32 0x3C000000#32) * g j

/-- The projected rows: token rows `x` modulated by the scale `s` and shift `h` of their batch entry, times `w`. -/
def proj (x : Fin 2 → Fin 8192 → Fin 1024 → EReal) (h s : Fin 2 → Fin 1024 → EReal) (w : Fin 1024 → Fin 1216 → EReal)
    (b : Fin 2) (n : Fin 8192) (j : Fin 1216) : EReal :=
  ∑ d : Fin 1024, hid (x b n) (s b) (h b) d * w d j

/-- The first mixer: rows are mixed within their chunk of 128 by the lane's head's matrix, and gated. -/
def gated (p : Fin 2 → Fin 8192 → Fin 1216 → EReal) (g : Fin 256 → EReal) (w : Fin 4 → Fin 128 → Fin 128 → EReal)
    (bias : Fin 4 → Fin 128 → EReal) (b : Fin 2) (n : Fin 8192) (c : Fin 256) : EReal :=
  gelu (p b n ⟨c.val, by omega⟩)
    * ((∑ q : Fin 128, w ⟨c.val / 64, by omega⟩ ⟨n.val % 128, by omega⟩ q
        * norm256 (fun j => gelu (p b ⟨n.val / 128 * 128 + q.val, by omega⟩ ⟨256 + j.val, by omega⟩)) g c)
      + bias ⟨c.val / 64, by omega⟩ ⟨n.val % 128, by omega⟩)

/-- The second mixer's input times its channel table. -/
def chan (p : Fin 2 → Fin 8192 → Fin 1216 → EReal) (f : Fin 256 → Fin 512 → EReal) (b : Fin 2) (n : Fin 8192)
    (k : Fin 512) : EReal := ∑ j : Fin 256, p b n ⟨512 + j.val, by omega⟩ * f j k

/-- The keys without position and the values of the third mixer, from the compressed row. -/
def expand (p : Fin 2 → Fin 8192 → Fin 1216 → EReal) (g : Fin 128 → EReal) (w : Fin 128 → Fin 1024 → EReal) (b : Fin 2)
    (n : Fin 8192) (k : Fin 1024) : EReal :=
  ∑ j : Fin 128, norm128 (fun j => p b n ⟨1024 + j.val, by omega⟩) g j * w j k

/-- The reciprocal root of a mean square over a head's 192 entries, from their sum. -/
def inv192 (t : EReal) : EReal := Ideal.rsqrt (t * ((1 / 192 : ℝ) : EReal) + Ideal.ofBits .f32 0x358637BD#32)

/-- The lane a rotation pairs with `l`: sixteen away within its group of 32. -/
def partner (l : Fin 128) : Fin 128 :=
  if l.val % 32 < 16 then ⟨(l.val + 16) % 128, Nat.mod_lt _ (by decide)⟩
  else ⟨(l.val + 112) % 128, Nat.mod_lt _ (by decide)⟩

/-- Rotated lanes: each times its cosine, plus its partner times its signed sine. -/
def rot (v c s : Fin 128 → EReal) (l : Fin 128) : EReal := v l * c l + v (partner l) * s l

/-- The lanes of one half, the others zero. -/
def own (p : ℕ) (w : Fin 128 → EReal) (l : Fin 128) : EReal := if l.val / 64 = p then w l else 0

/-- A query's factor: from its lanes without position `n` and its half `p` of its pair's lanes `w`. -/
def qfac (p : ℕ) (n w : Fin 128 → EReal) : EReal :=
  inv192 ((∑ l, n l * n l) + ∑ l, own p w l * own p w l) * Ideal.ofBits .f32 0x3DD53B95#32

/-- A key's factor: from its lanes without position `n` and the shared lanes `w`, which hold their 64 entries twice. -/
def kfac (n w : Fin 128 → EReal) : EReal :=
  inv192 ((∑ l, n l * n l) + Ideal.ofBits .f32 0x3F000000#32 * ∑ l, w l * w l)

/-- The cosine of each lane: groups of 64 hold 32 lanes of the row's angles, then 32 of the column's. -/
def cosl (a b : Fin 16 → EReal) (l : Fin 128) : EReal :=
  if l.val % 64 < 32 then a ⟨l.val % 16, Nat.mod_lt _ (by decide)⟩ else b ⟨l.val % 16, Nat.mod_lt _ (by decide)⟩

/-- The sine of each lane, negated in the first half of each group of 32. -/
def sinl (a b : Fin 16 → EReal) (l : Fin 128) : EReal := if l.val % 32 < 16 then -cosl a b l else cosl a b l

/-- A query's 256 entries: its lanes without position, then its pair's with position, the other head's half zero. -/
def qrow (p : ℕ) (n w : Fin 128 → EReal) (g : Fin 256 → EReal) (c s : Fin 128 → EReal) (l : Fin 256) : EReal :=
  if h : l.val < 128 then n ⟨l.val, h⟩ * qfac p n w * g l
  else rot (fun k => own p w k * qfac p n w * g ⟨128 + k.val, by omega⟩) c s ⟨l.val - 128, by omega⟩

/-- The factor of each shared lane: the even head's in the first half, the odd head's in the second. -/
def kpair (x y : EReal) (l : Fin 128) : EReal := if l.val / 64 = 0 then x else y

/-- A key's 256 entries: its lanes without position `n`, then the shared lanes `w` for its pair's heads, whose lanes
without position are `a` and `b`. -/
def krow (n a b w : Fin 128 → EReal) (g : Fin 256 → EReal) (c s : Fin 128 → EReal) (l : Fin 256) : EReal :=
  if h : l.val < 128 then n ⟨l.val, h⟩ * kfac n w * g l
  else rot (fun k => w k * kpair (kfac a w) (kfac b w) k * g ⟨128 + k.val, by omega⟩) c s ⟨l.val - 128, by omega⟩

theorem qrow_congr (p : ℕ) {n n' w w' : Fin 128 → EReal} {g g' : Fin 256 → EReal} {c c' s s' : Fin 128 → EReal}
    (hn : ∀ l, n l = n' l) (hw : ∀ l, w l = w' l) (hg : ∀ l, g l = g' l) (hc : ∀ l, c l = c' l) (hs : ∀ l, s l = s' l)
    (l : Fin 256) : qrow p n w g c s l = qrow p n' w' g' c' s' l := by
  rw [funext hn, funext hw, funext hg, funext hc, funext hs]

theorem krow_congr {n n' a a' b b' w w' : Fin 128 → EReal} {g g' : Fin 256 → EReal} {c c' s s' : Fin 128 → EReal}
    (hn : ∀ l, n l = n' l) (ha : ∀ l, a l = a' l) (hb : ∀ l, b l = b' l) (hw : ∀ l, w l = w' l) (hg : ∀ l, g l = g' l)
    (hc : ∀ l, c l = c' l) (hs : ∀ l, s l = s' l) (l : Fin 256) :
    krow n a b w g c s l = krow n' a' b' w' g' c' s' l := by
  rw [funext hn, funext ha, funext hb, funext hw, funext hg, funext hc, funext hs]

/-- The entry of a gain each entry of the call's is: the last 64 are there twice. -/
def gcol (j : Fin 256) : Fin 192 := if h : j.val < 192 then ⟨j.val, h⟩ else ⟨j.val - 64, by omega⟩

/-- A row's query of head `h`, from the row's product `z` with the queries' weights, the gain `g`, and the row's angles. -/
def qent (z : Fin 768 → EReal) (g : Fin 192 → EReal) (ca cb sa sb : Fin 16 → EReal) (h : Fin 4) (l : Fin 256) : EReal :=
  qrow (h.val % 2) (fun k => z ⟨192 * h.val + k.val, by omega⟩)
    (fun k => z ⟨192 * (2 * (h.val / 2) + k.val / 64) + 128 + k.val % 64, by omega⟩) (fun l => g (gcol l)) (cosl ca cb)
    (sinl sa sb) l

/-- A row's key of head `h`, from the keys without position in `y`, the shared entries `w`, the gain `g` and the row's
angles. -/
def kent (y : Fin 1024 → EReal) (w : Fin 64 → EReal) (g : Fin 192 → EReal) (ca cb sa sb : Fin 16 → EReal) (h : Fin 4)
    (l : Fin 256) : EReal :=
  krow (fun k => y ⟨256 * h.val + k.val, by omega⟩) (fun k => y ⟨256 * (2 * (h.val / 2)) + k.val, by omega⟩)
    (fun k => y ⟨256 * (2 * (h.val / 2) + 1) + k.val, by omega⟩) (fun k => w ⟨k.val % 64, Nat.mod_lt _ (by decide)⟩)
    (fun l => g (gcol l)) (cosl ca cb) (sinl sa sb) l

/-- The queries' product, from the compressed row. -/
def quer (p : Fin 2 → Fin 8192 → Fin 1216 → EReal) (g : Fin 256 → EReal) (w : Fin 256 → Fin 768 → EReal) (b : Fin 2)
    (n : Fin 8192) (k : Fin 768) : EReal :=
  ∑ j : Fin 256, norm256 (fun j => p b n ⟨768 + j.val, by omega⟩) g j * w j k

/-- A row's cosine or sine at each of the 64 rotated entries: the first angle's for the first half, then the second's. -/
def ang (a b : Fin 16 → EReal) (j : Fin 64) : EReal :=
  if j.val < 32 then a ⟨j.val % 16, Nat.mod_lt _ (by decide)⟩ else b ⟨j.val % 16, Nat.mod_lt _ (by decide)⟩

/-- 64 entries rotated in pairs sixteen apart. -/
def turn (v c s : Fin 64 → EReal) (j : Fin 64) : EReal :=
  if h : j.val % 32 < 16 then v j * c j - v ⟨j.val + 16, by omega⟩ * s j
  else v ⟨j.val - 16, by omega⟩ * s j + v j * c j

/-- A head's 192 entries normalised, times a gain. -/
def unit (z g : Fin 192 → EReal) (k : Fin 192) : EReal := z k * inv192 (∑ k, z k * z k) * g k

/-- A query's row from its head's entries. -/
def qhead (z g : Fin 192 → EReal) (ca cb sa sb : Fin 16 → EReal) (h : Fin 4) (l : Fin 256) : EReal :=
  (if hl : l.val < 128 then unit z g ⟨l.val, by omega⟩
    else if (l.val - 128) / 64 = h.val % 2 then
      turn (fun j => unit z g ⟨128 + j.val, by omega⟩) (ang ca cb) (ang sa sb) ⟨(l.val - 128) % 64, Nat.mod_lt _ (by decide)⟩
    else 0) * Ideal.ofBits .f32 0x3DD53B95#32

/-- A key's row from the heads' entries. -/
def khead (z : Fin 4 → Fin 192 → EReal) (g : Fin 192 → EReal) (ca cb sa sb : Fin 16 → EReal) (h : Fin 4) (l : Fin 256) :
    EReal :=
  if hl : l.val < 128 then unit (z h) g ⟨l.val, by omega⟩
  else turn (fun j => unit (z ⟨2 * (h.val / 2) + (l.val - 128) / 64, by omega⟩) g ⟨128 + j.val, by omega⟩) (ang ca cb)
    (ang sa sb) ⟨(l.val - 128) % 64, Nat.mod_lt _ (by decide)⟩

/-- A key's 192 entries: its head's 128 and the 64 all heads share. -/
def entries (y : Fin 1024 → EReal) (w : Fin 64 → EReal) (h : Fin 4) (k : Fin 192) : EReal :=
  if hk : k.val < 128 then y ⟨256 * h.val + k.val, by omega⟩ else w ⟨k.val - 128, by omega⟩

end Cert.Mix

end
-- ==== Proof.Mix.Pointwise.lean ====
/- The block operations of the input projection call at one index, over the extended reals. -/
module

public import proofs.«01_k».proof.Proof.Gen.Kernel2Ideal.Skeleton
public import proofs.«01_k».proof.Proof.Mix.Spec
public import Idealize.ShloMosaic.Lib.Pointwise
public import Idealize.ShloMosaic.Lib.IdealHost

@[expose] public section

set_option maxRecDepth 16384

noncomputable section

namespace Cert.Kernel2Ideal.Mix

open Cert.Kernel2Ideal Cert.Kernel2Ideal.Gen Idealize.ShloMosaic Cert.Mix
open scoped BigOperators

/-- The projection of a block's rows. -/
theorem pay1_apply (x : Vec Ideal S1x256x1024 .f32) (s h : Vec Ideal S1x1x1024 .f32) (w : Vec Ideal S1024x1280 .bf16)
    (r : Fin 256) (c : Fin 1280) :
    k0_pay1 x s h w (ix2 r c)
      = ∑ d : Fin 1024, hid (fun d => x (ix3 0 r d)) (fun d => s (ix3 0 0 d)) (fun d => h (ix3 0 0 d)) d * w (ix2 d c) := by
  pointwise [k0_pay1, dot_S256x1024_S1024x1280_S256x1280_1_0_0_1_n_n]
  rfl

/-- The first mixer's gate. -/
theorem pay6_apply (x : Vec Ideal S1x256x1024 .f32) (s h : Vec Ideal S1x1x1024 .f32) (w : Vec Ideal S1024x1280 .bf16)
    (r c : Fin 256) :
    k0_pay6 (k0_pay3 x s h w) (k0_pay4 x s h w) (k0_pay5 (F := Ideal)) (ix2 r c)
      = gelu (k0_pay1 x s h w (ix2 r ⟨c.val, by omega⟩)) := by
  pointwise [k0_pay6, k0_pay5, k0_pay4, k0_pay3, k0_pay2]
  rfl

/-- The first mixer's normalised values. -/
theorem pay7_apply (p : FVec Ideal S256x1280 .f32) (g : Vec Ideal S1x256 .f32) (r c : Fin 256) :
    k0_pay7 p g (ix2 r c) = norm256 (fun j => gelu (p (ix2 r ⟨256 + j.val, by omega⟩))) (fun j => g (ix2 0 j)) c := by
  pointwise [k0_pay7]
  rfl

/-- The product with the channel table. -/
theorem pay15_apply (p : FVec Ideal S256x1280 .f32) (f : Vec Ideal S256x512 .bf16) (r : Fin 256) (c : Fin 512) :
    k0_pay15 p f (ix2 r c) = ∑ j : Fin 256, p (ix2 r ⟨512 + j.val, by omega⟩) * f (ix2 j c) := by
  pointwise [k0_pay15, dot_S256x256_S256x512_S256x512_1_0_0_1_n_n]

/-- Its first half. -/
theorem pay17_apply (p : FVec Ideal S256x1280 .f32) (f : Vec Ideal S256x512 .bf16) (r c : Fin 256) :
    k0_pay17 (k0_pay16 p f) (ix3 0 r c) = k0_pay15 p f (ix2 r ⟨c.val, by omega⟩) := by
  pointwise [k0_pay17, k0_pay16]

/-- Its second half. -/
theorem pay18_apply (z : FVec Ideal S256x512 .f32) (r c : Fin 256) :
    k0_pay18 z (ix3 0 r c) = z (ix2 r ⟨256 + c.val, by omega⟩) := by
  pointwise [k0_pay18]

/-- The keys without position and the values, from the compressed row. -/
theorem pay68_apply (p : FVec Ideal S256x1280 .f32) (g : Vec Ideal S1x128 .f32) (w : Vec Ideal S128x1024 .bf16)
    (r : Fin 256) (c : Fin 1024) :
    k0_pay68 (k0_pay65 p) (k0_pay66 p) (k0_pay67 (F := Ideal)) g w (ix2 r c)
      = ∑ j : Fin 128, norm128 (fun j => p (ix2 r ⟨1024 + j.val, by omega⟩)) (fun j => g (ix2 0 j)) j * w (ix2 j c) := by
  pointwise [k0_pay68, k0_pay65, k0_pay66, k0_pay67, dot_S256x128_S128x1024_S256x1024_1_0_0_1_n_n]
  rfl

end Cert.Kernel2Ideal.Mix

end
-- ==== Proof.Mix.Gate.lean ====
/- The first mixer of the input projection call: four heads of token mixing, gated. -/
module

public import proofs.«01_k».proof.Proof.Mix.Pointwise

@[expose] public section

set_option maxRecDepth 16384

noncomputable section

namespace Cert.Kernel2Ideal.Mix

open Cert.Kernel2Ideal Cert.Kernel2Ideal.Gen Idealize.ShloMosaic Cert.Mix
open scoped BigOperators

/-- The head of each lane. -/
def heads : IVec S128x256 32 := k0_pay11 (iota .tc S128x256 32 [1] iota_S128x256_d1_w32) 64#32 k0_pay8 k0_pay9 k0_pay10

theorem heads_apply (r : Fin 128) (c : Fin 256) : heads (ix2 r c) = BitVec.ofNat 32 (c.val / 64) := by
  pointwise [heads, k0_pay11, k0_pay8, k0_pay9, k0_pay10]
  revert c
  decide +kernel

theorem select_eq {α : Type} (a b : BitVec 32) (x y : α) :
    Scalar.select (IntOp.cmpi .eq a b) x y = if a = b then x else y := by
  by_cases h : a = b
  · subst h; simp [IntOp.cmpi, Scalar.select]
  · have e : (a == b) = false := by simpa using h
    simp [IntOp.cmpi, Scalar.select, h, e]

/-- The sum over the stacked heads keeps the rows of the lane's own head. -/
theorem sum_own (h : Fin 4) (f : Fin 512 → EReal) (g : Fin 128 → EReal)
    (own : ∀ q : Fin 128, f ⟨128 * h.val + q.val, by omega⟩ = g q)
    (other : ∀ x : Fin 512, x.val / 128 ≠ h.val → f x = 0) : ∑ x, f x = ∑ q, g q := by
  symm
  refine Fintype.sum_of_injective (fun q : Fin 128 => (⟨128 * h.val + q.val, by omega⟩ : Fin 512)) ?_ _ _ ?_ ?_
  · intro a b e
    have := Fin.val_eq_of_eq e
    exact Fin.ext (by simpa using this)
  · intro x hx
    refine other x fun e => hx ⟨⟨x.val - 128 * h.val, by omega⟩, Fin.ext ?_⟩
    show 128 * h.val + (x.val - 128 * h.val) = x.val
    omega
  · exact fun q => (own q).symm

/-- One stacked entry. -/
theorem stacked (c : Fin 256) (x : Fin 512) (v : Fin 128 → EReal) :
    (if h : x.val < 128 then if BitVec.ofNat 32 (c.val / 64) = 0#32 then v ⟨x.val, h⟩ else 0
      else if h : x.val - 128 < 128 then if BitVec.ofNat 32 (c.val / 64) = 1#32 then v ⟨x.val - 128, h⟩ else 0
      else if h : x.val - 128 - 128 < 128 then if BitVec.ofNat 32 (c.val / 64) = 2#32 then v ⟨x.val - 128 - 128, h⟩ else 0
      else if BitVec.ofNat 32 (c.val / 64) = 3#32 then v ⟨x.val - 128 - 128 - 128, by omega⟩ else 0)
    = if x.val / 128 = c.val / 64 then v ⟨x.val % 128, Nat.mod_lt _ (by decide)⟩ else 0 := by
  have hb : ∀ n : ℕ, n < 4 → ((BitVec.ofNat 32 (c.val / 64) = BitVec.ofNat 32 n) = (c.val / 64 = n)) := by
    intro n hn
    refine propext ⟨fun e => ?_, fun e => by rw [e]⟩
    have := congrArg BitVec.toNat e
    simp only [BitVec.toNat_ofNat] at this
    omega
  simp only [hb 0 (by decide), hb 1 (by decide), hb 2 (by decide), hb 3 (by decide)]
  have key : ∀ (n : ℕ) (k : Fin 128), x.val = 128 * n + k.val →
      (if c.val / 64 = n then v k else 0)
        = if x.val / 128 = c.val / 64 then v ⟨x.val % 128, Nat.mod_lt _ (by decide)⟩ else 0 := by
    intro n k e
    have e1 : x.val / 128 = n := by omega
    have e2 : (⟨x.val % 128, Nat.mod_lt _ (by decide)⟩ : Fin 128) = k := Fin.ext (by show x.val % 128 = k.val; omega)
    rw [e1, e2]
    exact if_congr eq_comm rfl rfl
  by_cases h1 : x.val < 128
  · rw [dif_pos h1]
    exact key 0 ⟨x.val, h1⟩ (by simp)
  rw [dif_neg h1]
  by_cases h2 : x.val - 128 < 128
  · rw [dif_pos h2]
    exact key 1 ⟨x.val - 128, h2⟩ (by show x.val = 128 * 1 + (x.val - 128); omega)
  rw [dif_neg h2]
  by_cases h3 : x.val - 128 - 128 < 128
  · rw [dif_pos h3]
    exact key 2 ⟨x.val - 128 - 128, h3⟩ (by show x.val = 128 * 2 + (x.val - 128 - 128); omega)
  rw [dif_neg h3]
  exact key 3 ⟨x.val - 128 - 128 - 128, by omega⟩ (by show x.val = 128 * 3 + (x.val - 128 - 128 - 128); omega)

/-- The stacked product, read at the lane's own head. -/
theorem stacked_sum (c : Fin 256) (w : Fin 512 → EReal) (v : Fin 128 → EReal) :
    (∑ x : Fin 512, w x *
      if h : x.val < 128 then if BitVec.ofNat 32 (c.val / 64) = 0#32 then v ⟨x.val, h⟩ else 0
      else if h : x.val - 128 < 128 then if BitVec.ofNat 32 (c.val / 64) = 1#32 then v ⟨x.val - 128, h⟩ else 0
      else if h : x.val - 128 - 128 < 128 then if BitVec.ofNat 32 (c.val / 64) = 2#32 then v ⟨x.val - 128 - 128, h⟩ else 0
      else if BitVec.ofNat 32 (c.val / 64) = 3#32 then v ⟨x.val - 128 - 128 - 128, by omega⟩ else 0)
    = ∑ q : Fin 128, w ⟨128 * (c.val / 64) + q.val, by omega⟩ * v q := by
  refine sum_own ⟨c.val / 64, by omega⟩ _ _ (fun q => ?_) (fun x hx => ?_)
  · rw [stacked, if_pos (by show (128 * (c.val / 64) + q.val) / 128 = c.val / 64; omega)]
    congr 2
    exact Fin.ext (by show (128 * (c.val / 64) + q.val) % 128 = q.val; omega)
  · rw [stacked, if_neg hx, mul_zero]

/-- The second half of the block's rows. -/
theorem pay14_apply (u : FVec Ideal S256x256 .f32) (v : FVec Ideal S256x256 .f32)
    (w : Vec Ideal S128x512 .bf16) (b : Vec Ideal S128x256 .f32) (r : Fin 128) (c : Fin 256) :
    k0_pay14 u heads (k0_pay13 v) w b (ix3 0 r c)
      = u (ix2 ⟨128 + r.val, by omega⟩ c)
        * ((∑ q : Fin 128, w (ix2 r ⟨128 * (c.val / 64) + q.val, by omega⟩) * v (ix2 ⟨128 + q.val, by omega⟩ c)) + b (ix2 r c)) := by
  pointwise [k0_pay14, dot_S128x512_S512x256_S128x256_1_0_0_1_n_n]
  simp only [select_eq, heads_apply]
  rw [stacked_sum c (fun x => w (ix2 r x)) (fun q => k0_pay13 v (ix2 q c))]
  pointwise [k0_pay13]

/-- The first half of the block's rows. -/
theorem pay12_apply (u : FVec Ideal S256x256 .f32) (v : FVec Ideal S256x256 .f32)
    (w : Vec Ideal S128x512 .bf16) (b : Vec Ideal S128x256 .f32) (r : Fin 128) (c : Fin 256) :
    k0_pay12 u v (iota .tc S128x256 32 [1] iota_S128x256_d1_w32) 64#32 k0_pay8 k0_pay9 k0_pay10 w b (ix3 0 r c)
      = u (ix2 ⟨r.val, by omega⟩ c)
        * ((∑ q : Fin 128, w (ix2 r ⟨128 * (c.val / 64) + q.val, by omega⟩) * v (ix2 ⟨q.val, by omega⟩ c)) + b (ix2 r c)) := by
  pointwise [k0_pay12, dot_S128x512_S512x256_S128x256_1_0_0_1_n_n]
  have hh := heads_apply
  unfold heads at hh
  simp only [select_eq, hh]
  rw [stacked_sum c (fun x => w (ix2 r x)) (fun q => v (ix2 ⟨q.val, by omega⟩ c))]

end Cert.Kernel2Ideal.Mix

end
-- ==== Proof.Mix.Blocks.lean ====
/- The input projection call's blocks as reads of the arguments, each block a part of its array. -/
module

public import proofs.«01_k».proof.Proof.Mix.Gate
public import proofs.«01_k».proof.Proof.Gen.Kernel2Ideal.Value
public import Idealize.ShloMosaic.Lib.Pipeline.ValueKit.Point
public import Idealize.ShloMosaic.Lib.StableHlo.ReadAt

@[expose] public section

set_option maxRecDepth 16384

noncomputable section

namespace Cert.Kernel2Ideal.Mix

open Cert.Kernel2Ideal Cert.Kernel2Ideal.Gen Cert.Mix
open Idealize.ShloMosaic Idealize.ShloMosaic.TcCoe
open Idealize.SL Idealize.SL.Sem

variable (m : (ℓ : Loc nD τ sig) → Buf (Elt Ideal) ℓ)

/-- The batch entry of a grid point. -/
def ptB (t : Fin cfg0.N) : Fin 2 := grid0.coords t 0
/-- The row block of a grid point. -/
def ptI (t : Fin cfg0.N) : Fin 32 := grid0.coords t 1

theorem index0 : ∀ t : Fin cfg0.N, win0_0.index t = ![(ptB t).val, (ptI t).val, 0] :=
  (by decide +kernel : ∀ t : Fin grid0.N, win0_0.index t = ![(grid0.coords t 0).val, (grid0.coords t 1).val, 0])
theorem index1 : ∀ t : Fin cfg0.N, win0_1.index t = ![(ptB t).val, 0, 0] :=
  (by decide +kernel : ∀ t : Fin grid0.N, win0_1.index t = ![(grid0.coords t 0).val, 0, 0])
theorem index2 : ∀ t : Fin cfg0.N, win0_2.index t = ![(ptB t).val, 0, 0] :=
  (by decide +kernel : ∀ t : Fin grid0.N, win0_2.index t = ![(grid0.coords t 0).val, 0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index11 : ∀ t : Fin cfg0.N, win0_11.index t = ![0, 0] := (by decide +kernel : ∀ t : Fin grid0.N, win0_11.index t = ![0, 0])
theorem index12 : ∀ t : Fin cfg0.N, win0_12.index t = ![0, 0] := (by decide +kernel : ∀ t : Fin grid0.N, win0_12.index t = ![0, 0])
theorem index16 : ∀ t : Fin cfg0.N, win0_16.index t = ![(ptB t).val, (ptI t).val, 0] :=
  (by decide +kernel : ∀ t : Fin grid0.N, win0_16.index t = ![(grid0.coords t 0).val, (grid0.coords t 1).val, 0])
theorem index17 : ∀ t : Fin cfg0.N, win0_17.index t = ![(ptB t).val, (ptI t).val, 0] :=
  (by decide +kernel : ∀ t : Fin grid0.N, win0_17.index t = ![(grid0.coords t 0).val, (grid0.coords t 1).val, 0])
theorem index18 : ∀ t : Fin cfg0.N, win0_18.index t = ![(ptB t).val, (ptI t).val, 0] :=
  (by decide +kernel : ∀ t : Fin grid0.N, win0_18.index t = ![(grid0.coords t 0).val, (grid0.coords t 1).val, 0])
theorem index21 : ∀ t : Fin cfg0.N, win0_21.index t = ![(ptB t).val, 0, (ptI t).val, 0] :=
  (by decide +kernel : ∀ t : Fin grid0.N, win0_21.index t = ![(grid0.coords t 0).val, 0, (grid0.coords t 1).val, 0])

/-- The tokens' block: 256 rows of one batch entry. -/
theorem blk0 (c : Dev nD) (t : Fin cfg0.N) (r : Fin 256) (d : Fin 1024) :
    iblk m c 0 t (ix3 0 r d) = m ((c : Thread nD τ).loc main_arg0) (ix3 (ptB t) ⟨256 * (ptI t).val + r.val, by omega⟩ d) := by
  blk_simp [iblk]
  entry_read
  pointwise
  blk_ext [index0]

/-- The shift of a batch entry. -/
theorem blk1 (c : Dev nD) (t : Fin cfg0.N) (d : Fin 1024) :
    iblk m c 1 t (ix3 0 0 d) = m ((c : Thread nD τ).loc main_arg1) (ix3 (ptB t) 0 d) := by
  blk_simp [iblk]
  entry_read
  pointwise
  blk_ext [index1]

/-- The scale of a batch entry. -/
theorem blk2 (c : Dev nD) (t : Fin cfg0.N) (d : Fin 1024) :
    iblk m c 2 t (ix3 0 0 d) = m ((c : Thread nD τ).loc main_arg2) (ix3 (ptB t) 0 d) := by
  blk_simp [iblk]
  entry_read
  pointwise
  blk_ext [index2]

/-- The first mixer's gain. -/
theorem blk4 (c : Dev nD) (t : Fin cfg0.N) (j : Fin 256) :
    iblk m c 4 t (ix2 0 j) = m ((c : Thread nD τ).loc main_arg4) (ix1 j) := by
  blk_simp [iblk]
  entry_read
  pointwise
  blk_ext [index4]

set_option maxHeartbeats 4000000 in
/-- The first mixer's matrices at the call, side by side. -/
theorem entry5 (c : Dev nD) (p : Fin 128) (h : Fin 4) (q : Fin 128) :
    V m c main_v21 (ix2 p ⟨128 * h.val + q.val, by omega⟩) = m ((c : Thread nD τ).loc main_arg5) (ix3 h p q) := by
  unfold V
  after_reads_at
  after_reads_at
  have hh : ∀ (n : Fin 4) (x : Fin 128), 128 * h.val + q.val = 128 * n.val + x.val →
      m ((c : Thread nD τ).loc main_arg5) (ix3 n p x) = m ((c : Thread nD τ).loc main_arg5) (ix3 h p q) := by
    intro n x e
    have e1 : n = h := Fin.ext (by omega)
    have e2 : x = q := Fin.ext (by omega)
    rw [e1, e2]
  by_cases h1 : 128 * h.val + q.val < 128
  · rw [dif_pos h1]
    exact hh 0 ⟨_, h1⟩ (by simp)
  rw [dif_neg h1]
  by_cases h2 : 128 * h.val + q.val - 128 < 128
  · rw [dif_pos h2]
    exact hh 1 ⟨_, h2⟩ (by show _ = 128 * 1 + (128 * h.val + q.val - 128); omega)
  rw [dif_neg h2]
  by_cases h3 : 128 * h.val + q.val - 128 - 128 < 128
  · rw [dif_pos h3]
    exact hh 2 ⟨_, h3⟩ (by show _ = 128 * 2 + (128 * h.val + q.val - 128 - 128); omega)
  rw [dif_neg h3]
  exact hh 3 ⟨_, by omega⟩ (by show _ = 128 * 3 + (128 * h.val + q.val - 128 - 128 - 128); omega)

theorem blk5 (c : Dev nD) (t : Fin cfg0.N) (p : Fin 128) (h : Fin 4) (q : Fin 128) :
    iblk m c 5 t (ix2 p ⟨128 * h.val + q.val, by omega⟩) = m ((c : Thread nD τ).loc main_arg5) (ix3 h p q) := by
  refine Eq.trans ?_ (entry5 m c p h q)
  blk_simp [iblk]
  blk_ext [index5]

/-- The first mixer's biases, one per head. -/
theorem blk6 (c : Dev nD) (t : Fin cfg0.N) (p : Fin 128) (j : Fin 256) :
    iblk m c 6 t (ix2 p j) = m ((c : Thread nD τ).loc main_arg6) (ix2 ⟨j.val / 64, by omega⟩ p) := by
  blk_simp [iblk]
  entry_read
  pointwise
  blk_ext [index6]

/-- The channel table. -/
theorem blk7 (c : Dev nD) (t : Fin cfg0.N) (j : Fin 256) (k : Fin 512) :
    iblk m c 7 t (ix2 j k) = m ((c : Thread nD τ).loc main_arg7) (ix2 j k) := by
  blk_simp [iblk]
  entry_read
  pointwise
  blk_ext [index7]

/-- The compressed row's gain. -/
theorem blk11 (c : Dev nD) (t : Fin cfg0.N) (j : Fin 128) :
    iblk m c 11 t (ix2 0 j) = m ((c : Thread nD τ).loc main_arg10) (ix1 j) := by
  blk_simp [iblk]
  entry_read
  pointwise
  blk_ext [index11]

/-- The compressed row's weights. -/
theorem blk12 (c : Dev nD) (t : Fin cfg0.N) (j : Fin 128) (k : Fin 1024) :
    iblk m c 12 t (ix2 j k) = m ((c : Thread nD τ).loc main_arg11) (ix2 j k) := by
  blk_simp [iblk]
  entry_read
  pointwise
  blk_ext [index12]

end Cert.Kernel2Ideal.Mix

end
-- ==== Proof.Mix.Rotary.lean ====
/- The block operations behind the queries and the keys of the input projection call, at one index. -/
module

public import proofs.«01_k».proof.Proof.Mix.Gate

@[expose] public section

set_option maxRecDepth 16384

noncomputable section

namespace Cert.Kernel2Ideal.Mix

open Cert.Kernel2Ideal Cert.Kernel2Ideal.Gen Idealize.ShloMosaic Cert.Mix
open scoped BigOperators

theorem named_eq : Named.named (F := Ideal) κ "inv_qk_dim" (φ := .f32) 0x3BAAAAAB#32 = ((1 / 192 : ℝ) : EReal) :=
  IdealRules.named_const.ideal_named_scalar _ _ _ _ rfl

theorem select_one {α : Type} (b : BitVec 1) (P : Prop) [Decidable P] (x y : α) (h : b = if P then 1#1 else 0#1) :
    Scalar.select b x y = if P then x else y := by
  subst h
  by_cases hP : P
  · simp [Scalar.select, hP]
  · simp [Scalar.select, hP]

theorem select_first {α : Type} (l : Fin 128) (x y : α) :
    Scalar.select (IntOp.cmpi .slt (BitVec.ofNat 32 l.val) 64#32) x y = if l.val / 64 = 0 then x else y :=
  select_one _ _ x y (by revert l; decide +kernel)

theorem select_second {α : Type} (l : Fin 128) (x y : α) :
    Scalar.select (IntOp.xori (IntOp.cmpi .slt (BitVec.ofNat 32 l.val) 64#32) 1#1) x y
      = if l.val / 64 = 1 then x else y :=
  select_one _ _ x y (by revert l; decide +kernel)

/-- The lane's place in its group of 32 is below 16. -/
def low (l : Fin 128) : BitVec 1 :=
  IntOp.cmpi .slt
    (Scalar.select
      (IntOp.andi
        (IntOp.xori
          (IntOp.cmpi .slt
            (IntOp.remsi .vector (BitVec.ofNat 32 l.val) (Scalar.select (Scalar.cmpi .eq 32#32 0#32) 1#32 32#32)) 0#32)
          (Scalar.cmpi .slt (Scalar.select (Scalar.cmpi .eq 32#32 0#32) 1#32 32#32) 0#32))
        (IntOp.cmpi .ne
          (IntOp.remsi .vector (BitVec.ofNat 32 l.val) (Scalar.select (Scalar.cmpi .eq 32#32 0#32) 1#32 32#32)) 0#32))
      (IntOp.addi
        (IntOp.remsi .vector (BitVec.ofNat 32 l.val) (Scalar.select (Scalar.cmpi .eq 32#32 0#32) 1#32 32#32))
        (Scalar.select (Scalar.cmpi .eq 32#32 0#32) 1#32 32#32))
      (IntOp.remsi .vector (BitVec.ofNat 32 l.val) (Scalar.select (Scalar.cmpi .eq 32#32 0#32) 1#32 32#32)))
    16#32

theorem low_eq (l : Fin 128) : low l = if l.val % 32 < 16 then 1#1 else 0#1 := by
  revert l
  decide +kernel

theorem rot_of_low (v c s : Fin 128 → EReal) (l : Fin 128) :
    v l * c l + Scalar.select (low l) (v ⟨(l.val + 128 - 112) % 128, Nat.mod_lt _ (by decide)⟩)
      (v ⟨(l.val + 128 - 16) % 128, Nat.mod_lt _ (by decide)⟩) * s l = rot v c s l := by
  rw [select_one _ _ _ _ (low_eq l)]
  unfold rot partner
  by_cases h : l.val % 32 < 16
  · rw [if_pos h, if_pos h]
    rfl
  · rw [if_neg h, if_neg h]
    rfl

theorem nested {α : Type} (P : Prop) [Decidable P] (x y : α) : (if P then if P then x else y else y) = if P then x else y := by
  by_cases h : P
  · simp [h]
  · simp [h]

theorem own_mul (p : ℕ) (w : Fin 128 → EReal) (l : Fin 128) :
    own p w l * own p w l = if l.val / 64 = p then w l * w l else 0 := by
  unfold own
  by_cases h : l.val / 64 = p
  · simp only [if_pos h]
  · simp only [if_neg h, mul_zero]

section Queries

variable (cT sT : FVec Ideal S256x128 .f32) (g : FVec Ideal S1x256 .f32) (z : FVec Ideal S256x768 .f32) (r : Fin 256)

/-- Head `h`'s lanes without position, and its pair's lanes with it. -/
def qn (h : ℕ) (hh : h < 4) (l : Fin 128) : EReal := z (ix2 r ⟨128 * h + l.val, by omega⟩)
def qw (m : ℕ) (hm : m < 2) (l : Fin 128) : EReal := z (ix2 r ⟨512 + 128 * m + l.val, by omega⟩)

theorem pay41_apply : k0_pay41 k0_pay19 z (ix2 r 0) = qfac 1 (qn z r 1 (by decide)) (qw z r 0 (by decide)) := by
  pointwise [k0_pay41, k0_pay40, k0_pay39, k0_pay19]
  simp only [select_second, nested, named_eq]
  unfold qfac inv192
  simp only [own_mul]
  rfl

theorem pay40_apply (l : Fin 128) : k0_pay40 k0_pay19 z (ix2 r l) = own 1 (qw z r 0 (by decide)) l := by
  pointwise [k0_pay40, k0_pay19]
  simp only [select_second]
  rfl

theorem pay44_apply (q : FVec Ideal S256x128 .f32) (s : FVec Ideal S256x1 .f32) (l : Fin 128) :
    k0_pay44 cT sT g q s (ix4 0 0 r l)
      = rot (fun l => q (ix2 r l) * s (ix2 r 0) * g (ix2 0 ⟨128 + l.val, by omega⟩)) (fun l => cT (ix2 r l))
          (fun l => sT (ix2 r l)) l := by
  refine Eq.trans ?_ (rot_of_low _ _ _ l)
  pointwise [k0_pay44]
  rfl

theorem pay43_apply (l : Fin 128) : k0_pay43 (k0_pay42 k0_pay19 z g) (ix4 0 0 r l)
    = qn z r 1 (by decide) l * k0_pay41 k0_pay19 z (ix2 r 0) * g (ix2 0 ⟨l.val, by omega⟩) := by
  pointwise [k0_pay43, k0_pay42, k0_pay39]
  rfl

theorem pay61_apply : k0_pay61 k0_pay19 z (ix2 r 0) = qfac 1 (qn z r 3 (by decide)) (qw z r 1 (by decide)) := by
  pointwise [k0_pay61, k0_pay60, k0_pay59, k0_pay19]
  simp only [select_second, nested, named_eq]
  unfold qfac inv192
  simp only [own_mul]
  rfl

theorem pay60_apply (l : Fin 128) : k0_pay60 k0_pay19 z (ix2 r l) = own 1 (qw z r 1 (by decide)) l := by
  pointwise [k0_pay60, k0_pay19]
  simp only [select_second]
  rfl

theorem pay64_apply (q : FVec Ideal S256x128 .f32) (s : FVec Ideal S256x1 .f32) (l : Fin 128) :
    k0_pay64 cT sT g q s (ix4 0 0 r l)
      = rot (fun l => q (ix2 r l) * s (ix2 r 0) * g (ix2 0 ⟨128 + l.val, by omega⟩)) (fun l => cT (ix2 r l))
          (fun l => sT (ix2 r l)) l := by
  refine Eq.trans ?_ (rot_of_low _ _ _ l)
  pointwise [k0_pay64]
  rfl

theorem pay63_apply (l : Fin 128) : k0_pay63 (k0_pay62 k0_pay19 z g) (ix4 0 0 r l)
    = qn z r 3 (by decide) l * k0_pay61 k0_pay19 z (ix2 r 0) * g (ix2 0 ⟨l.val, by omega⟩) := by
  pointwise [k0_pay63, k0_pay62, k0_pay59]
  rfl

theorem pay48_apply : k0_pay48 (k0_pay46 k0_pay19 z) (k0_pay47 z) (ix2 r 0)
    = qfac 0 (qn z r 2 (by decide)) (qw z r 1 (by decide)) := by
  pointwise [k0_pay48, k0_pay46, k0_pay47, k0_pay45, k0_pay19]
  simp only [select_first, nested, named_eq]
  unfold qfac inv192
  simp only [own_mul]
  rfl

theorem pay46_apply (l : Fin 128) : k0_pay46 k0_pay19 z (ix2 r l) = own 0 (qw z r 1 (by decide)) l := by
  pointwise [k0_pay46, k0_pay19]
  simp only [select_first]
  rfl

theorem pay49_apply (q e : FVec Ideal S256x128 .f32) (l : Fin 128) : k0_pay49 g (k0_pay45 z) q e (ix4 0 0 r l)
    = qn z r 2 (by decide) l * k0_pay48 q e (ix2 r 0) * g (ix2 0 ⟨l.val, by omega⟩) := by
  pointwise [k0_pay49, k0_pay45]
  rfl

theorem pay58_apply (q e : FVec Ideal S256x128 .f32) (l : Fin 128) :
    k0_pay58 sT (k0_pay51 cT g q e) (k0_pay52 g q e) (k0_pay53 g q e)
        (Scalar.select (Scalar.cmpi .eq 32#32 0#32) 1#32 32#32) k0_pay54 k0_pay55 k0_pay56 k0_pay57 (ix4 0 0 r l)
      = rot (fun l => q (ix2 r l) * k0_pay48 q e (ix2 r 0) * g (ix2 0 ⟨128 + l.val, by omega⟩))
          (fun l => cT (ix2 r l)) (fun l => sT (ix2 r l)) l := by
  refine Eq.trans ?_ (rot_of_low _ _ _ l)
  pointwise [k0_pay58, k0_pay51, k0_pay52, k0_pay53, k0_pay54, k0_pay55, k0_pay56, k0_pay57, k0_pay50]
  rfl

theorem pay29_apply (n w : FVec Ideal S256x128 .f32) : k0_pay29 n w k0_pay26 k0_pay27 (ix2 r 0)
    = qfac 0 (fun l => n (ix2 r l)) (fun l => w (ix2 r l)) := by
  pointwise [k0_pay29, k0_pay28, k0_pay26, k0_pay27, k0_pay19]
  simp only [select_first, nested, named_eq]
  unfold qfac inv192
  simp only [own_mul]

theorem pay28_apply (w : FVec Ideal S256x128 .f32) (l : Fin 128) :
    k0_pay28 w k0_pay26 k0_pay27 (ix2 r l) = own 0 (fun l => w (ix2 r l)) l := by
  pointwise [k0_pay28, k0_pay26, k0_pay27, k0_pay19]
  simp only [select_first]
  rfl

theorem pay30_apply (n w : FVec Ideal S256x128 .f32) (i : IVec S256x128 1) (o : FVec Ideal S256x128 .f32) (l : Fin 128) :
    k0_pay30 g n w i o (ix4 0 0 r l) = n (ix2 r l) * k0_pay29 n w i o (ix2 r 0) * g (ix2 0 ⟨l.val, by omega⟩) := by
  pointwise [k0_pay30]

theorem pay38_apply (n w : FVec Ideal S256x128 .f32) (i : IVec S256x128 1) (o : FVec Ideal S256x128 .f32) (l : Fin 128) :
    k0_pay38 sT (k0_pay32 cT g n w i o) (k0_pay33 g n w i o) (k0_pay34 g n w i o)
        (Scalar.select (Scalar.cmpi .eq 32#32 0#32) 1#32 32#32) k0_pay35 k0_pay36 k0_pay37
        (Scalar.cmpi .slt (Scalar.select (Scalar.cmpi .eq 32#32 0#32) 1#32 32#32) 0#32) (ix4 0 0 r l)
      = rot (fun l => k0_pay28 w i o (ix2 r l) * k0_pay29 n w i o (ix2 r 0) * g (ix2 0 ⟨128 + l.val, by omega⟩))
          (fun l => cT (ix2 r l)) (fun l => sT (ix2 r l)) l := by
  refine Eq.trans ?_ (rot_of_low _ _ _ l)
  pointwise [k0_pay38, k0_pay32, k0_pay33, k0_pay34, k0_pay35, k0_pay36, k0_pay37, k0_pay31]
  rfl

/-- The queries' product. -/
theorem pay22_apply (p : FVec Ideal S256x1280 .f32) (a : Vec Ideal S1x256 .f32) (w : Vec Ideal S256x768 .bf16)
    (c : Fin 768) :
    k0_pay22 p a w (ix2 r c)
      = ∑ j : Fin 256, norm256 (fun j => p (ix2 r ⟨768 + j.val, by omega⟩)) (fun j => a (ix2 0 j)) j * w (ix2 j c) := by
  pointwise [k0_pay22, dot_S256x256_S256x768_S256x768_1_0_0_1_n_n]
  rfl

theorem pay24_apply (p : FVec Ideal S256x1280 .f32) (a : Vec Ideal S1x256 .f32) (w : Vec Ideal S256x768 .bf16)
    (l : Fin 128) : k0_pay24 p a w (ix2 r l) = qn (k0_pay22 p a w) r 0 (by decide) l := by
  unfold qn
  generalize hz : k0_pay22 p a w = y
  pointwise [k0_pay24]
  rw [hz]

theorem pay25_apply (p : FVec Ideal S256x1280 .f32) (a : Vec Ideal S1x256 .f32) (w : Vec Ideal S256x768 .bf16)
    (l : Fin 128) : k0_pay25 p a w (ix2 r l) = qw (k0_pay22 p a w) r 0 (by decide) l := by
  unfold qw
  generalize hz : k0_pay22 p a w = y
  pointwise [k0_pay25]
  rw [hz]

end Queries

section Keys

variable (cT sT : FVec Ideal S256x128 .f32) (g : Vec Ideal S1x256 .f32) (z : FVec Ideal S256x1024 .f32)
  (p : FVec Ideal S256x1280 .f32) (r : Fin 256)

/-- Head `h`'s lanes without position, and the rotary lanes the heads share. -/
def kn (h : ℕ) (hh : h < 4) (l : Fin 128) : EReal := z (ix2 r ⟨256 * h + l.val, by omega⟩)
def kw (l : Fin 128) : EReal := p (ix2 r ⟨1152 + l.val, by omega⟩)

theorem pay78_apply : k0_pay78 z (k0_pay70 p) (ix2 r 0) = kfac (kn z r 1 (by decide)) (kw p r) := by
  pointwise [k0_pay78, k0_pay77, k0_pay70, k0_pay69]
  rw [named_eq]
  rfl

theorem pay82_apply : k0_pay82 z (k0_pay70 p) (ix2 r 0) = kfac (kn z r 2 (by decide)) (kw p r) := by
  pointwise [k0_pay82, k0_pay81, k0_pay70, k0_pay69]
  rw [named_eq]
  rfl

theorem pay88_apply : k0_pay88 z (k0_pay70 p) (ix2 r 0) = kfac (kn z r 3 (by decide)) (kw p r) := by
  pointwise [k0_pay88, k0_pay87, k0_pay70, k0_pay69]
  rw [named_eq]
  rfl

theorem pay79_apply (e : FVec Ideal S256x1 .f32) (l : Fin 128) : k0_pay79 z e g (ix4 0 0 r l)
    = kn z r 1 (by decide) l * k0_pay78 z e (ix2 r 0) * g (ix2 0 ⟨l.val, by omega⟩) := by
  pointwise [k0_pay79, k0_pay77]
  rfl

theorem pay85_apply (e : FVec Ideal S256x1 .f32) (l : Fin 128) : k0_pay85 (k0_pay83 z e) (k0_pay84 g) (ix4 0 0 r l)
    = kn z r 2 (by decide) l * k0_pay82 z e (ix2 r 0) * g (ix2 0 ⟨l.val, by omega⟩) := by
  pointwise [k0_pay85, k0_pay83, k0_pay84, k0_pay81]
  rfl

theorem pay89_apply (e : FVec Ideal S256x1 .f32) (l : Fin 128) : k0_pay89 z e g (ix4 0 0 r l)
    = kn z r 3 (by decide) l * k0_pay88 z e (ix2 r 0) * g (ix2 0 ⟨l.val, by omega⟩) := by
  pointwise [k0_pay89, k0_pay87]
  rfl

variable (a : Vec Ideal S1x128 .f32) (w : Vec Ideal S128x1024 .bf16)

theorem pay72_apply (q : FVec Ideal S256x128 .f32) (e f : FVec Ideal S256x1 .f32) (l : Fin 128) :
    k0_pay72 q e f a w (ix2 r l) = kn (k0_pay68 q e f a w) r 0 (by decide) l := by
  unfold kn
  generalize hz : k0_pay68 q e f a w = y
  pointwise [k0_pay72]
  rw [hz]

theorem pay73_apply (q : FVec Ideal S256x128 .f32) (e f : FVec Ideal S256x1 .f32) :
    k0_pay73 p q e f a w (ix2 r 0) = kfac (kn (k0_pay68 q e f a w) r 0 (by decide)) (kw p r) := by
  unfold kfac
  simp only [← pay72_apply]
  generalize hz : k0_pay72 q e f a w = y
  pointwise [k0_pay73, k0_pay70, k0_pay69]
  rw [named_eq, hz]
  rfl

theorem pay74_apply (q : FVec Ideal S256x128 .f32) (e f : FVec Ideal S256x1 .f32) (l : Fin 128) :
    k0_pay74 p q e f a w g (ix4 0 0 r l)
      = kn (k0_pay68 q e f a w) r 0 (by decide) l * k0_pay73 p q e f a w (ix2 r 0) * g (ix2 0 ⟨l.val, by omega⟩) := by
  rw [← pay72_apply]
  generalize hy : k0_pay72 q e f a w = y
  generalize ht : k0_pay73 p q e f a w = t
  pointwise [k0_pay74, k0_pay71]
  rw [hy, ht]

theorem pay93_apply (x y : FVec Ideal S256x1 .f32) (l : Fin 128) :
    k0_pay93 cT sT (k0_pay69 p) g y (k0_pay91 k0_pay19) (k0_pay92 x) (ix2 r l)
      = rot (fun l => kw p r l * kpair (x (ix2 r 0)) (y (ix2 r 0)) l * g (ix2 0 ⟨128 + l.val, by omega⟩))
          (fun l => cT (ix2 r l)) (fun l => sT (ix2 r l)) l := by
  have e : ∀ l : Fin 128, kpair (x (ix2 r 0)) (y (ix2 r 0)) l
      = Scalar.select (IntOp.cmpi .slt (BitVec.ofNat 32 l.val) 64#32) (x (ix2 r 0)) (y (ix2 r 0)) :=
    fun l => (select_first l _ _).symm
  simp only [e]
  refine Eq.trans ?_ (rot_of_low _ _ _ l)
  pointwise [k0_pay93, k0_pay91, k0_pay92, k0_pay69, k0_pay19]
  rfl

theorem pay97_apply (x y : FVec Ideal S256x1 .f32) (l : Fin 128) :
    k0_pay97 cT sT (k0_pay69 p) g x y (k0_pay96 k0_pay19) (ix2 r l)
      = rot (fun l => kw p r l * kpair (x (ix2 r 0)) (y (ix2 r 0)) l * g (ix2 0 ⟨128 + l.val, by omega⟩))
          (fun l => cT (ix2 r l)) (fun l => sT (ix2 r l)) l := by
  have e : ∀ l : Fin 128, kpair (x (ix2 r 0)) (y (ix2 r 0)) l
      = Scalar.select (IntOp.cmpi .slt (BitVec.ofNat 32 l.val) 64#32) (x (ix2 r 0)) (y (ix2 r 0)) :=
    fun l => (select_first l _ _).symm
  simp only [e]
  refine Eq.trans ?_ (rot_of_low _ _ _ l)
  pointwise [k0_pay97, k0_pay96, k0_pay69, k0_pay19]
  rfl

theorem lift_apply (y : FVec Ideal S256x128 .bf16) (l : Fin 128) :
    shapeCast S1x1x256x128 y shapeCasts_S256x128_S1x1x256x128 (ix4 0 0 r l) = y (ix2 r l) := by
  pointwise []

theorem pay94_apply (x y : FVec Ideal S256x1 .f32) (l : Fin 128) :
    k0_pay94 cT sT (k0_pay69 p) g y (k0_pay91 k0_pay19) (k0_pay92 x) (ix4 0 0 r l)
      = rot (fun l => kw p r l * kpair (x (ix2 r 0)) (y (ix2 r 0)) l * g (ix2 0 ⟨128 + l.val, by omega⟩))
          (fun l => cT (ix2 r l)) (fun l => sT (ix2 r l)) l :=
  (lift_apply r _ l).trans (pay93_apply cT sT g p r x y l)

theorem pay95_apply (x y : FVec Ideal S256x1 .f32) (l : Fin 128) :
    k0_pay95 cT sT (k0_pay69 p) g y (k0_pay91 k0_pay19) (k0_pay92 x) (ix4 0 0 r l)
      = rot (fun l => kw p r l * kpair (x (ix2 r 0)) (y (ix2 r 0)) l * g (ix2 0 ⟨128 + l.val, by omega⟩))
          (fun l => cT (ix2 r l)) (fun l => sT (ix2 r l)) l :=
  (lift_apply r _ l).trans (pay93_apply cT sT g p r x y l)

theorem pay98_apply (x y : FVec Ideal S256x1 .f32) (l : Fin 128) :
    k0_pay98 cT sT (k0_pay69 p) g x y (k0_pay96 k0_pay19) (ix4 0 0 r l)
      = rot (fun l => kw p r l * kpair (x (ix2 r 0)) (y (ix2 r 0)) l * g (ix2 0 ⟨128 + l.val, by omega⟩))
          (fun l => cT (ix2 r l)) (fun l => sT (ix2 r l)) l :=
  (lift_apply r _ l).trans (pay97_apply cT sT g p r x y l)

theorem pay99_apply (x y : FVec Ideal S256x1 .f32) (l : Fin 128) :
    k0_pay99 cT sT (k0_pay69 p) g x y (k0_pay96 k0_pay19) (ix4 0 0 r l)
      = rot (fun l => kw p r l * kpair (x (ix2 r 0)) (y (ix2 r 0)) l * g (ix2 0 ⟨128 + l.val, by omega⟩))
          (fun l => cT (ix2 r l)) (fun l => sT (ix2 r l)) l :=
  (lift_apply r _ l).trans (pay97_apply cT sT g p r x y l)

end Keys

end Cert.Kernel2Ideal.Mix

end
-- ==== Proof.Mix.Tables.lean ====
/- The blocks whose arrays the call's surroundings rearrange: columns, gains and tables of angles. -/
module

public import proofs.«01_k».proof.Proof.Mix.Blocks
public import proofs.«01_k».proof.Proof.Mix.Rotary

@[expose] public section

set_option maxRecDepth 16384

noncomputable section

namespace Cert.Kernel2Ideal.Mix

open Cert.Kernel2Ideal Cert.Kernel2Ideal.Gen Cert.Mix
open Idealize.ShloMosaic Idealize.ShloMosaic.TcCoe
open Idealize.SL Idealize.SL.Sem

variable (m : (ℓ : Loc nD τ sig) → Buf (Elt Ideal) ℓ)

theorem index8 : ∀ t : Fin cfg0.N, win0_8.index t = ![0, 0] :=
  (by decide +kernel : ∀ t : Fin grid0.N, win0_8.index t = ![0, 0])
theorem index9 : ∀ t : Fin cfg0.N, win0_9.index t = ![0, 0] :=
  (by decide +kernel : ∀ t : Fin grid0.N, win0_9.index t = ![0, 0])
theorem index10 : ∀ t : Fin cfg0.N, win0_10.index t = ![0, 0] :=
  (by decide +kernel : ∀ t : Fin grid0.N, win0_10.index t = ![0, 0])
theorem index13 : ∀ t : Fin cfg0.N, win0_13.index t = ![0, 0] :=
  (by decide +kernel : ∀ t : Fin grid0.N, win0_13.index t = ![0, 0])
theorem index14 : ∀ t : Fin cfg0.N, win0_14.index t = ![(ptI t).val, 0] :=
  (by decide +kernel : ∀ t : Fin grid0.N, win0_14.index t = ![(grid0.coords t 1).val, 0])
theorem index15 : ∀ t : Fin cfg0.N, win0_15.index t = ![(ptI t).val, 0] :=
  (by decide +kernel : ∀ t : Fin grid0.N, win0_15.index t = ![(grid0.coords t 1).val, 0])
theorem index19 : ∀ t : Fin cfg0.N, win0_19.index t = ![(ptB t).val, 0, (ptI t).val, 0] :=
  (by decide +kernel : ∀ t : Fin grid0.N, win0_19.index t = ![(grid0.coords t 0).val, 0, (grid0.coords t 1).val, 0])
theorem index20 : ∀ t : Fin cfg0.N, win0_20.index t = ![(ptB t).val, 0, (ptI t).val, 0] :=
  (by decide +kernel : ∀ t : Fin grid0.N, win0_20.index t = ![(grid0.coords t 0).val, 0, (grid0.coords t 1).val, 0])

/-- The column of the projection weights each column of the call's is: the last 64 are there twice. -/
def wcol (j : Fin 1280) : Fin 1216 := if h : j.val < 1216 then ⟨j.val, h⟩ else ⟨j.val - 64, by omega⟩

/-- The column of the queries' weights each column of the call's is: the lanes without position of all heads first. -/
def ucol (j : Fin 768) : Fin 768 :=
  if h : j.val < 512 then ⟨j.val / 128 * 192 + j.val % 128, by omega⟩
  else ⟨(j.val - 512) / 64 * 192 + (128 + (j.val - 512) % 64), by omega⟩

theorem wcol_read (f : Fin 1216 → EReal) (j : Fin 1280) :
    (if h : j.val < 1152 then f ⟨j.val, by omega⟩
      else if h : j.val - 1152 < 64 then f ⟨1152 + (j.val - 1152), by omega⟩
      else f ⟨1152 + (j.val - 1152 - 64), by omega⟩) = f (wcol j) := by
  unfold wcol
  split_ifs <;>
    first | omega | exact congrArg f (Fin.ext (by first | rfl | omega | (dsimp only; omega)))

theorem ucol_read (f : Fin 768 → EReal) (j : Fin 768) :
    (if h : j.val < 512 then f ⟨j.val / 128 * 192 + j.val % 128, by omega⟩
      else f ⟨(j.val - 512) / 64 * 192 + (128 + (j.val - 512) % 64), by omega⟩) = f (ucol j) := by
  unfold ucol
  split_ifs <;> rfl

theorem gcol_read (f : Fin 192 → EReal) (j : Fin 256) :
    (if h : j.val < 128 then f ⟨j.val, by omega⟩
      else if h : j.val - 128 < 64 then f ⟨128 + (j.val - 128), by omega⟩
      else f ⟨128 + (j.val - 128 - 64), by omega⟩) = f (gcol j) := by
  unfold gcol
  split_ifs <;>
    first | omega | exact congrArg f (Fin.ext (by first | rfl | omega | (dsimp only; omega)))

theorem cosl_read (a b : Fin 16 → EReal) (j : Fin 128) :
    (if h : j.val < 64 then
        if h : j.val < 16 then a ⟨j.val, by omega⟩
        else if h : j.val - 16 < 16 then a ⟨j.val - 16, by omega⟩
        else if h : j.val - 16 - 16 < 16 then b ⟨j.val - 16 - 16, by omega⟩
        else b ⟨j.val - 16 - 16 - 16, by omega⟩
      else
        if h : j.val - 64 < 16 then a ⟨j.val - 64, by omega⟩
        else if h : j.val - 64 - 16 < 16 then a ⟨j.val - 64 - 16, by omega⟩
        else if h : j.val - 64 - 16 - 16 < 16 then b ⟨j.val - 64 - 16 - 16, by omega⟩
        else b ⟨j.val - 64 - 16 - 16 - 16, by omega⟩) = cosl a b j := by
  unfold cosl
  split_ifs <;>
    first | omega | (exact congrArg a (Fin.ext (by first | rfl | omega | (dsimp only; omega)))) | (exact congrArg b (Fin.ext (by first | rfl | omega | (dsimp only; omega))))

theorem sinl_read (a b : Fin 16 → EReal) (j : Fin 128) :
    (if h : j.val < 64 then
        if h : j.val < 16 then -a ⟨j.val, by omega⟩
        else if h : j.val - 16 < 16 then a ⟨j.val - 16, by omega⟩
        else if h : j.val - 16 - 16 < 16 then -b ⟨j.val - 16 - 16, by omega⟩
        else b ⟨j.val - 16 - 16 - 16, by omega⟩
      else
        if h : j.val - 64 < 16 then -a ⟨j.val - 64, by omega⟩
        else if h : j.val - 64 - 16 < 16 then a ⟨j.val - 64 - 16, by omega⟩
        else if h : j.val - 64 - 16 - 16 < 16 then -b ⟨j.val - 64 - 16 - 16, by omega⟩
        else b ⟨j.val - 64 - 16 - 16 - 16, by omega⟩) = sinl a b j := by
  unfold sinl cosl
  split_ifs <;>
    first | omega | (exact congrArg a (Fin.ext (by first | rfl | omega | (dsimp only; omega)))) | (exact congrArg b (Fin.ext (by first | rfl | omega | (dsimp only; omega)))) | (exact congrArg (fun i => -a i) (Fin.ext (by first | rfl | omega | (dsimp only; omega)))) | (exact congrArg (fun i => -b i) (Fin.ext (by first | rfl | omega | (dsimp only; omega))))

/-- The projection weights at the call. -/
theorem entry3 (c : Dev nD) (d : Fin 1024) (j : Fin 1280) : V m c main_v3 (ix2 d j) = m ((c : Thread nD τ).loc main_arg3) (ix2 d (wcol j)) := by
  unfold V
  after_reads_at
  after_reads_at
  exact wcol_read (fun k => m ((c : Thread nD τ).loc main_arg3) (ix2 d k)) j

theorem blk3 (c : Dev nD) (t : Fin cfg0.N) (d : Fin 1024) (j : Fin 1280) : iblk m c 3 t (ix2 d j) = m ((c : Thread nD τ).loc main_arg3) (ix2 d (wcol j)) := by
  refine Eq.trans ?_ (entry3 m c d j)
  blk_simp [iblk]
  blk_ext [index3]

/-- The gain of the queries' compressed row. -/
theorem blk8 (c : Dev nD) (t : Fin cfg0.N) (j : Fin 256) : iblk m c 8 t (ix2 0 j) = m ((c : Thread nD τ).loc main_arg8) (ix1 j) := by
  blk_simp [iblk]
  entry_read
  pointwise
  blk_ext [index8]

/-- The queries' weights at the call. -/
theorem entry9 (c : Dev nD) (d : Fin 256) (j : Fin 768) : V m c main_v10 (ix2 d j) = m ((c : Thread nD τ).loc main_arg9) (ix2 d (ucol j)) := by
  unfold V
  after_reads_at
  after_reads_at
  exact ucol_read (fun k => m ((c : Thread nD τ).loc main_arg9) (ix2 d k)) j

theorem blk9 (c : Dev nD) (t : Fin cfg0.N) (d : Fin 256) (j : Fin 768) : iblk m c 9 t (ix2 d j) = m ((c : Thread nD τ).loc main_arg9) (ix2 d (ucol j)) := by
  refine Eq.trans ?_ (entry9 m c d j)
  blk_simp [iblk]
  blk_ext [index9]

/-- The queries' gain at the call. -/
theorem entry10 (c : Dev nD) (j : Fin 256) : V m c main_v31 (ix2 0 j) = m ((c : Thread nD τ).loc main_arg12) (ix1 (gcol j)) := by
  unfold V
  after_reads_at
  after_reads_at
  exact gcol_read (fun k => m ((c : Thread nD τ).loc main_arg12) (ix1 k)) j

theorem blk10 (c : Dev nD) (t : Fin cfg0.N) (j : Fin 256) : iblk m c 10 t (ix2 0 j) = m ((c : Thread nD τ).loc main_arg12) (ix1 (gcol j)) := by
  refine Eq.trans ?_ (entry10 m c j)
  blk_simp [iblk]
  blk_ext [index10]

/-- The keys' gain at the call. -/
theorem entry13 (c : Dev nD) (j : Fin 256) : V m c main_v38 (ix2 0 j) = m ((c : Thread nD τ).loc main_arg13) (ix1 (gcol j)) := by
  unfold V
  after_reads_at
  after_reads_at
  exact gcol_read (fun k => m ((c : Thread nD τ).loc main_arg13) (ix1 k)) j

theorem blk13 (c : Dev nD) (t : Fin cfg0.N) (j : Fin 256) : iblk m c 13 t (ix2 0 j) = m ((c : Thread nD τ).loc main_arg13) (ix1 (gcol j)) := by
  refine Eq.trans ?_ (entry13 m c j)
  blk_simp [iblk]
  blk_ext [index13]

set_option maxHeartbeats 4000000 in
/-- The table of the cosines at the call. -/
theorem entry14 (c : Dev nD) (n : Fin 8192) (j : Fin 128) : V m c main_v43 (ix2 n j) = cosl (fun k => m ((c : Thread nD τ).loc main_arg14) (ix2 n k)) (fun k => m ((c : Thread nD τ).loc main_arg16) (ix2 n k)) j := by
  unfold V
  after_reads_at
  after_reads_at
  exact cosl_read (fun k => m ((c : Thread nD τ).loc main_arg14) (ix2 n k)) (fun k => m ((c : Thread nD τ).loc main_arg16) (ix2 n k)) j

theorem blk14 (c : Dev nD) (t : Fin cfg0.N) (r : Fin 256) (j : Fin 128) : iblk m c 14 t (ix2 r j) = cosl (fun k => m ((c : Thread nD τ).loc main_arg14) (ix2 ⟨256 * (ptI t).val + r.val, by omega⟩ k)) (fun k => m ((c : Thread nD τ).loc main_arg16) (ix2 ⟨256 * (ptI t).val + r.val, by omega⟩ k)) j := by
  refine Eq.trans ?_ (entry14 m c ⟨256 * (ptI t).val + r.val, by omega⟩ j)
  blk_simp [iblk]
  blk_ext [index14]

set_option maxHeartbeats 4000000 in
/-- The table of the sines at the call. -/
theorem entry15 (c : Dev nD) (n : Fin 8192) (j : Fin 128) : V m c main_v44 (ix2 n j) = sinl (fun k => m ((c : Thread nD τ).loc main_arg15) (ix2 n k)) (fun k => m ((c : Thread nD τ).loc main_arg17) (ix2 n k)) j := by
  unfold V
  after_reads_at
  after_reads_at
  exact sinl_read (fun k => m ((c : Thread nD τ).loc main_arg15) (ix2 n k)) (fun k => m ((c : Thread nD τ).loc main_arg17) (ix2 n k)) j

theorem blk15 (c : Dev nD) (t : Fin cfg0.N) (r : Fin 256) (j : Fin 128) : iblk m c 15 t (ix2 r j) = sinl (fun k => m ((c : Thread nD τ).loc main_arg15) (ix2 ⟨256 * (ptI t).val + r.val, by omega⟩ k)) (fun k => m ((c : Thread nD τ).loc main_arg17) (ix2 ⟨256 * (ptI t).val + r.val, by omega⟩ k)) j := by
  refine Eq.trans ?_ (entry15 m c ⟨256 * (ptI t).val + r.val, by omega⟩ j)
  blk_simp [iblk]
  blk_ext [index15]

end Cert.Kernel2Ideal.Mix

end
-- ==== Proof.Mix.Out.lean ====
/- What one grid point of the input projection call leaves in its output blocks, for any input blocks. -/
module

public import proofs.«01_k».proof.Proof.Mix.Gate
public import proofs.«01_k».proof.Proof.Gen.Kernel2Ideal.Value

@[expose] public section

set_option maxRecDepth 16384

noncomputable section

namespace Cert.Kernel2Ideal.Mix

open Cert.Kernel2Ideal Cert.Kernel2Ideal.Gen Cert.Mix
open Idealize.ShloMosaic
open scoped BigOperators

theorem off2 : (![0, 0] : Fin 2 → ℕ) = fun _ => 0 := by funext a; fin_cases a <;> rfl
theorem off3 : (![0, 0, 0] : Fin 3 → ℕ) = fun _ => 0 := by funext a; fin_cases a <;> rfl

variable (x0 : Vec Ideal S1x256x1024 .f32) (x1 x2 : Vec Ideal S1x1x1024 .f32) (x3 : Vec Ideal S1024x1280 .bf16)
  (x4 : Vec Ideal S1x256 .f32) (x5 : Vec Ideal S128x512 .bf16) (x6 : Vec Ideal S128x256 .f32) (x7 : Vec Ideal S256x512 .bf16)
  (x8 : Vec Ideal S1x256 .f32) (x9 : Vec Ideal S256x768 .bf16) (x10 : Vec Ideal S1x256 .f32) (x11 : Vec Ideal S1x128 .f32)
  (x12 : Vec Ideal S128x1024 .bf16) (x13 : Vec Ideal S1x256 .f32) (x14 x15 : Vec Ideal S256x128 .f32)

theorem pay100_eq : k0_pay100 x0 x1 x2 x3 x4 x5 x6 x7 x8 x9 x10 x11 x12 x13 x14 x15 = k0_pay1 x0 x2 x1 x3 := by
  unfold k0_pay100
  rw [View.ld_unit_zero off3, View.ld_unit_zero off3, View.ld_unit_zero off3, View.ld_unit_zero off2]

/-- An entry of the first mixer's block. -/
def gatedBlk (p : FVec Ideal S256x1280 .f32) (r c : Fin 256) : EReal :=
  gelu (p (ix2 r ⟨c.val, by omega⟩))
    * ((∑ q : Fin 128, x5 (ix2 ⟨r.val % 128, by omega⟩ ⟨128 * (c.val / 64) + q.val, by omega⟩)
        * norm256 (fun j => gelu (p (ix2 ⟨r.val / 128 * 128 + q.val, by omega⟩ ⟨256 + j.val, by omega⟩))) (fun j => x4 (ix2 0 j)) c)
      + x6 (ix2 ⟨r.val % 128, by omega⟩ c))

/-- The block's entries from those of one of its halves: row `r` of half `o`. -/
theorem gatedBlk_half (p : FVec Ideal S256x1280 .f32) (o : ℕ) (ho : o < 2) (r : Fin 128) (R C c : Fin 256)
    (hR : R.val = 128 * o + r.val) (hC : C = c) (row : Fin 128 → Fin 256) (hrow : ∀ q, (row q).val = 128 * o + q.val)
    (u v : FVec Ideal S256x256 .f32) (hu : ∀ r c : Fin 256, u (ix2 r c) = gelu (p (ix2 r ⟨c.val, by omega⟩)))
    (hv : ∀ r c : Fin 256, v (ix2 r c)
      = norm256 (fun j => gelu (p (ix2 r ⟨256 + j.val, by omega⟩))) (fun j => x4 (ix2 0 j)) c) :
    u (ix2 (row r) c) * ((∑ q : Fin 128, x5 (ix2 r ⟨128 * (c.val / 64) + q.val, by omega⟩) * v (ix2 (row q) c)) + x6 (ix2 r c))
      = gatedBlk x4 x5 x6 p R C := by
  subst hC
  unfold gatedBlk
  have e0 : row r = R := Fin.ext (by rw [hrow, hR])
  have e1 : (⟨R.val % 128, by omega⟩ : Fin 128) = r := Fin.ext (by show R.val % 128 = r.val; omega)
  have e2 : ∀ q : Fin 128, (⟨R.val / 128 * 128 + q.val, by omega⟩ : Fin 256) = row q :=
    fun q => Fin.ext (by rw [hrow]; show R.val / 128 * 128 + q.val = 128 * o + q.val; omega)
  simp only [e0, e1, e2, hu, hv]

theorem out16_apply (r c : Fin 256) :
    out0_16 x0 x1 x2 x3 x4 x5 x6 x7 x8 x9 x10 x11 x12 x13 x14 x15 (ix3 0 r c)
      = gatedBlk x4 x5 x6 (k0_pay1 x0 x2 x1 x3) r c := by
  have e102 : ∀ r c : Fin 256, k0_pay102 x0 x1 x2 x3 x4 x5 x6 x7 x8 x9 x10 x11 x12 x13 x14 x15 (ix2 r c)
      = gelu (k0_pay1 x0 x2 x1 x3 (ix2 r ⟨c.val, by omega⟩)) := by
    intro r c
    unfold k0_pay102
    rw [View.ld_unit_zero off3, View.ld_unit_zero off3, View.ld_unit_zero off3, View.ld_unit_zero off2]
    exact pay6_apply x0 x2 x1 x3 r c
  have e103 : ∀ r c : Fin 256, k0_pay103 x0 x1 x2 x3 x4 x5 x6 x7 x8 x9 x10 x11 x12 x13 x14 x15 (ix2 r c)
      = norm256 (fun j => gelu (k0_pay1 x0 x2 x1 x3 (ix2 r ⟨256 + j.val, by omega⟩))) (fun j => x4 (ix2 0 j)) c := by
    intro r c
    unfold k0_pay103
    rw [pay100_eq, View.ld_unit_zero off2]
    exact pay7_apply _ x4 r c
  unfold out0_16
  let G : Vec Ideal S1x256x256 .bf16 := fun i => gatedBlk x4 x5 x6 (k0_pay1 x0 x2 x1 x3) (i 1) (i 2)
  refine (View.canon_apply_of_pieces G _ ?_ (ix3 0 r c) (cover0_16 _ _ _))
  intro pc hpc
  rcases List.mem_cons.mp hpc with rfl | hpc
  · intro x
    have hx : x = (ix3 0 (x 1) (x 2) : S1x128x256.Idx) := by
      funext a
      fin_cases a
      · exact Fin.ext (by have : (x 0).val < 1 := (x 0).isLt; show (x 0).val = 0; omega)
      · rfl
      · rfl
    have h1 : (x 1).val < 128 := (x 1).isLt
    refine (congrArg _ hx).trans ((pay14_apply _ _ _ _ (x 1) (x 2)).trans ?_)
    rw [View.ld_unit_zero off2, View.ld_unit_zero off2]
    exact gatedBlk_half x4 x5 x6 _ 1 (by decide) (x 1) _ _ (x 2)
      (by show 128 + 1 * (x 1).val = 128 * 1 + (x 1).val; omega)
      (Fin.ext (by show 0 + 1 * (x 2).val = (x 2).val; omega)) (fun q => ⟨128 + q.val, by omega⟩) (fun _ => rfl) _ _ e102 e103
  rcases List.mem_cons.mp hpc with rfl | hpc
  · intro x
    have hx : x = (ix3 0 (x 1) (x 2) : S1x128x256.Idx) := by
      funext a
      fin_cases a
      · exact Fin.ext (by have : (x 0).val < 1 := (x 0).isLt; show (x 0).val = 0; omega)
      · rfl
      · rfl
    have h1 : (x 1).val < 128 := (x 1).isLt
    refine (congrArg _ hx).trans ((pay12_apply _ _ _ _ (x 1) (x 2)).trans ?_)
    rw [View.ld_unit_zero off2, View.ld_unit_zero off2]
    exact gatedBlk_half x4 x5 x6 _ 0 (by decide) (x 1) _ _ (x 2)
      (by show 0 + 1 * (x 1).val = 128 * 0 + (x 1).val; omega)
      (Fin.ext (by show 0 + 1 * (x 2).val = (x 2).val; omega)) (fun q => ⟨q.val, by omega⟩)
      (fun q => by show q.val = 128 * 0 + q.val; omega) _ _ e102 e103
  nomatch hpc

theorem out17_apply (r c : Fin 256) :
    out0_17 x0 x1 x2 x3 x4 x5 x6 x7 x8 x9 x10 x11 x12 x13 x14 x15 (ix3 0 r c)
      = ∑ j : Fin 256, k0_pay1 x0 x2 x1 x3 (ix2 r ⟨512 + j.val, by omega⟩) * x7 (ix2 j ⟨c.val, by omega⟩) := by
  unfold out0_17
  rw [pay100_eq, View.ld_unit_zero off2, Value.canon17_eq]
  unfold Value.E17
  generalize k0_pay1 x0 x2 x1 x3 = p
  refine Eq.trans ?_ (pay15_apply p x7 r ⟨c.val, by omega⟩)
  generalize k0_pay15 p x7 = z
  exact congrArg z (funext fun a => by fin_cases a <;> rfl)

theorem out18_apply (r c : Fin 256) :
    out0_18 x0 x1 x2 x3 x4 x5 x6 x7 x8 x9 x10 x11 x12 x13 x14 x15 (ix3 0 r c)
      = ∑ j : Fin 256, k0_pay1 x0 x2 x1 x3 (ix2 r ⟨512 + j.val, by omega⟩) * x7 (ix2 j ⟨256 + c.val, by omega⟩) := by
  unfold out0_18
  rw [pay100_eq, View.ld_unit_zero off2, Value.canon18_eq]
  unfold Value.E18
  generalize k0_pay1 x0 x2 x1 x3 = p
  refine Eq.trans ?_ (pay15_apply p x7 r ⟨256 + c.val, by omega⟩)
  generalize k0_pay15 p x7 = z
  refine congrArg z ?_
  funext a
  fin_cases a
  · rfl
  · exact Fin.ext (by show c.val + 256 = 256 + c.val; omega)

theorem out21_apply (h : Fin 4) (r : Fin 256) (d : Fin 128) :
    out0_21 x0 x1 x2 x3 x4 x5 x6 x7 x8 x9 x10 x11 x12 x13 x14 x15 (ix4 0 h r d)
      = ∑ j : Fin 128, norm128 (fun j => k0_pay1 x0 x2 x1 x3 (ix2 r ⟨1024 + j.val, by omega⟩)) (fun j => x11 (ix2 0 j)) j
          * x12 (ix2 j ⟨256 * h.val + 128 + d.val, by omega⟩) := by
  unfold out0_21 k0_pay121 k0_pay120 k0_pay119 k0_pay118
  rw [pay100_eq, View.ld_unit_zero off2, View.ld_unit_zero off2, Value.canon21_eq]
  unfold Value.E21
  generalize k0_pay1 x0 x2 x1 x3 = p
  refine Eq.trans ?_ (pay68_apply p x11 x12 r ⟨256 * h.val + 128 + d.val, by omega⟩)
  show k0_pay68 (k0_pay65 p) (k0_pay66 p) (k0_pay67 (F := Ideal)) x11 x12 _ = _
  generalize k0_pay68 (k0_pay65 p) (k0_pay66 p) (k0_pay67 (F := Ideal)) x11 x12 = z
  refine congrArg z ?_
  funext a
  fin_cases a
  · rfl
  · exact Fin.ext (by show h.val * 256 + d.val + 128 = 256 * h.val + 128 + d.val; omega)

end Cert.Kernel2Ideal.Mix

end
-- ==== Proof.Mix.Heads.lean ====
/- The input projection call's blocks of queries and keys, at one index. -/
module

public import proofs.«01_k».proof.Proof.Mix.Rotary
public import proofs.«01_k».proof.Proof.Mix.Out

@[expose] public section

set_option maxRecDepth 16384

noncomputable section

namespace Cert.Kernel2Ideal.Mix

open Cert.Kernel2Ideal Cert.Kernel2Ideal.Gen Idealize.ShloMosaic Cert.Mix
open scoped BigOperators

theorem pay20_eq (x : Vec Ideal S256x128 .f32) : k0_pay20 x = x := shapeCast_self _ _
theorem pay21_eq (x : Vec Ideal S256x128 .f32) : k0_pay21 x = x := shapeCast_self _ _
theorem pay23_eq (x : Vec Ideal S1x256 .f32) : k0_pay23 x = x := shapeCast_self _ _
theorem pay71_eq (x : Vec Ideal S1x256 .f32) : k0_pay71 x = x := shapeCast_self _ _

/-- An index of one stored piece. -/
theorem idx_piece (x : S1x1x256x128.Idx) : x = ix4 0 0 (x 2) (x 3) := by
  funext a
  fin_cases a
  · exact Fin.ext (by have : (x 0).val < 1 := (x 0).isLt; show (x 0).val = 0; omega)
  · exact Fin.ext (by have : (x 1).val < 1 := (x 1).isLt; show (x 1).val = 0; omega)
  · rfl
  · rfl

section Rows

variable (z : FVec Ideal S256x768 .f32) (y : FVec Ideal S256x1024 .f32) (p : FVec Ideal S256x1280 .f32)
  (g : Vec Ideal S1x256 .f32) (cT sT : Vec Ideal S256x128 .f32)

/-- A block's query of head `h` and row `r`. -/
def qblk (h : Fin 4) (r l : Fin 256) : EReal :=
  qrow (h.val % 2) (qn z r h.val h.isLt) (qw z r (h.val / 2) (by omega)) (fun l => g (ix2 0 l))
    (fun l => cT (ix2 r l)) (fun l => sT (ix2 r l)) l

/-- A block's key of head `h` and row `r`. -/
def kblk (h : Fin 4) (r l : Fin 256) : EReal :=
  krow (kn y r h.val h.isLt) (kn y r (2 * (h.val / 2)) (by omega)) (kn y r (2 * (h.val / 2) + 1) (by omega)) (kw p r)
    (fun l => g (ix2 0 l)) (fun l => cT (ix2 r l)) (fun l => sT (ix2 r l)) l

/-- An entry without position. -/
theorem qblk_low (h : Fin 4) (r : Fin 256) (k : Fin 128) (q : ℕ) (hq : q = h.val % 2) (n w : Fin 128 → EReal)
    (hn : n = qn z r h.val h.isLt) (hw : w = qw z r (h.val / 2) (by omega)) :
    n k * qfac q n w * g (ix2 0 ⟨k.val, by omega⟩) = qblk z g cT sT h r ⟨k.val, by omega⟩ := by
  subst hq hn hw
  unfold qblk qrow
  rw [dif_pos k.isLt]

/-- An entry with position. -/
theorem qblk_high (h : Fin 4) (r : Fin 256) (k : Fin 128) (q : ℕ) (hq : q = h.val % 2) (n w : Fin 128 → EReal)
    (hn : n = qn z r h.val h.isLt) (hw : w = qw z r (h.val / 2) (by omega)) (u : Fin 128 → EReal) (f : EReal)
    (hu : ∀ k, u k = own q w k) (hf : f = qfac q n w) :
    rot (fun k => u k * f * g (ix2 0 ⟨128 + k.val, by omega⟩)) (fun l => cT (ix2 r l)) (fun l => sT (ix2 r l)) k
      = qblk z g cT sT h r ⟨128 + k.val, by omega⟩ := by
  have e : u = own q w := funext hu
  subst e hf hq hn hw
  unfold qblk qrow
  rw [dif_neg (by simp)]
  exact congrArg _ (Fin.ext (by show k.val = 128 + k.val - 128; omega))

theorem kblk_low (h : Fin 4) (r : Fin 256) (k : Fin 128) (n : Fin 128 → EReal) (hn : n = kn y r h.val h.isLt) :
    n k * kfac n (kw p r) * g (ix2 0 ⟨k.val, by omega⟩) = kblk y p g cT sT h r ⟨k.val, by omega⟩ := by
  subst hn
  unfold kblk krow
  rw [dif_pos k.isLt]

theorem kblk_high (h : Fin 4) (r : Fin 256) (k : Fin 128) (a b : Fin 128 → EReal)
    (ha : a = kn y r (2 * (h.val / 2)) (by omega)) (hb : b = kn y r (2 * (h.val / 2) + 1) (by omega)) (s t : EReal)
    (hs : s = kfac a (kw p r)) (ht : t = kfac b (kw p r)) :
    rot (fun k => kw p r k * kpair s t k * g (ix2 0 ⟨128 + k.val, by omega⟩)) (fun l => cT (ix2 r l))
        (fun l => sT (ix2 r l)) k
      = kblk y p g cT sT h r ⟨128 + k.val, by omega⟩ := by
  subst hs ht ha hb
  unfold kblk krow
  rw [dif_neg (by simp)]
  exact congrArg _ (Fin.ext (by show k.val = 128 + k.val - 128; omega))

variable (r : Fin 256) (k : Fin 128)

theorem q3_high : k0_pay64 cT sT g (k0_pay60 k0_pay19 z) (k0_pay61 k0_pay19 z) (ix4 0 0 r k)
    = qblk z g cT sT 3 r ⟨128 + k.val, by omega⟩ := by
  refine (pay64_apply cT sT g r _ _ k).trans ?_
  exact qblk_high z g cT sT 3 r k 1 rfl _ _ rfl rfl _ _ (pay60_apply z r) (pay61_apply z r)

theorem q1_high : k0_pay44 cT sT g (k0_pay40 k0_pay19 z) (k0_pay41 k0_pay19 z) (ix4 0 0 r k)
    = qblk z g cT sT 1 r ⟨128 + k.val, by omega⟩ := by
  refine (pay44_apply cT sT g r _ _ k).trans ?_
  exact qblk_high z g cT sT 1 r k 1 rfl _ _ rfl rfl _ _ (pay40_apply z r) (pay41_apply z r)

theorem q2_high : k0_pay58 sT (k0_pay51 cT g (k0_pay46 k0_pay19 z) (k0_pay47 z)) (k0_pay52 g (k0_pay46 k0_pay19 z) (k0_pay47 z)) (k0_pay53 g (k0_pay46 k0_pay19 z) (k0_pay47 z)) (Scalar.select (Scalar.cmpi .eq 32#32 0#32) 1#32 32#32)
      k0_pay54 k0_pay55 k0_pay56 k0_pay57 (ix4 0 0 r k)
    = qblk z g cT sT 2 r ⟨128 + k.val, by omega⟩ := by
  refine (pay58_apply cT sT g r _ _ k).trans ?_
  exact qblk_high z g cT sT 2 r k 0 rfl _ _ rfl rfl _ _ (pay46_apply z r) (pay48_apply z r)

theorem q3_low : k0_pay63 (k0_pay62 k0_pay19 z g) (ix4 0 0 r k)
    = qblk z g cT sT 3 r ⟨k.val, by omega⟩ := by
  refine (pay63_apply g z r k).trans ?_
  rw [pay61_apply]
  exact qblk_low z g cT sT 3 r k 1 rfl _ _ rfl rfl

theorem q2_low : k0_pay49 g (k0_pay45 z) (k0_pay46 k0_pay19 z) (k0_pay47 z) (ix4 0 0 r k)
    = qblk z g cT sT 2 r ⟨k.val, by omega⟩ := by
  refine (pay49_apply g z r _ _ k).trans ?_
  rw [pay48_apply]
  exact qblk_low z g cT sT 2 r k 0 rfl _ _ rfl rfl

theorem q1_low : k0_pay43 (k0_pay42 k0_pay19 z g) (ix4 0 0 r k)
    = qblk z g cT sT 1 r ⟨k.val, by omega⟩ := by
  refine (pay43_apply g z r k).trans ?_
  rw [pay41_apply]
  exact qblk_low z g cT sT 1 r k 1 rfl _ _ rfl rfl

variable (a : Vec Ideal S1x256 .f32) (w : Vec Ideal S256x768 .bf16)

theorem q0_high : k0_pay38 sT (k0_pay32 cT g (k0_pay24 p a w) (k0_pay25 p a w) k0_pay26 k0_pay27) (k0_pay33 g (k0_pay24 p a w) (k0_pay25 p a w) k0_pay26 k0_pay27) (k0_pay34 g (k0_pay24 p a w) (k0_pay25 p a w) k0_pay26 k0_pay27)
      (Scalar.select (Scalar.cmpi .eq 32#32 0#32) 1#32 32#32) k0_pay35 k0_pay36 k0_pay37
      (Scalar.cmpi .slt (Scalar.select (Scalar.cmpi .eq 32#32 0#32) 1#32 32#32) 0#32) (ix4 0 0 r k)
    = qblk (k0_pay22 p a w) g cT sT 0 r ⟨128 + k.val, by omega⟩ := by
  have e1 : (fun l => k0_pay24 p a w (ix2 r l)) = qn (k0_pay22 p a w) r 0 (by decide) := funext (pay24_apply r p a w)
  have e2 : (fun l => k0_pay25 p a w (ix2 r l)) = qw (k0_pay22 p a w) r 0 (by decide) := funext (pay25_apply r p a w)
  have e3 : k0_pay29 (k0_pay24 p a w) (k0_pay25 p a w) k0_pay26 k0_pay27 (ix2 r 0) = _ := pay29_apply r _ _
  rw [e1, e2] at e3
  refine (pay38_apply cT sT g r _ _ _ _ k).trans ?_
  refine qblk_high (k0_pay22 p a w) g cT sT 0 r k 0 rfl _ _ rfl rfl _ _ (fun k => ?_) e3
  rw [pay28_apply, e2]
  rfl

theorem q0_low : k0_pay30 g (k0_pay24 p a w) (k0_pay25 p a w) k0_pay26 k0_pay27 (ix4 0 0 r k)
    = qblk (k0_pay22 p a w) g cT sT 0 r ⟨k.val, by omega⟩ := by
  have e1 : (fun l => k0_pay24 p a w (ix2 r l)) = qn (k0_pay22 p a w) r 0 (by decide) := funext (pay24_apply r p a w)
  have e2 : (fun l => k0_pay25 p a w (ix2 r l)) = qw (k0_pay22 p a w) r 0 (by decide) := funext (pay25_apply r p a w)
  have e3 : k0_pay29 (k0_pay24 p a w) (k0_pay25 p a w) k0_pay26 k0_pay27 (ix2 r 0) = _ := pay29_apply r _ _
  rw [e1, e2] at e3
  refine (pay30_apply g r _ _ _ _ k).trans ?_
  rw [e3, pay24_apply]
  exact qblk_low (k0_pay22 p a w) g cT sT 0 r k 0 rfl _ _ rfl rfl

theorem k3_high : k0_pay99 cT sT (k0_pay69 p) g (k0_pay82 y (k0_pay70 p)) (k0_pay88 y (k0_pay70 p)) (k0_pay96 k0_pay19) (ix4 0 0 r k)
    = kblk y p g cT sT 3 r ⟨128 + k.val, by omega⟩ := by
  refine (pay99_apply cT sT g p r _ _ k).trans ?_
  exact kblk_high y p g cT sT 3 r k _ _ rfl rfl _ _ (pay82_apply y p r) (pay88_apply y p r)

theorem k2_high : k0_pay98 cT sT (k0_pay69 p) g (k0_pay82 y (k0_pay70 p)) (k0_pay88 y (k0_pay70 p)) (k0_pay96 k0_pay19) (ix4 0 0 r k)
    = kblk y p g cT sT 2 r ⟨128 + k.val, by omega⟩ := by
  refine (pay98_apply cT sT g p r _ _ k).trans ?_
  exact kblk_high y p g cT sT 2 r k _ _ rfl rfl _ _ (pay82_apply y p r) (pay88_apply y p r)

theorem k3_low : k0_pay89 y (k0_pay70 p) g (ix4 0 0 r k)
    = kblk y p g cT sT 3 r ⟨k.val, by omega⟩ := by
  refine (pay89_apply g y r _ k).trans ?_
  rw [pay88_apply]
  exact kblk_low y p g cT sT 3 r k _ rfl

theorem k1_low : k0_pay79 y (k0_pay70 p) g (ix4 0 0 r k)
    = kblk y p g cT sT 1 r ⟨k.val, by omega⟩ := by
  refine (pay79_apply g y r _ k).trans ?_
  rw [pay78_apply]
  exact kblk_low y p g cT sT 1 r k _ rfl

theorem k2_low : k0_pay85 (k0_pay83 y (k0_pay70 p)) (k0_pay84 g) (ix4 0 0 r k)
    = kblk y p g cT sT 2 r ⟨k.val, by omega⟩ := by
  refine (pay85_apply g y r _ k).trans ?_
  rw [pay82_apply]
  exact kblk_low y p g cT sT 2 r k _ rfl

variable (b : Vec Ideal S1x128 .f32) (v : Vec Ideal S128x1024 .bf16) (q : FVec Ideal S256x128 .f32)
  (e f : FVec Ideal S256x1 .f32) (hy : k0_pay68 q e f b v = y)

include hy

theorem k1_high : k0_pay95 cT sT (k0_pay69 p) g (k0_pay78 y (k0_pay70 p)) (k0_pay91 k0_pay19)
      (k0_pay92 (k0_pay73 p q e f b v)) (ix4 0 0 r k)
    = kblk y p g cT sT 1 r ⟨128 + k.val, by omega⟩ := by
  subst hy
  refine (pay95_apply cT sT g p r _ _ k).trans ?_
  exact kblk_high _ p g cT sT 1 r k _ _ rfl rfl _ _ (pay73_apply p r b v q e f) (pay78_apply _ p r)

theorem k0_high : k0_pay94 cT sT (k0_pay69 p) g (k0_pay78 y (k0_pay70 p)) (k0_pay91 k0_pay19)
      (k0_pay92 (k0_pay73 p q e f b v)) (ix4 0 0 r k)
    = kblk y p g cT sT 0 r ⟨128 + k.val, by omega⟩ := by
  subst hy
  refine (pay94_apply cT sT g p r _ _ k).trans ?_
  exact kblk_high _ p g cT sT 0 r k _ _ rfl rfl _ _ (pay73_apply p r b v q e f) (pay78_apply _ p r)

theorem k0_low : k0_pay74 p q e f b v g (ix4 0 0 r k)
    = kblk y p g cT sT 0 r ⟨k.val, by omega⟩ := by
  subst hy
  refine (pay74_apply g p r b v q e f k).trans ?_
  rw [pay73_apply]
  exact kblk_low _ p g cT sT 0 r k _ rfl

end Rows

section Pieces

theorem block_congr (B : Fin 4 → Fin 256 → Fin 256 → EReal) {h h' : Fin 4} {r r' l l' : Fin 256} (hh : h.val = h'.val)
    (hr : r.val = r'.val) (hl : l.val = l'.val) : B h r l = B h' r' l' := by
  rw [Fin.ext hh, Fin.ext hr, Fin.ext hl]

variable (B : Fin 4 → Fin 256 → Fin 256 → EReal) (P : Vec Ideal S1x1x256x128 .bf16) (x : S1x1x256x128.Idx)

theorem piece12 (hP : ∀ (r : Fin 256) (k : Fin 128), P (ix4 0 0 r k) = B 0 r ⟨k.val, by omega⟩) :
    P x = B (r0_12.emb x 1) (r0_12.emb x 2) (r0_12.emb x 3) := by
  have h1 : (x 1).val < 1 := (x 1).isLt
  refine (congrArg P (idx_piece x)).trans ((hP (x 2) (x 3)).trans (block_congr B ?_ ?_ ?_))
  · show 0 = 0 + 1 * (x 1).val; omega
  · show (x 2).val = 0 + 1 * (x 2).val; omega
  · show (x 3).val = 0 + 1 * (x 3).val; omega

theorem piece13 (hP : ∀ (r : Fin 256) (k : Fin 128), P (ix4 0 0 r k) = B 0 r ⟨128 + k.val, by omega⟩) :
    P x = B (r0_13.emb x 1) (r0_13.emb x 2) (r0_13.emb x 3) := by
  have h1 : (x 1).val < 1 := (x 1).isLt
  refine (congrArg P (idx_piece x)).trans ((hP (x 2) (x 3)).trans (block_congr B ?_ ?_ ?_))
  · show 0 = 0 + 1 * (x 1).val; omega
  · show (x 2).val = 0 + 1 * (x 2).val; omega
  · show 128 + (x 3).val = 128 + 1 * (x 3).val; omega

theorem piece14 (hP : ∀ (r : Fin 256) (k : Fin 128), P (ix4 0 0 r k) = B 1 r ⟨k.val, by omega⟩) :
    P x = B (r0_14.emb x 1) (r0_14.emb x 2) (r0_14.emb x 3) := by
  have h1 : (x 1).val < 1 := (x 1).isLt
  refine (congrArg P (idx_piece x)).trans ((hP (x 2) (x 3)).trans (block_congr B ?_ ?_ ?_))
  · show 1 = 1 + 1 * (x 1).val; omega
  · show (x 2).val = 0 + 1 * (x 2).val; omega
  · show (x 3).val = 0 + 1 * (x 3).val; omega

theorem piece15 (hP : ∀ (r : Fin 256) (k : Fin 128), P (ix4 0 0 r k) = B 1 r ⟨128 + k.val, by omega⟩) :
    P x = B (r0_15.emb x 1) (r0_15.emb x 2) (r0_15.emb x 3) := by
  have h1 : (x 1).val < 1 := (x 1).isLt
  refine (congrArg P (idx_piece x)).trans ((hP (x 2) (x 3)).trans (block_congr B ?_ ?_ ?_))
  · show 1 = 1 + 1 * (x 1).val; omega
  · show (x 2).val = 0 + 1 * (x 2).val; omega
  · show 128 + (x 3).val = 128 + 1 * (x 3).val; omega

theorem piece16 (hP : ∀ (r : Fin 256) (k : Fin 128), P (ix4 0 0 r k) = B 2 r ⟨k.val, by omega⟩) :
    P x = B (r0_16.emb x 1) (r0_16.emb x 2) (r0_16.emb x 3) := by
  have h1 : (x 1).val < 1 := (x 1).isLt
  refine (congrArg P (idx_piece x)).trans ((hP (x 2) (x 3)).trans (block_congr B ?_ ?_ ?_))
  · show 2 = 2 + 1 * (x 1).val; omega
  · show (x 2).val = 0 + 1 * (x 2).val; omega
  · show (x 3).val = 0 + 1 * (x 3).val; omega

theorem piece17 (hP : ∀ (r : Fin 256) (k : Fin 128), P (ix4 0 0 r k) = B 2 r ⟨128 + k.val, by omega⟩) :
    P x = B (r0_17.emb x 1) (r0_17.emb x 2) (r0_17.emb x 3) := by
  have h1 : (x 1).val < 1 := (x 1).isLt
  refine (congrArg P (idx_piece x)).trans ((hP (x 2) (x 3)).trans (block_congr B ?_ ?_ ?_))
  · show 2 = 2 + 1 * (x 1).val; omega
  · show (x 2).val = 0 + 1 * (x 2).val; omega
  · show 128 + (x 3).val = 128 + 1 * (x 3).val; omega

theorem piece18 (hP : ∀ (r : Fin 256) (k : Fin 128), P (ix4 0 0 r k) = B 3 r ⟨k.val, by omega⟩) :
    P x = B (r0_18.emb x 1) (r0_18.emb x 2) (r0_18.emb x 3) := by
  have h1 : (x 1).val < 1 := (x 1).isLt
  refine (congrArg P (idx_piece x)).trans ((hP (x 2) (x 3)).trans (block_congr B ?_ ?_ ?_))
  · show 3 = 3 + 1 * (x 1).val; omega
  · show (x 2).val = 0 + 1 * (x 2).val; omega
  · show (x 3).val = 0 + 1 * (x 3).val; omega

theorem piece19 (hP : ∀ (r : Fin 256) (k : Fin 128), P (ix4 0 0 r k) = B 3 r ⟨128 + k.val, by omega⟩) :
    P x = B (r0_19.emb x 1) (r0_19.emb x 2) (r0_19.emb x 3) := by
  have h1 : (x 1).val < 1 := (x 1).isLt
  refine (congrArg P (idx_piece x)).trans ((hP (x 2) (x 3)).trans (block_congr B ?_ ?_ ?_))
  · show 3 = 3 + 1 * (x 1).val; omega
  · show (x 2).val = 0 + 1 * (x 2).val; omega
  · show 128 + (x 3).val = 128 + 1 * (x 3).val; omega

end Pieces

section Blocks

variable (x0 : Vec Ideal S1x256x1024 .f32) (x1 x2 : Vec Ideal S1x1x1024 .f32) (x3 : Vec Ideal S1024x1280 .bf16)
  (x4 : Vec Ideal S1x256 .f32) (x5 : Vec Ideal S128x512 .bf16) (x6 : Vec Ideal S128x256 .f32)
  (x7 : Vec Ideal S256x512 .bf16) (x8 : Vec Ideal S1x256 .f32) (x9 : Vec Ideal S256x768 .bf16)
  (x10 : Vec Ideal S1x256 .f32) (x11 : Vec Ideal S1x128 .f32) (x12 : Vec Ideal S128x1024 .bf16)
  (x13 : Vec Ideal S1x256 .f32) (x14 x15 : Vec Ideal S256x128 .f32)

theorem out19_apply (h : Fin 4) (r l : Fin 256) :
    out0_19 x0 x1 x2 x3 x4 x5 x6 x7 x8 x9 x10 x11 x12 x13 x14 x15 (ix4 0 h r l)
      = qblk (k0_pay22 (k0_pay1 x0 x2 x1 x3) x8 x9) x10 x14 x15 h r l := by
  unfold out0_19 k0_pay117 k0_pay116 k0_pay115 k0_pay114 k0_pay113 k0_pay112 k0_pay111 k0_pay110 k0_pay109 k0_pay108 k0_pay107
  rw [pay100_eq, View.ld_unit_zero off2, View.ld_unit_zero off2, View.ld_unit_zero off2, View.ld_unit_zero off2,
    View.ld_unit_zero off2, pay20_eq, pay21_eq, pay23_eq]
  generalize k0_pay1 x0 x2 x1 x3 = p
  let G : Vec Ideal S1x4x256x256 .bf16 := fun i => qblk (k0_pay22 p x8 x9) x10 x14 x15 (i 1) (i 2) (i 3)
  refine (View.canon_apply_of_pieces G _ ?_ (ix4 0 h r l) (cover0_19 _ _ _ _ _ _ _ _ _))
  intro pc hpc
  rcases List.mem_cons.mp hpc with rfl | hpc
  · exact fun x => piece19 (qblk (k0_pay22 p x8 x9) x10 x14 x15) _ x fun r k => q3_high (k0_pay22 p x8 x9) x10 x14 x15 r k
  rcases List.mem_cons.mp hpc with rfl | hpc
  · exact fun x => piece18 (qblk (k0_pay22 p x8 x9) x10 x14 x15) _ x fun r k => q3_low (k0_pay22 p x8 x9) x10 x14 x15 r k
  rcases List.mem_cons.mp hpc with rfl | hpc
  · exact fun x => piece17 (qblk (k0_pay22 p x8 x9) x10 x14 x15) _ x fun r k => q2_high (k0_pay22 p x8 x9) x10 x14 x15 r k
  rcases List.mem_cons.mp hpc with rfl | hpc
  · exact fun x => piece16 (qblk (k0_pay22 p x8 x9) x10 x14 x15) _ x fun r k => q2_low (k0_pay22 p x8 x9) x10 x14 x15 r k
  rcases List.mem_cons.mp hpc with rfl | hpc
  · exact fun x => piece15 (qblk (k0_pay22 p x8 x9) x10 x14 x15) _ x fun r k => q1_high (k0_pay22 p x8 x9) x10 x14 x15 r k
  rcases List.mem_cons.mp hpc with rfl | hpc
  · exact fun x => piece14 (qblk (k0_pay22 p x8 x9) x10 x14 x15) _ x fun r k => q1_low (k0_pay22 p x8 x9) x10 x14 x15 r k
  rcases List.mem_cons.mp hpc with rfl | hpc
  · exact fun x => piece13 (qblk (k0_pay22 p x8 x9) x10 x14 x15) _ x fun r k => q0_high p x10 x14 x15 r k x8 x9
  rcases List.mem_cons.mp hpc with rfl | hpc
  · exact fun x => piece12 (qblk (k0_pay22 p x8 x9) x10 x14 x15) _ x fun r k => q0_low p x10 x14 x15 r k x8 x9
  nomatch hpc

theorem out20_apply (h : Fin 4) (r l : Fin 256) :
    out0_20 x0 x1 x2 x3 x4 x5 x6 x7 x8 x9 x10 x11 x12 x13 x14 x15 (ix4 0 h r l)
      = kblk (k0_pay68 (k0_pay65 (k0_pay1 x0 x2 x1 x3)) (k0_pay66 (k0_pay1 x0 x2 x1 x3)) k0_pay67 x11 x12)
          (k0_pay1 x0 x2 x1 x3) x13 x14 x15 h r l := by
  unfold out0_20 k0_pay130 k0_pay129 k0_pay128 k0_pay127 k0_pay126 k0_pay125 k0_pay124 k0_pay123 k0_pay122 k0_pay121 k0_pay120
    k0_pay119 k0_pay118 k0_pay109 k0_pay108 k0_pay107
  rw [pay100_eq, View.ld_unit_zero off2, View.ld_unit_zero off2, View.ld_unit_zero off2, View.ld_unit_zero off2,
    View.ld_unit_zero off2, pay20_eq, pay21_eq, pay71_eq]
  generalize k0_pay1 x0 x2 x1 x3 = p
  generalize hy : k0_pay68 (k0_pay65 p) (k0_pay66 p) k0_pay67 x11 x12 = y
  let G : Vec Ideal S1x4x256x256 .bf16 := fun i => kblk y p x13 x14 x15 (i 1) (i 2) (i 3)
  refine (View.canon_apply_of_pieces G _ ?_ (ix4 0 h r l) (cover0_20 _ _ _ _ _ _ _ _ _))
  intro pc hpc
  rcases List.mem_cons.mp hpc with rfl | hpc
  · exact fun x => piece19 (kblk y p x13 x14 x15) _ x fun r k => k3_high y p x13 x14 x15 r k
  rcases List.mem_cons.mp hpc with rfl | hpc
  · exact fun x => piece17 (kblk y p x13 x14 x15) _ x fun r k => k2_high y p x13 x14 x15 r k
  rcases List.mem_cons.mp hpc with rfl | hpc
  · exact fun x => piece15 (kblk y p x13 x14 x15) _ x fun r k => k1_high y p x13 x14 x15 r k x11 x12 (k0_pay65 p) (k0_pay66 p) k0_pay67 hy
  rcases List.mem_cons.mp hpc with rfl | hpc
  · exact fun x => piece13 (kblk y p x13 x14 x15) _ x fun r k => k0_high y p x13 x14 x15 r k x11 x12 (k0_pay65 p) (k0_pay66 p) k0_pay67 hy
  rcases List.mem_cons.mp hpc with rfl | hpc
  · exact fun x => piece18 (kblk y p x13 x14 x15) _ x fun r k => k3_low y p x13 x14 x15 r k
  rcases List.mem_cons.mp hpc with rfl | hpc
  · exact fun x => piece16 (kblk y p x13 x14 x15) _ x fun r k => k2_low y p x13 x14 x15 r k
  rcases List.mem_cons.mp hpc with rfl | hpc
  · exact fun x => piece14 (kblk y p x13 x14 x15) _ x fun r k => k1_low y p x13 x14 x15 r k
  rcases List.mem_cons.mp hpc with rfl | hpc
  · exact fun x => piece12 (kblk y p x13 x14 x15) _ x fun r k => k0_low y p x13 x14 x15 r k x11 x12 (k0_pay65 p) (k0_pay66 p) k0_pay67 hy
  nomatch hpc

end Blocks

end Cert.Kernel2Ideal.Mix

end
-- ==== Proof.Mix.Value.lean ====
/- The four result arrays of the input projection call, and its run. -/
module

public import proofs.«01_k».proof.Proof.Mix.Tables
public import proofs.«01_k».proof.Proof.Mix.Heads

@[expose] public section

set_option maxRecDepth 16384

noncomputable section

namespace Cert.Kernel2Ideal.Mix

open Cert.Kernel2Ideal Cert.Kernel2Ideal.Gen Cert.Mix
open Idealize.ShloMosaic Idealize.ShloMosaic.TcCoe
open Idealize.SL Idealize.SL.Sem
open scoped BigOperators

variable (m : (ℓ : Loc nD τ sig) → Buf (Elt Ideal) ℓ)

/-- The projected rows of the arguments. -/
def rows (c : Dev nD) : Fin 2 → Fin 8192 → Fin 1216 → EReal :=
  proj (fun b n d => m ((c : Thread nD τ).loc main_arg0) (ix3 b n d))
    (fun b d => m ((c : Thread nD τ).loc main_arg1) (ix3 b 0 d)) (fun b d => m ((c : Thread nD τ).loc main_arg2) (ix3 b 0 d))
    (fun d j => m ((c : Thread nD τ).loc main_arg3) (ix2 d j))

/-- The first result. -/
def res0 (c : Dev nD) : Buf (Elt Ideal) ((c : Thread nD τ).loc main_v45_0) := fun i : S2x8192x256.Idx =>
  gated (rows m c) (fun j => m ((c : Thread nD τ).loc main_arg4) (ix1 j))
    (fun h p q => m ((c : Thread nD τ).loc main_arg5) (ix3 h p q)) (fun h p => m ((c : Thread nD τ).loc main_arg6) (ix2 h p))
    (i 0) (i 1) (i 2)

/-- The second result. -/
def res1 (c : Dev nD) : Buf (Elt Ideal) ((c : Thread nD τ).loc main_v45_1) := fun i : S2x8192x256.Idx =>
  chan (rows m c) (fun j k => m ((c : Thread nD τ).loc main_arg7) (ix2 j k)) (i 0) (i 1)
    ⟨(i 2).val, by have : (i 2).val < 256 := (i 2).isLt; omega⟩

/-- The third result. -/
def res2 (c : Dev nD) : Buf (Elt Ideal) ((c : Thread nD τ).loc main_v45_2) := fun i : S2x8192x256.Idx =>
  chan (rows m c) (fun j k => m ((c : Thread nD τ).loc main_arg7) (ix2 j k)) (i 0) (i 1)
    ⟨256 + (i 2).val, by have : (i 2).val < 256 := (i 2).isLt; omega⟩

/-- The values. -/
def res5 (c : Dev nD) : Buf (Elt Ideal) ((c : Thread nD τ).loc main_v45_5) := fun i : S2x4x8192x128.Idx =>
  expand (rows m c) (fun j => m ((c : Thread nD τ).loc main_arg10) (ix1 j))
    (fun j k => m ((c : Thread nD τ).loc main_arg11) (ix2 j k)) (i 0) (i 2)
    ⟨256 * (i 1).val + 128 + (i 3).val, by
      have : (i 1).val < 4 := (i 1).isLt
      have : (i 3).val < 128 := (i 3).isLt
      omega⟩

/-- The queries. -/
def res3 (c : Dev nD) : Buf (Elt Ideal) ((c : Thread nD τ).loc main_v45_3) := fun i : S2x4x8192x256.Idx =>
  qent (quer (rows m c) (fun j => m ((c : Thread nD τ).loc main_arg8) (ix1 j)) (fun j k => m ((c : Thread nD τ).loc main_arg9) (ix2 j k)) (i 0) (i 2))
    (fun k => m ((c : Thread nD τ).loc main_arg12) (ix1 k)) (fun k => m ((c : Thread nD τ).loc main_arg14) (ix2 (i 2) k))
    (fun k => m ((c : Thread nD τ).loc main_arg16) (ix2 (i 2) k)) (fun k => m ((c : Thread nD τ).loc main_arg15) (ix2 (i 2) k))
    (fun k => m ((c : Thread nD τ).loc main_arg17) (ix2 (i 2) k)) (i 1) (i 3)

/-- The keys. -/
def res4 (c : Dev nD) : Buf (Elt Ideal) ((c : Thread nD τ).loc main_v45_4) := fun i : S2x4x8192x256.Idx =>
  kent (expand (rows m c) (fun j => m ((c : Thread nD τ).loc main_arg10) (ix1 j)) (fun j k => m ((c : Thread nD τ).loc main_arg11) (ix2 j k)) (i 0) (i 2))
    (fun j => rows m c (i 0) (i 2) ⟨1152 + j.val, by omega⟩)
    (fun k => m ((c : Thread nD τ).loc main_arg13) (ix1 k)) (fun k => m ((c : Thread nD τ).loc main_arg14) (ix2 (i 2) k))
    (fun k => m ((c : Thread nD τ).loc main_arg16) (ix2 (i 2) k)) (fun k => m ((c : Thread nD τ).loc main_arg15) (ix2 (i 2) k))
    (fun k => m ((c : Thread nD τ).loc main_arg17) (ix2 (i 2) k)) (i 1) (i 3)

/-- The projection of a block's rows, from the arguments. -/
theorem rowsCol (c : Dev nD) (t : Fin cfg0.N) (r : Fin 256) (n : Fin 8192) (hn : n.val = 256 * (ptI t).val + r.val)
    (J : Fin 1280) :
    k0_pay1 (iblk m c 0 t) (iblk m c 2 t) (iblk m c 1 t) (iblk m c 3 t) (ix2 r J) = rows m c (ptB t) n (wcol J) := by
  have e : (⟨256 * (ptI t).val + r.val, by omega⟩ : Fin 8192) = n := Fin.ext hn.symm
  rw [pay1_apply]
  simp only [blk0, blk1, blk2, blk3, e]
  rfl

theorem rowsBlk (c : Dev nD) (t : Fin cfg0.N) (r : Fin 256) (j : Fin 1152) (n : Fin 8192)
    (hn : n.val = 256 * (ptI t).val + r.val) (J : Fin 1280) (hJ : J.val = j.val) :
    k0_pay1 (iblk m c 0 t) (iblk m c 2 t) (iblk m c 1 t) (iblk m c 3 t) (ix2 r J)
      = rows m c (ptB t) n ⟨j.val, by omega⟩ := by
  refine (rowsCol m c t r n hn J).trans (congrArg (rows m c (ptB t) n) ?_)
  unfold wcol
  rw [dif_pos (by omega)]
  exact Fin.ext hJ

/-- Sums of products that agree factor by factor. -/
theorem sum_mul_congr {n : ℕ} {f f' g g' : Fin n → EReal} (hf : ∀ j, f j = f' j) (hg : ∀ j, g j = g' j) :
    (∑ j, f j * g j) = ∑ j, f' j * g' j :=
  Finset.sum_congr rfl fun j _ => congrArg₂ (· * ·) (hf j) (hg j)

/-- A block index of three axes, the first of one entry. -/
theorem idx_blk3 (y : S1x256x256.Idx) : y = ix3 0 (y 1) (y 2) := by
  funext a
  fin_cases a
  · exact Fin.ext (by have : (y 0).val < 1 := (y 0).isLt; show (y 0).val = 0; omega)
  · rfl
  · rfl

theorem arr16 (c : Dev nD) : (dats m 0 c).arrAt 16 cfg0.N = res0 m c := by
  refine (dats m 0 c).arrAt_eq_of_covers 16 _ (by decide +kernel) fun t hf y => ?_
  have e : ∀ (i : S2x8192x256.Idx) (r k : Fin 256), (i 0 : ℕ) = ptB t → (i 1 : ℕ) = 256 * (ptI t).val + r.val →
      (i 2 : ℕ) = k.val → (dats m 0 c).after 16 t (ix3 0 r k) = res0 m c i := by
    intro i r k h0 h1 h2
    rw [after0_16, out16_apply]
    unfold res0 gatedBlk gated
    have a0 : i 0 = ptB t := Fin.ext h0
    have a2 : i 2 = k := Fin.ext h2
    rw [a0, a2]
    have a1 : (⟨(i 1).val % 128, by omega⟩ : Fin 128) = ⟨r.val % 128, by omega⟩ :=
      Fin.ext (by show (i 1).val % 128 = r.val % 128; omega)
    refine congrArg₂ (· * ·) (congrArg gelu (rowsBlk m c t r ⟨k.val, by omega⟩ (i 1) h1 _ rfl)) (congrArg₂ (· + ·) ?_ ?_)
    · refine Finset.sum_congr rfl fun q _ => congrArg₂ (· * ·) ?_ ?_
      · rw [a1]
        exact blk5 m c t ⟨r.val % 128, by omega⟩ ⟨k.val / 64, by omega⟩ q
      · refine congrArg₂ (fun a b => norm256 a b k) ?_ ?_
        · funext j
          exact congrArg gelu (rowsBlk m c t _ ⟨256 + j.val, by omega⟩ _
            (by show (i 1).val / 128 * 128 + q.val = 256 * (ptI t).val + (r.val / 128 * 128 + q.val); omega) _ rfl)
        · funext j
          exact blk4 m c t j
    · rw [a1]
      exact blk6 m c t ⟨r.val % 128, by omega⟩ k
  blk_simp
  refine (congrArg ((dats m 0 c).after 16 t) (idx_blk3 y)).trans (e _ (y 1) (y 2) ?_ ?_ ?_)
  · blk_simp [index16]; try omega
  · blk_simp [index16]; try omega
  · blk_simp [index16]; try omega

theorem arr17 (c : Dev nD) : (dats m 0 c).arrAt 17 cfg0.N = res1 m c := by
  refine (dats m 0 c).arrAt_eq_of_covers 17 _ (by decide +kernel) fun t hf y => ?_
  have e : ∀ (i : S2x8192x256.Idx) (r k : Fin 256), (i 0 : ℕ) = ptB t → (i 1 : ℕ) = 256 * (ptI t).val + r.val →
      (i 2 : ℕ) = k.val → (dats m 0 c).after 17 t (ix3 0 r k) = res1 m c i := by
    intro i r k h0 h1 h2
    rw [after0_17, out17_apply]
    unfold res1 chan
    have a0 : i 0 = ptB t := Fin.ext h0
    rw [a0]
    refine sum_mul_congr (fun j => rowsBlk m c t r ⟨512 + j.val, by omega⟩ (i 1) h1 _ rfl) fun j => ?_
    refine (blk7 m c t j _).trans (congrArg (m ((c : Thread nD τ).loc main_arg7)) (congrArg (ix2 j) (Fin.ext ?_)))
    exact h2.symm
  blk_simp
  refine (congrArg ((dats m 0 c).after 17 t) (idx_blk3 y)).trans (e _ (y 1) (y 2) ?_ ?_ ?_)
  · blk_simp [index17]; try omega
  · blk_simp [index17]; try omega
  · blk_simp [index17]; try omega

theorem arr18 (c : Dev nD) : (dats m 0 c).arrAt 18 cfg0.N = res2 m c := by
  refine (dats m 0 c).arrAt_eq_of_covers 18 _ (by decide +kernel) fun t hf y => ?_
  have e : ∀ (i : S2x8192x256.Idx) (r k : Fin 256), (i 0 : ℕ) = ptB t → (i 1 : ℕ) = 256 * (ptI t).val + r.val →
      (i 2 : ℕ) = k.val → (dats m 0 c).after 18 t (ix3 0 r k) = res2 m c i := by
    intro i r k h0 h1 h2
    rw [after0_18, out18_apply]
    unfold res2 chan
    have a0 : i 0 = ptB t := Fin.ext h0
    rw [a0]
    refine sum_mul_congr (fun j => rowsBlk m c t r ⟨512 + j.val, by omega⟩ (i 1) h1 _ rfl) fun j => ?_
    refine (blk7 m c t j _).trans (congrArg (m ((c : Thread nD τ).loc main_arg7)) (congrArg (ix2 j) (Fin.ext ?_)))
    show 256 + k.val = 256 + (i 2).val
    omega
  blk_simp
  refine (congrArg ((dats m 0 c).after 18 t) (idx_blk3 y)).trans (e _ (y 1) (y 2) ?_ ?_ ?_)
  · blk_simp [index18]; try omega
  · blk_simp [index18]; try omega
  · blk_simp [index18]; try omega

theorem arr21 (c : Dev nD) : (dats m 0 c).arrAt 21 cfg0.N = res5 m c := by
  refine (dats m 0 c).arrAt_eq_of_covers 21 _ (by decide +kernel) fun t hf y => ?_
  have e : ∀ (i : S2x4x8192x128.Idx) (h : Fin 4) (r : Fin 256) (d : Fin 128), (i 0 : ℕ) = ptB t → (i 1 : ℕ) = h.val →
      (i 2 : ℕ) = 256 * (ptI t).val + r.val → (i 3 : ℕ) = d.val → (dats m 0 c).after 21 t (ix4 0 h r d) = res5 m c i := by
    intro i h r d h0 h1 h2 h3
    rw [after0_21, out21_apply]
    unfold res5 expand
    have a0 : i 0 = ptB t := Fin.ext h0
    rw [a0]
    refine sum_mul_congr (fun j => congrArg₂ (fun a b => norm128 a b j) ?_ ?_) fun j => ?_
    · funext j
      exact rowsBlk m c t r ⟨1024 + j.val, by omega⟩ (i 2) h2 _ rfl
    · funext j
      exact blk11 m c t j
    · refine (blk12 m c t j _).trans (congrArg (m ((c : Thread nD τ).loc main_arg11)) (congrArg (ix2 j) (Fin.ext ?_)))
      show 256 * h.val + 128 + d.val = 256 * (i 1).val + 128 + (i 3).val
      omega
  blk_simp
  have hy : y = (ix4 0 (y 1) (y 2) (y 3) : S1x4x256x128.Idx) := by
    funext a
    fin_cases a
    · exact Fin.ext (by have : (y 0).val < 1 := (y 0).isLt; show (y 0).val = 0; omega)
    · rfl
    · rfl
    · rfl
  refine (congrArg ((dats m 0 c).after 21 t) hy).trans (e _ (y 1) (y 2) (y 3) ?_ ?_ ?_ ?_)
  · blk_simp [index21]; try omega
  · blk_simp [index21]; try omega
  · blk_simp [index21]; try omega
  · blk_simp [index21]; try omega

/-- A block index of four axes, the first of one entry. -/
theorem idx_blk4 (y : S1x4x256x256.Idx) : y = ix4 0 (y 1) (y 2) (y 3) := by
  funext a
  fin_cases a
  · exact Fin.ext (by have : (y 0).val < 1 := (y 0).isLt; show (y 0).val = 0; omega)
  · rfl
  · rfl
  · rfl

/-- The queries' product of a block's row. -/
theorem querBlk (c : Dev nD) (t : Fin cfg0.N) (r : Fin 256) (n : Fin 8192) (hn : n.val = 256 * (ptI t).val + r.val)
    (k k' : Fin 768) (hk : ucol k = k') :
    k0_pay22 (k0_pay1 (iblk m c 0 t) (iblk m c 2 t) (iblk m c 1 t) (iblk m c 3 t)) (iblk m c 8 t) (iblk m c 9 t) (ix2 r k)
      = quer (rows m c) (fun j => m ((c : Thread nD τ).loc main_arg8) (ix1 j)) (fun j k => m ((c : Thread nD τ).loc main_arg9) (ix2 j k)) (ptB t) n k' := by
  subst hk
  rw [pay22_apply]
  unfold quer
  refine sum_mul_congr (fun j => congrArg₂ (fun a b => norm256 a b j) ?_ ?_) fun j => blk9 m c t j k
  · funext j
    exact rowsBlk m c t r ⟨768 + j.val, by omega⟩ n hn _ rfl
  · funext j
    exact blk8 m c t j

/-- The product of a block's compressed row. -/
theorem expandBlk (c : Dev nD) (t : Fin cfg0.N) (r : Fin 256) (n : Fin 8192) (hn : n.val = 256 * (ptI t).val + r.val)
    (k : Fin 1024) :
    k0_pay68 (k0_pay65 (k0_pay1 (iblk m c 0 t) (iblk m c 2 t) (iblk m c 1 t) (iblk m c 3 t)))
        (k0_pay66 (k0_pay1 (iblk m c 0 t) (iblk m c 2 t) (iblk m c 1 t) (iblk m c 3 t))) (k0_pay67 (F := Ideal))
        (iblk m c 11 t) (iblk m c 12 t) (ix2 r k)
      = expand (rows m c) (fun j => m ((c : Thread nD τ).loc main_arg10) (ix1 j)) (fun j k => m ((c : Thread nD τ).loc main_arg11) (ix2 j k)) (ptB t) n k := by
  rw [pay68_apply]
  unfold expand
  refine sum_mul_congr (fun j => congrArg₂ (fun a b => norm128 a b j) ?_ ?_) fun j => blk12 m c t j k
  · funext j
    exact rowsBlk m c t r ⟨1024 + j.val, by omega⟩ n hn _ rfl
  · funext j
    exact blk11 m c t j

theorem arr19 (c : Dev nD) : (dats m 0 c).arrAt 19 cfg0.N = res3 m c := by
  refine (dats m 0 c).arrAt_eq_of_covers 19 _ (by decide +kernel) fun t hf y => ?_
  have e : ∀ (i : S2x4x8192x256.Idx) (h : Fin 4) (r l : Fin 256), (i 0 : ℕ) = ptB t → (i 1 : ℕ) = h.val →
      (i 2 : ℕ) = 256 * (ptI t).val + r.val → (i 3 : ℕ) = l.val → (dats m 0 c).after 19 t (ix4 0 h r l) = res3 m c i := by
    intro i h r l h0 h1 h2 h3
    rw [after0_19, out19_apply]
    unfold res3
    have a0 : i 0 = ptB t := Fin.ext h0
    have a1 : i 1 = h := Fin.ext h1
    have a3 : i 3 = l := Fin.ext h3
    rw [a0, a1, a3]
    generalize hn : i 2 = n
    rw [hn] at h2
    have e2 : (⟨256 * (ptI t).val + r.val, by omega⟩ : Fin 8192) = n := Fin.ext h2.symm
    unfold qblk qent
    refine qrow_congr _ (fun k => querBlk m c t r n h2 _ _ ?_) (fun k => querBlk m c t r n h2 _ _ ?_) (blk10 m c t)
      (fun k => ?_) (fun k => ?_) l
    · unfold ucol
      rw [dif_pos (by show 128 * h.val + k.val < 512; omega)]
      exact Fin.ext (by show (128 * h.val + k.val) / 128 * 192 + (128 * h.val + k.val) % 128 = 192 * h.val + k.val; omega)
    · unfold ucol
      rw [dif_neg (by show ¬512 + 128 * (h.val / 2) + k.val < 512; omega)]
      refine Fin.ext ?_
      show (512 + 128 * (h.val / 2) + k.val - 512) / 64 * 192 + (128 + (512 + 128 * (h.val / 2) + k.val - 512) % 64)
        = 192 * (2 * (h.val / 2) + k.val / 64) + 128 + k.val % 64
      omega
    · rw [← e2]
      exact blk14 m c t r k
    · rw [← e2]
      exact blk15 m c t r k
  blk_simp
  refine (congrArg ((dats m 0 c).after 19 t) (idx_blk4 y)).trans (e _ (y 1) (y 2) (y 3) ?_ ?_ ?_ ?_)
  · blk_simp [index19]; try omega
  · blk_simp [index19]; try omega
  · blk_simp [index19]; try omega
  · blk_simp [index19]; try omega

theorem arr20 (c : Dev nD) : (dats m 0 c).arrAt 20 cfg0.N = res4 m c := by
  refine (dats m 0 c).arrAt_eq_of_covers 20 _ (by decide +kernel) fun t hf y => ?_
  have e : ∀ (i : S2x4x8192x256.Idx) (h : Fin 4) (r l : Fin 256), (i 0 : ℕ) = ptB t → (i 1 : ℕ) = h.val →
      (i 2 : ℕ) = 256 * (ptI t).val + r.val → (i 3 : ℕ) = l.val → (dats m 0 c).after 20 t (ix4 0 h r l) = res4 m c i := by
    intro i h r l h0 h1 h2 h3
    rw [after0_20, out20_apply]
    unfold res4
    have a0 : i 0 = ptB t := Fin.ext h0
    have a1 : i 1 = h := Fin.ext h1
    have a3 : i 3 = l := Fin.ext h3
    rw [a0, a1, a3]
    generalize hn : i 2 = n
    rw [hn] at h2
    have e2 : (⟨256 * (ptI t).val + r.val, by omega⟩ : Fin 8192) = n := Fin.ext h2.symm
    unfold kblk kent
    refine krow_congr (fun k => expandBlk m c t r n h2 _) (fun k => expandBlk m c t r n h2 _)
      (fun k => expandBlk m c t r n h2 _) (fun k => (rowsCol m c t r n h2 _).trans (congrArg (rows m c (ptB t) n) ?_))
      (blk13 m c t) (fun k => ?_) (fun k => ?_) l
    · unfold wcol
      by_cases hk : 1152 + k.val < 1216
      · rw [dif_pos hk]
        exact Fin.ext (by show 1152 + k.val = 1152 + k.val % 64; omega)
      · rw [dif_neg hk]
        exact Fin.ext (by show 1152 + k.val - 64 = 1152 + k.val % 64; omega)
    · rw [← e2]
      exact blk14 m c t r k
    · rw [← e2]
      exact blk15 m c t r k
  blk_simp
  refine (congrArg ((dats m 0 c).after 20 t) (idx_blk4 y)).trans (e _ (y 1) (y 2) (y 3) ?_ ?_ ?_ ?_)
  · blk_simp [index20]; try omega
  · blk_simp [index20]; try omega
  · blk_simp [index20]; try omega
  · blk_simp [index20]; try omega

/-- The run: the result arrays hold their values and the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v45_0) = res0 m c
      ∧ r.2.mem ((c : Thread nD τ).loc main_v45_1) = res1 m c
      ∧ r.2.mem ((c : Thread nD τ).loc main_v45_2) = res2 m c
      ∧ r.2.mem ((c : Thread nD τ).loc main_v45_3) = res3 m c
      ∧ r.2.mem ((c : Thread nD τ).loc main_v45_4) = res4 m c
      ∧ r.2.mem ((c : Thread nD τ).loc main_v45_5) = res5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun _ h c => ⟨(h c).1.trans (arr16 m c), (h c).2.1.trans (arr17 m c),
    (h c).2.2.1.trans (arr18 m c), (h c).2.2.2.1.trans (arr19 m c), (h c).2.2.2.2.1.trans (arr20 m c),
    (h c).2.2.2.2.2.1.trans (arr21 m c), (h c).2.2.2.2.2.2⟩) (Value.run_blocks m ρ)

end Cert.Kernel2Ideal.Mix

end
-- ==== Proof.Mix.RefOps.lean ====
/- The input projection reference's stages as functions of arrays, and each at an entry. -/
module

public import proofs.«01_k».proof.Proof.Gen.Reference2Ideal.Run
public import proofs.«01_k».proof.Proof.Mix.Spec
public import Idealize.ShloMosaic.PureOps.Reduce
public import Idealize.ShloMosaic.Lib.Pointwise
public import Idealize.ShloMosaic.Lib.IdealHost

@[expose] public section

set_option maxRecDepth 16384

noncomputable section

namespace Cert.Reference2Ideal.Mix

open Cert.Reference2Ideal Cert.Reference2Ideal.Gen Cert.Mix
open Idealize.ShloMosaic Idealize.ShloMosaic.TcCoe
open scoped BigOperators

/-- One number at every entry of a column. -/
abbrev col (w : BitVec 32) : FVec Ideal S2x8192x1 .f32 := broadcastInDim S2x8192x1 ![] bcast_S_S2x8192x1 (constant S_ .f32 w)

/-- One number at every entry. -/
abbrev all (w : BitVec 32) : FVec Ideal S2x8192x256 .f32 := broadcastInDim S2x8192x256 ![] bcast_S_S2x8192x256 (constant S_ .f32 w)

/-- The reciprocal root mean square of each row, from the rows' sums of squares. -/
def root (x : FVec Ideal S2x8192 .f32) (w : BitVec 32) : FVec Ideal S2x8192x1 .f32 :=
  Host.rsqrt (addf (Host.divf (broadcastInDim S2x8192x1 ![0, 1] bcast_S2x8192_S2x8192x1_0_1 x) (col w)) (col 0x358637BD#32))

/-- The combined input projection. -/
def project (x : FVec Ideal S2x8192x1024 .f32) (h s : FVec Ideal S2x1x1024 .f32) (w : FVec Ideal S1024x1216 .f32) :
    FVec Ideal S2x8192x1216 .f32 :=
  Host.dotGeneral dot_S2x8192x1024_S1024x1216_S2x8192x1216_2_0_01_1_n_n none (addf (mulf (mulf x
    (broadcastInDim S2x8192x1024 ![0, 1, 2] bcast_S2x8192x1_S2x8192x1024_0_1_2
      (root (Host.reduceAdd (mulf x x) (constant S_ .f32 0x00000000#32) reducesTo_S2x8192x1024_S2x8192_d2 h_S_) 0x44800000#32)))
    (broadcastInDim S2x8192x1024 ![0, 1, 2] bcast_S2x1x1024_S2x8192x1024_0_1_2
      (addf (broadcastInDim S2x1x1024 ![] bcast_S_S2x1x1024 (constant S_ .f32 0x3F800000#32)) s)))
    (broadcastInDim S2x8192x1024 ![0, 1, 2] bcast_S2x1x1024_S2x8192x1024_0_1_2 h)) w

/-- The gate, in the reference's order. -/
def gate (u : FVec Ideal S2x8192x256 .f32) : FVec Ideal S2x8192x256 .f32 :=
  mulf u (mulf (all 0x3F000000#32) (addf (all 0x3F800000#32) (Host.tanh (mulf (all 0x3F4C422A#32)
    (addf u (mulf (all 0x3D372713#32) (mulf (mulf u u) u)))))))

/-- Rows of 256 normalised, times a weight at each column. -/
def normed256 (v : FVec Ideal S2x8192x256 .f32) (g : FVec Ideal S256 .f32) : FVec Ideal S2x8192x256 .f32 :=
  mulf (mulf v (broadcastInDim S2x8192x256 ![0, 1, 2] bcast_S2x8192x1_S2x8192x256_0_1_2
    (root (Host.reduceAdd (mulf v v) (constant S_ .f32 0x00000000#32) reducesTo_S2x8192x256_S2x8192_d2 h_S_) 0x43800000#32)))
    (broadcastInDim S2x8192x256 ![0, 1, 2] bcast_S1x1x256_S2x8192x256_0_1_2 (broadcastInDim S1x1x256 ![2] bcast_S256_S1x1x256_2 g))

/-- Rows of 128 normalised, times a weight at each column. -/
def normed128 (v : FVec Ideal S2x8192x128 .f32) (g : FVec Ideal S128 .f32) : FVec Ideal S2x8192x128 .f32 :=
  mulf (mulf v (broadcastInDim S2x8192x128 ![0, 1, 2] bcast_S2x8192x1_S2x8192x128_0_1_2
    (root (Host.reduceAdd (mulf v v) (constant S_ .f32 0x00000000#32) reducesTo_S2x8192x128_S2x8192_d2 h_S_) 0x43000000#32)))
    (broadcastInDim S2x8192x128 ![0, 1, 2] bcast_S1x1x128_S2x8192x128_0_1_2 (broadcastInDim S1x1x128 ![2] bcast_S128_S1x1x128_2 g))

/-- Each head's matrix applied within chunks of 128 rows, plus a bias at each head and row of the chunk. -/
def spatial (v : FVec Ideal S2x8192x256 .f32) (w : FVec Ideal S4x128x128 .f32) (b : FVec Ideal S4x128 .f32) :
    FVec Ideal S2x8192x256 .f32 :=
  shapeCast _ (addf (transpose S2x64x128x4x64 [1, 2, 4, 0, 3]
    (Host.dotGeneral dot_S2x64x128x4x64_S4x128x128_S4x2x64x64x128_2_2_014_1_3_0 none
      (shapeCast _ v shapeCasts_S2x8192x256_S2x64x128x4x64) w) transposes_S4x2x64x64x128_S2x64x128x4x64_1_2_4_0_3)
    (broadcastInDim S2x64x128x4x64 ![0, 1, 2, 3, 4] bcast_S1x1x128x4x1_S2x64x128x4x64_0_1_2_3_4
      (broadcastInDim S1x1x128x4x1 ![2, 3, 4] bcast_S128x4x1_S1x1x128x4x1_2_3_4
        (broadcastInDim S128x4x1 ![0, 1] bcast_S128x4_S128x4x1_0_1 (transpose S128x4 [1, 0] b transposes_S4x128_S128x4_1_0)))))
    shapeCasts_S2x64x128x4x64_S2x8192x256

/-- The spatial gating mixer of the projected rows. -/
def mixed (p : FVec Ideal S2x8192x1216 .f32) (g : FVec Ideal S256 .f32) (w : FVec Ideal S4x128x128 .f32) (b : FVec Ideal S4x128 .f32) :
    FVec Ideal S2x8192x256 .bf16 :=
  truncf .bf16 (mulf (gate (extractStridedSlice S2x8192x256 ![0, 0, 0] p slices_S2x8192x1216_S2x8192x256_0_0_0))
    (spatial (normed256 (gate (extractStridedSlice S2x8192x256 ![0, 0, 256] p slices_S2x8192x1216_S2x8192x256_0_0_256)) g) w b))
    bitsLt_bf16_f32

/-- The channel transform of the projected rows. -/
def channels (p : FVec Ideal S2x8192x1216 .f32) (f : FVec Ideal S256x512 .f32) : FVec Ideal S2x8192x512 .f32 :=
  Host.dotGeneral dot_S2x8192x256_S256x512_S2x8192x512_2_0_01_1_n_n none
    (extractStridedSlice S2x8192x256 ![0, 0, 512] p slices_S2x8192x1216_S2x8192x256_0_0_512) f

/-- The first half of the columns. -/
def left (t : FVec Ideal S2x8192x512 .f32) : FVec Ideal S2x8192x256 .f32 :=
  extractStridedSlice S2x8192x256 ![0, 0, 0] t slices_S2x8192x512_S2x8192x256_0_0_0

/-- The second half of the columns. -/
def right (t : FVec Ideal S2x8192x512 .f32) : FVec Ideal S2x8192x256 .f32 :=
  extractStridedSlice S2x8192x256 ![0, 0, 256] t slices_S2x8192x512_S2x8192x256_0_0_256

/-- The keys without position and the values of each head from the compressed rows. -/
def expanded (p : FVec Ideal S2x8192x1216 .f32) (g : FVec Ideal S128 .f32) (w : FVec Ideal S128x1024 .f32) :
    FVec Ideal S2x8192x4x256 .f32 :=
  shapeCast _ (Host.dotGeneral dot_S2x8192x128_S128x1024_S2x8192x1024_2_0_01_1_n_n none
    (normed128 (extractStridedSlice S2x8192x128 ![0, 0, 1024] p slices_S2x8192x1216_S2x8192x128_0_0_1024) g) w)
    shapeCasts_S2x8192x1024_S2x8192x4x256

/-- The values of each head. -/
def values (y : FVec Ideal S2x8192x4x256 .f32) : FVec Ideal S2x4x8192x128 .bf16 :=
  truncf .bf16 (transpose S2x4x8192x128 [0, 2, 1, 3] (extractStridedSlice S2x8192x4x128 ![0, 0, 0, 128] y
    slices_S2x8192x4x256_S2x8192x4x128_0_0_0_128) transposes_S2x8192x4x128_S2x4x8192x128_0_2_1_3) bitsLt_bf16_f32

/-- Division by a nonzero real is multiplication by its reciprocal. -/
theorem div_real (y : EReal) (r : ℝ) (hr : r ≠ 0) : Ideal.div y (r : EReal) = y * ((1 / r : ℝ) : EReal) := by
  unfold Ideal.div
  rw [if_neg (by exact_mod_cast hr), one_div, EReal.coe_inv]

/-- Division by 1024. -/
theorem div_1024 (y : EReal) : Ideal.div y (Ideal.ofBits .f32 0x44800000#32) = y * Ideal.ofBits .f32 0x3A800000#32 := by
  have e : Ideal.ofBits .f32 0x44800000#32 = ((1024 : ℝ) : EReal) := by
    simp [Ideal.ofBits, Ideal.ieee]; rw [← EReal.coe_mul]; norm_num
  have e' : Ideal.ofBits .f32 0x3A800000#32 = ((1 / 1024 : ℝ) : EReal) := by
    simp [Ideal.ofBits, Ideal.ieee]; rw [← EReal.coe_mul]; norm_num
  rw [e, e', div_real y _ (by norm_num)]

/-- Division by 256. -/
theorem div_256 (y : EReal) : Ideal.div y (Ideal.ofBits .f32 0x43800000#32) = y * Ideal.ofBits .f32 0x3B800000#32 := by
  have e : Ideal.ofBits .f32 0x43800000#32 = ((256 : ℝ) : EReal) := by
    simp [Ideal.ofBits, Ideal.ieee]; rw [← EReal.coe_mul]; norm_num
  have e' : Ideal.ofBits .f32 0x3B800000#32 = ((1 / 256 : ℝ) : EReal) := by
    simp [Ideal.ofBits, Ideal.ieee]; rw [← EReal.coe_mul]; norm_num
  rw [e, e', div_real y _ (by norm_num)]

/-- Division by 128. -/
theorem div_128 (y : EReal) : Ideal.div y (Ideal.ofBits .f32 0x43000000#32) = y * Ideal.ofBits .f32 0x3C000000#32 := by
  have e : Ideal.ofBits .f32 0x43000000#32 = ((128 : ℝ) : EReal) := by
    simp [Ideal.ofBits, Ideal.ieee]; rw [← EReal.coe_mul]; norm_num
  have e' : Ideal.ofBits .f32 0x3C000000#32 = ((1 / 128 : ℝ) : EReal) := by
    simp [Ideal.ofBits, Ideal.ieee]; rw [← EReal.coe_mul]; norm_num
  rw [e, e', div_real y _ (by norm_num)]

theorem gate_apply (u : FVec Ideal S2x8192x256 .f32) (i : S2x8192x256.Idx) : gate u i = gelu (u i) := by
  pointwise [gate]
  unfold gelu
  rw [mul_assoc (Ideal.ofBits .f32 0x3D372713#32), mul_assoc (Ideal.ofBits .f32 0x3D372713#32), ← mul_assoc (u i) (Ideal.ofBits _ _),
    mul_comm (u i) (Ideal.ofBits .f32 0x3F000000#32)]

theorem project_apply (x : FVec Ideal S2x8192x1024 .f32) (h s : FVec Ideal S2x1x1024 .f32) (w : FVec Ideal S1024x1216 .f32)
    (b : Fin 2) (n : Fin 8192) (j : Fin 1216) :
    project x h s w (ix3 b n j) = proj (fun b n d => x (ix3 b n d)) (fun b d => h (ix3 b 0 d)) (fun b d => s (ix3 b 0 d))
      (fun d j => w (ix2 d j)) b n j := by
  pointwise [project, root]
  rw [div_1024]
  rfl

theorem normed256_apply (v : FVec Ideal S2x8192x256 .f32) (g : FVec Ideal S256 .f32) (b : Fin 2) (n : Fin 8192) (j : Fin 256) :
    normed256 v g (ix3 b n j) = norm256 (fun j => v (ix3 b n j)) (fun j => g (ix1 j)) j := by
  pointwise [normed256, root]
  rw [div_256]
  rfl

theorem normed128_apply (v : FVec Ideal S2x8192x128 .f32) (g : FVec Ideal S128 .f32) (b : Fin 2) (n : Fin 8192) (j : Fin 128) :
    normed128 v g (ix3 b n j) = norm128 (fun j => v (ix3 b n j)) (fun j => g (ix1 j)) j := by
  pointwise [normed128, root]
  rw [div_128]
  rfl

theorem spatial_apply (v : FVec Ideal S2x8192x256 .f32) (w : FVec Ideal S4x128x128 .f32) (b : FVec Ideal S4x128 .f32)
    (i : Fin 2) (n : Fin 8192) (c : Fin 256) :
    spatial v w b (ix3 i n c)
      = (∑ q : Fin 128, w (ix3 ⟨c.val / 64, by omega⟩ ⟨n.val % 128, by omega⟩ q) * v (ix3 i ⟨n.val / 128 * 128 + q.val, by omega⟩ c))
        + b (ix2 ⟨c.val / 64, by omega⟩ ⟨n.val % 128, by omega⟩) := by
  pointwise [spatial]
  exact congrArg (· + _) (Finset.sum_congr rfl fun q _ => mul_comm _ _)

/-- The first result at an entry. -/
theorem mixed_apply (p : FVec Ideal S2x8192x1216 .f32) (g : FVec Ideal S256 .f32) (w : FVec Ideal S4x128x128 .f32)
    (b : FVec Ideal S4x128 .f32) (i : Fin 2) (n : Fin 8192) (c : Fin 256) :
    mixed p g w b (ix3 i n c) = gated (fun b n j => p (ix3 b n j)) (fun j => g (ix1 j)) (fun h p q => w (ix3 h p q))
      (fun h p => b (ix2 h p)) i n c := by
  pointwise [mixed]
  simp only [gate_apply, spatial_apply, normed256_apply]
  pointwise []
  rfl

/-- The second and third results at an entry. -/
theorem channels_apply (p : FVec Ideal S2x8192x1216 .f32) (f : FVec Ideal S256x512 .f32) (b : Fin 2) (n : Fin 8192) (k : Fin 512) :
    channels p f (ix3 b n k) = chan (fun b n j => p (ix3 b n j)) (fun j k => f (ix2 j k)) b n k := by
  pointwise [channels]
  rfl

theorem left_apply (t : FVec Ideal S2x8192x512 .f32) (b : Fin 2) (n : Fin 8192) (k : Fin 256) :
    left t (ix3 b n k) = t (ix3 b n ⟨k.val, by omega⟩) := by
  pointwise [left]

theorem right_apply (t : FVec Ideal S2x8192x512 .f32) (b : Fin 2) (n : Fin 8192) (k : Fin 256) :
    right t (ix3 b n k) = t (ix3 b n ⟨256 + k.val, by omega⟩) := by
  pointwise [right]

theorem expanded_apply (p : FVec Ideal S2x8192x1216 .f32) (g : FVec Ideal S128 .f32) (w : FVec Ideal S128x1024 .f32)
    (b : Fin 2) (n : Fin 8192) (h : Fin 4) (d : Fin 256) :
    expanded p g w (ix4 b n h d) = expand (fun b n j => p (ix3 b n j)) (fun j => g (ix1 j)) (fun j k => w (ix2 j k)) b n
      ⟨256 * h.val + d.val, by omega⟩ := by
  pointwise [expanded]
  simp only [normed128_apply]
  pointwise []
  unfold expand
  refine Finset.sum_congr rfl fun j _ => congrArg (_ * ·) (congrArg w (congrArg (ix2 j) (Fin.ext ?_)))
  show h.val * 256 + d.val = 256 * h.val + d.val
  omega

theorem values_apply (y : FVec Ideal S2x8192x4x256 .f32) (b : Fin 2) (h : Fin 4) (n : Fin 8192) (d : Fin 128) :
    values y (ix4 b h n d) = y (ix4 b n h ⟨128 + d.val, by omega⟩) := by
  pointwise [values]

end Cert.Reference2Ideal.Mix

end
-- ==== Proof.Mix.RefHeads.lean ====
/- The queries and keys of the input projection reference as functions of arrays, and each at an entry. -/
module

public import proofs.«01_k».proof.Proof.Mix.RefOps

@[expose] public section

set_option maxRecDepth 16384

noncomputable section

namespace Cert.Reference2Ideal.Mix

open Cert.Reference2Ideal Cert.Reference2Ideal.Gen Cert.Mix
open Idealize.ShloMosaic Idealize.ShloMosaic.TcCoe
open scoped BigOperators

/-- The queries of each head before their normalisation. -/
def queries (p : FVec Ideal S2x8192x1216 .f32) (g : FVec Ideal S256 .f32) (w : FVec Ideal S256x768 .f32) :
    FVec Ideal S2x8192x4x192 .f32 :=
  shapeCast _ (Host.dotGeneral dot_S2x8192x256_S256x768_S2x8192x768_2_0_01_1_n_n none
    (normed256 (extractStridedSlice S2x8192x256 ![0, 0, 768] p slices_S2x8192x1216_S2x8192x256_0_0_768) g) w)
    shapeCasts_S2x8192x768_S2x8192x4x192

/-- The keys of each head before their normalisation. -/
def keys (p : FVec Ideal S2x8192x1216 .f32) (y : FVec Ideal S2x8192x4x256 .f32) : FVec Ideal S2x8192x4x192 .f32 :=
  concatenate S2x8192x4x192 3 [⟨S2x8192x4x128, extractStridedSlice S2x8192x4x128 ![0, 0, 0, 0] y
    slices_S2x8192x4x256_S2x8192x4x128_0_0_0_0⟩, ⟨S2x8192x4x64, broadcastInDim S2x8192x4x64 ![0, 1, 2, 3]
    bcast_S2x8192x1x64_S2x8192x4x64_0_1_2_3 (broadcastInDim S2x8192x1x64 ![0, 1, 3] bcast_S2x8192x64_S2x8192x1x64_0_1_3
    (extractStridedSlice S2x8192x64 ![0, 0, 1152] p slices_S2x8192x1216_S2x8192x64_0_0_1152))⟩]
    concatenates_S2x8192x4x128_S2x8192x4x64_S2x8192x4x192_d3

/-- Each head's 192 entries normalised, times a gain. -/
def normed192 (z : FVec Ideal S2x8192x4x192 .f32) (g : FVec Ideal S192 .f32) : FVec Ideal S2x8192x4x192 .f32 :=
  mulf (mulf z (broadcastInDim S2x8192x4x192 ![0, 1, 2, 3] bcast_S2x8192x4x1_S2x8192x4x192_0_1_2_3 (Host.rsqrt (addf
    (Host.divf (broadcastInDim S2x8192x4x1 ![0, 1, 2] bcast_S2x8192x4_S2x8192x4x1_0_1_2 (Host.reduceAdd (mulf z z)
      (constant S_ .f32 0x00000000#32) reducesTo_S2x8192x4x192_S2x8192x4_d3 h_S_))
      (broadcastInDim S2x8192x4x1 ![] bcast_S_S2x8192x4x1 (constant S_ .f32 0x43400000#32)))
    (broadcastInDim S2x8192x4x1 ![] bcast_S_S2x8192x4x1 (constant S_ .f32 0x358637BD#32))))))
    (broadcastInDim S2x8192x4x192 ![0, 1, 2, 3] bcast_S1x1x1x192_S2x8192x4x192_0_1_2_3
      (broadcastInDim S1x1x1x192 ![3] bcast_S192_S1x1x1x192_3 g))

/-- A table of angles at every head. -/
def angle (t : FVec Ideal S8192x16 .f32) : FVec Ideal S2x8192x4x16 .f32 :=
  broadcastInDim S2x8192x4x16 ![0, 1, 2, 3] bcast_S1x8192x1x16_S2x8192x4x16_0_1_2_3 (broadcastInDim S1x8192x1x16 ![1, 2, 3]
    bcast_S8192x1x16_S1x8192x1x16_1_2_3 (broadcastInDim S8192x1x16 ![0, 2] bcast_S8192x16_S8192x1x16_0_2 t))

/-- The first sixteen of 32 entries. -/
def front (x : FVec Ideal S2x8192x4x32 .f32) : FVec Ideal S2x8192x4x16 .f32 :=
  extractStridedSlice S2x8192x4x16 ![0, 0, 0, 0] x slices_S2x8192x4x32_S2x8192x4x16_0_0_0_0

/-- The last sixteen of 32 entries. -/
def back (x : FVec Ideal S2x8192x4x32 .f32) : FVec Ideal S2x8192x4x16 .f32 :=
  extractStridedSlice S2x8192x4x16 ![0, 0, 0, 16] x slices_S2x8192x4x32_S2x8192x4x16_0_0_0_16

/-- 32 entries rotated by one angle for each pair. -/
def spun (x : FVec Ideal S2x8192x4x32 .f32) (c s : FVec Ideal S8192x16 .f32) : FVec Ideal S2x8192x4x32 .f32 :=
  concatenate S2x8192x4x32 3 [⟨S2x8192x4x16, subf (mulf (front x) (angle c)) (mulf (back x) (angle s))⟩,
    ⟨S2x8192x4x16, addf (mulf (front x) (angle s)) (mulf (back x) (angle c))⟩]
    concatenates_S2x8192x4x16_S2x8192x4x16_S2x8192x4x32_d3

/-- A head's last 64 entries. -/
def last (z : FVec Ideal S2x8192x4x192 .f32) : FVec Ideal S2x8192x4x64 .f32 :=
  extractStridedSlice S2x8192x4x64 ![0, 0, 0, 128] z slices_S2x8192x4x192_S2x8192x4x64_0_0_0_128

/-- 64 entries rotated: the first half by one pair of tables, the second by another. -/
def turned (x : FVec Ideal S2x8192x4x64 .f32) (ca sa cb sb : FVec Ideal S8192x16 .f32) : FVec Ideal S2x8192x4x64 .f32 :=
  concatenate S2x8192x4x64 3 [⟨S2x8192x4x32, spun (extractStridedSlice S2x8192x4x32 ![0, 0, 0, 0] x
    slices_S2x8192x4x64_S2x8192x4x32_0_0_0_0) ca sa⟩, ⟨S2x8192x4x32, spun (extractStridedSlice S2x8192x4x32 ![0, 0, 0, 32] x
    slices_S2x8192x4x64_S2x8192x4x32_0_0_0_32) cb sb⟩] concatenates_S2x8192x4x32_S2x8192x4x32_S2x8192x4x64_d3

/-- Head 0's entries without position. -/
def nope0 (z : FVec Ideal S2x8192x4x192 .f32) : FVec Ideal S2x8192x128 .f32 :=
  shapeCast _ (extractStridedSlice S2x8192x1x128 ![0, 0, 0, 0] z slices_S2x8192x4x192_S2x8192x1x128_0_0_0_0)
    shapeCasts_S2x8192x1x128_S2x8192x128

/-- Head 0's rotated entries. -/
def slot0 (r : FVec Ideal S2x8192x4x64 .f32) : FVec Ideal S2x8192x64 .f32 :=
  shapeCast _ (extractStridedSlice S2x8192x1x64 ![0, 0, 0, 0] r slices_S2x8192x4x64_S2x8192x1x64_0_0_0_0)
    shapeCasts_S2x8192x1x64_S2x8192x64

/-- Head 1's entries without position. -/
def nope1 (z : FVec Ideal S2x8192x4x192 .f32) : FVec Ideal S2x8192x128 .f32 :=
  shapeCast _ (extractStridedSlice S2x8192x1x128 ![0, 0, 1, 0] z slices_S2x8192x4x192_S2x8192x1x128_0_0_1_0)
    shapeCasts_S2x8192x1x128_S2x8192x128

/-- Head 1's rotated entries. -/
def slot1 (r : FVec Ideal S2x8192x4x64 .f32) : FVec Ideal S2x8192x64 .f32 :=
  shapeCast _ (extractStridedSlice S2x8192x1x64 ![0, 0, 1, 0] r slices_S2x8192x4x64_S2x8192x1x64_0_0_1_0)
    shapeCasts_S2x8192x1x64_S2x8192x64

/-- Head 2's entries without position. -/
def nope2 (z : FVec Ideal S2x8192x4x192 .f32) : FVec Ideal S2x8192x128 .f32 :=
  shapeCast _ (extractStridedSlice S2x8192x1x128 ![0, 0, 2, 0] z slices_S2x8192x4x192_S2x8192x1x128_0_0_2_0)
    shapeCasts_S2x8192x1x128_S2x8192x128

/-- Head 2's rotated entries. -/
def slot2 (r : FVec Ideal S2x8192x4x64 .f32) : FVec Ideal S2x8192x64 .f32 :=
  shapeCast _ (extractStridedSlice S2x8192x1x64 ![0, 0, 2, 0] r slices_S2x8192x4x64_S2x8192x1x64_0_0_2_0)
    shapeCasts_S2x8192x1x64_S2x8192x64

/-- Head 3's entries without position. -/
def nope3 (z : FVec Ideal S2x8192x4x192 .f32) : FVec Ideal S2x8192x128 .f32 :=
  shapeCast _ (extractStridedSlice S2x8192x1x128 ![0, 0, 3, 0] z slices_S2x8192x4x192_S2x8192x1x128_0_0_3_0)
    shapeCasts_S2x8192x1x128_S2x8192x128

/-- Head 3's rotated entries. -/
def slot3 (r : FVec Ideal S2x8192x4x64 .f32) : FVec Ideal S2x8192x64 .f32 :=
  shapeCast _ (extractStridedSlice S2x8192x1x64 ![0, 0, 3, 0] r slices_S2x8192x4x64_S2x8192x1x64_0_0_3_0)
    shapeCasts_S2x8192x1x64_S2x8192x64

/-- A slot of zeros. -/
def none64 : FVec Ideal S2x8192x64 .f32 := broadcastInDim S2x8192x64 ![] bcast_S_S2x8192x64 (constant S_ .f32 0x00000000#32)

/-- One head's rows: the entries without position, then two slots. -/
def slab (n : FVec Ideal S2x8192x128 .f32) (a b : FVec Ideal S2x8192x64 .f32) : FVec Ideal S2x1x8192x256 .f32 :=
  broadcastInDim S2x1x8192x256 ![0, 2, 3] bcast_S2x8192x256_S2x1x8192x256_0_2_3 (concatenate S2x8192x256 2
    [⟨S2x8192x128, n⟩, ⟨S2x8192x64, a⟩, ⟨S2x8192x64, b⟩] concatenates_S2x8192x128_S2x8192x64_S2x8192x64_S2x8192x256_d2)

/-- The four heads' rows. -/
def stack (x y z w : FVec Ideal S2x1x8192x256 .f32) : FVec Ideal S2x4x8192x256 .f32 :=
  concatenate S2x4x8192x256 1 [⟨S2x1x8192x256, x⟩, ⟨S2x1x8192x256, y⟩, ⟨S2x1x8192x256, z⟩, ⟨S2x1x8192x256, w⟩]
    concatenates_S2x1x8192x256_S2x1x8192x256_S2x1x8192x256_S2x1x8192x256_S2x4x8192x256_d1

/-- The queries' rows. -/
def qrows (z : FVec Ideal S2x8192x4x192 .f32) (r : FVec Ideal S2x8192x4x64 .f32) : FVec Ideal S2x4x8192x256 .bf16 :=
  truncf .bf16 (mulf (stack (slab (nope0 z) (slot0 r) none64) (slab (nope1 z) none64 (slot1 r))
    (slab (nope2 z) (slot2 r) none64) (slab (nope3 z) none64 (slot3 r)))
    (broadcastInDim S2x4x8192x256 ![] bcast_S_S2x4x8192x256 (constant S_ .f32 0x3DD53B95#32))) bitsLt_bf16_f32

/-- The keys' rows. -/
def krows (z : FVec Ideal S2x8192x4x192 .f32) (r : FVec Ideal S2x8192x4x64 .f32) : FVec Ideal S2x4x8192x256 .bf16 :=
  truncf .bf16 (stack (slab (nope0 z) (slot0 r) (slot1 r)) (slab (nope1 z) (slot0 r) (slot1 r))
    (slab (nope2 z) (slot2 r) (slot3 r)) (slab (nope3 z) (slot2 r) (slot3 r))) bitsLt_bf16_f32

/-- Division by 192. -/
theorem div_192 (y : EReal) : Ideal.div y (Ideal.ofBits .f32 0x43400000#32) = y * ((1 / 192 : ℝ) : EReal) := by
  have e : Ideal.ofBits .f32 0x43400000#32 = ((192 : ℝ) : EReal) := by
    simp [Ideal.ofBits, Ideal.ieee]; rw [← EReal.coe_mul]; norm_num
  rw [e, div_real y _ (by norm_num)]

theorem queries_apply (p : FVec Ideal S2x8192x1216 .f32) (g : FVec Ideal S256 .f32) (w : FVec Ideal S256x768 .f32)
    (b : Fin 2) (n : Fin 8192) (h : Fin 4) (d : Fin 192) :
    queries p g w (ix4 b n h d) = quer (fun b n j => p (ix3 b n j)) (fun j => g (ix1 j)) (fun j k => w (ix2 j k)) b n
      ⟨192 * h.val + d.val, by omega⟩ := by
  pointwise [queries]
  simp only [normed256_apply]
  pointwise []
  unfold quer
  refine Finset.sum_congr rfl fun j _ => congrArg (_ * ·) (congrArg w (congrArg (ix2 j) (Fin.ext ?_)))
  show h.val * 192 + d.val = 192 * h.val + d.val
  omega

theorem keys_apply (p : FVec Ideal S2x8192x1216 .f32) (y : FVec Ideal S2x8192x4x256 .f32)
    (b : Fin 2) (n : Fin 8192) (h : Fin 4) (d : Fin 192) :
    keys p y (ix4 b n h d) = if hd : d.val < 128 then y (ix4 b n h ⟨d.val, by omega⟩)
      else p (ix3 b n ⟨1152 + (d.val - 128), by omega⟩) := by
  pointwise [keys]

theorem normed192_apply (z : FVec Ideal S2x8192x4x192 .f32) (g : FVec Ideal S192 .f32)
    (b : Fin 2) (n : Fin 8192) (h : Fin 4) (d : Fin 192) :
    normed192 z g (ix4 b n h d) = unit (fun d => z (ix4 b n h d)) (fun d => g (ix1 d)) d := by
  pointwise [normed192]
  rw [div_192]
  rfl

theorem angle_apply (t : FVec Ideal S8192x16 .f32) (b : Fin 2) (n : Fin 8192) (h : Fin 4) (d : Fin 16) :
    angle t (ix4 b n h d) = t (ix2 n d) := by
  pointwise [angle]

theorem front_apply (x : FVec Ideal S2x8192x4x32 .f32) (b : Fin 2) (n : Fin 8192) (h : Fin 4) (d : Fin 16) :
    front x (ix4 b n h d) = x (ix4 b n h ⟨d.val, by omega⟩) := by
  pointwise [front]

theorem back_apply (x : FVec Ideal S2x8192x4x32 .f32) (b : Fin 2) (n : Fin 8192) (h : Fin 4) (d : Fin 16) :
    back x (ix4 b n h d) = x (ix4 b n h ⟨16 + d.val, by omega⟩) := by
  pointwise [back]

theorem spun_apply (x : FVec Ideal S2x8192x4x32 .f32) (c s : FVec Ideal S8192x16 .f32)
    (b : Fin 2) (n : Fin 8192) (h : Fin 4) (d : Fin 32) :
    spun x c s (ix4 b n h d) = if hd : d.val < 16 then
        x (ix4 b n h d) * c (ix2 n ⟨d.val % 16, Nat.mod_lt _ (by decide)⟩)
          - x (ix4 b n h ⟨d.val + 16, by omega⟩) * s (ix2 n ⟨d.val % 16, Nat.mod_lt _ (by decide)⟩)
      else x (ix4 b n h ⟨d.val - 16, by omega⟩) * s (ix2 n ⟨d.val % 16, Nat.mod_lt _ (by decide)⟩)
          + x (ix4 b n h d) * c (ix2 n ⟨d.val % 16, Nat.mod_lt _ (by decide)⟩) := by
  pointwise [spun]
  by_cases h1 : d.val < 16
  · rw [dif_pos h1, dif_pos h1, front_apply, back_apply, angle_apply, angle_apply]
    have e : (⟨d.val % 16, Nat.mod_lt _ (by decide)⟩ : Fin 16) = ⟨d.val, h1⟩ := Fin.ext (Nat.mod_eq_of_lt h1)
    have e' : (⟨16 + d.val, by omega⟩ : Fin 32) = ⟨d.val + 16, by omega⟩ := Fin.ext (Nat.add_comm _ _)
    rw [e, e']
  · rw [dif_neg h1, dif_neg h1, front_apply, back_apply, angle_apply, angle_apply]
    have e : (⟨d.val % 16, Nat.mod_lt _ (by decide)⟩ : Fin 16) = ⟨d.val - 16, by omega⟩ := Fin.ext (by dsimp only; omega)
    have e' : (⟨16 + (d.val - 16), by omega⟩ : Fin 32) = d := Fin.ext (by dsimp only; omega)
    rw [e, e']

theorem last_apply (z : FVec Ideal S2x8192x4x192 .f32) (b : Fin 2) (n : Fin 8192) (h : Fin 4) (d : Fin 64) :
    last z (ix4 b n h d) = z (ix4 b n h ⟨128 + d.val, by omega⟩) := by
  pointwise [last]

theorem turned_apply (x : FVec Ideal S2x8192x4x64 .f32) (ca sa cb sb : FVec Ideal S8192x16 .f32)
    (b : Fin 2) (n : Fin 8192) (h : Fin 4) (d : Fin 64) :
    turned x ca sa cb sb (ix4 b n h d) = turn (fun d => x (ix4 b n h d)) (ang (fun k => ca (ix2 n k)) (fun k => cb (ix2 n k)))
      (ang (fun k => sa (ix2 n k)) (fun k => sb (ix2 n k))) d := by
  pointwise [turned]
  unfold turn ang
  by_cases h0 : d.val < 32
  · rw [dif_pos h0, spun_apply, if_pos h0, if_pos h0]
    by_cases h1 : d.val < 16
    · rw [dif_pos h1, dif_pos (by omega)]
      pointwise []
    · rw [dif_neg h1, dif_neg (by omega)]
      pointwise []
  · have e : (⟨(d.val - 32) % 16, Nat.mod_lt _ (by decide)⟩ : Fin 16) = ⟨d.val % 16, Nat.mod_lt _ (by decide)⟩ :=
      Fin.ext (by dsimp only; omega)
    have e' : (⟨32 + (d.val - 32), by omega⟩ : Fin 64) = d := Fin.ext (by dsimp only; omega)
    rw [dif_neg h0, spun_apply, if_neg h0, if_neg h0]
    dsimp only
    rw [e]
    by_cases h1 : d.val - 32 < 16
    · rw [dif_pos h1, dif_pos (by omega)]
      pointwise []
      have e2 : (⟨32 + (d.val - 32 + 16), by omega⟩ : Fin 64) = ⟨d.val + 16, by omega⟩ := Fin.ext (by dsimp only; omega)
      rw [e', e2]
    · rw [dif_neg h1, dif_neg (by omega)]
      pointwise []
      have e2 : (⟨32 + (d.val - 32 - 16), by omega⟩ : Fin 64) = ⟨d.val - 16, by omega⟩ := Fin.ext (by dsimp only; omega)
      rw [e', e2]

theorem nope_apply (z : FVec Ideal S2x8192x4x192 .f32) (b : Fin 2) (n : Fin 8192) (d : Fin 128) :
    nope0 z (ix3 b n d) = z (ix4 b n 0 ⟨d.val, by omega⟩) ∧ nope1 z (ix3 b n d) = z (ix4 b n 1 ⟨d.val, by omega⟩)
      ∧ nope2 z (ix3 b n d) = z (ix4 b n 2 ⟨d.val, by omega⟩) ∧ nope3 z (ix3 b n d) = z (ix4 b n 3 ⟨d.val, by omega⟩) := by
  refine ⟨?_, ?_, ?_, ?_⟩
  · pointwise [nope0]
  · pointwise [nope1]
  · pointwise [nope2]
  · pointwise [nope3]

theorem slot_apply (r : FVec Ideal S2x8192x4x64 .f32) (b : Fin 2) (n : Fin 8192) (d : Fin 64) :
    slot0 r (ix3 b n d) = r (ix4 b n 0 d) ∧ slot1 r (ix3 b n d) = r (ix4 b n 1 d)
      ∧ slot2 r (ix3 b n d) = r (ix4 b n 2 d) ∧ slot3 r (ix3 b n d) = r (ix4 b n 3 d) := by
  refine ⟨?_, ?_, ?_, ?_⟩
  · pointwise [slot0]
  · pointwise [slot1]
  · pointwise [slot2]
  · pointwise [slot3]

theorem none64_apply (i : S2x8192x64.Idx) : none64 i = 0 := by
  pointwise [none64]

theorem slab_apply (v : FVec Ideal S2x8192x128 .f32) (x y : FVec Ideal S2x8192x64 .f32) (b : Fin 2) (n : Fin 8192)
    (l : Fin 256) :
    slab v x y (ix4 b 0 n l) = if hl : l.val < 128 then v (ix3 b n ⟨l.val, hl⟩)
      else if (l.val - 128) / 64 = 0 then x (ix3 b n ⟨(l.val - 128) % 64, Nat.mod_lt _ (by decide)⟩)
      else y (ix3 b n ⟨(l.val - 128) % 64, Nat.mod_lt _ (by decide)⟩) := by
  pointwise [slab]
  by_cases h0 : l.val < 128
  · rw [dif_pos h0, dif_pos h0]
  · rw [dif_neg h0, dif_neg h0]
    by_cases h1 : l.val - 128 < 64
    · refine (dif_pos h1).trans (Eq.trans ?_ (if_pos (by show (l.val - 128) / 64 = 0; omega)).symm)
      exact congrArg x (congrArg (ix3 b n) (Fin.ext (by show l.val - 128 = (l.val - 128) % 64; omega)))
    · refine (dif_neg h1).trans (Eq.trans ?_ (if_neg (by show ¬(l.val - 128) / 64 = 0; omega)).symm)
      exact congrArg y (congrArg (ix3 b n) (Fin.ext (by show l.val - 128 - 64 = (l.val - 128) % 64; omega)))

theorem stack_apply (x y z w : FVec Ideal S2x1x8192x256 .f32) (b : Fin 2) (n : Fin 8192) (l : Fin 256) :
    stack x y z w (ix4 b 0 n l) = x (ix4 b 0 n l) ∧ stack x y z w (ix4 b 1 n l) = y (ix4 b 0 n l)
      ∧ stack x y z w (ix4 b 2 n l) = z (ix4 b 0 n l) ∧ stack x y z w (ix4 b 3 n l) = w (ix4 b 0 n l) := by
  refine ⟨?_, ?_, ?_, ?_⟩
  · pointwise [stack]
  · pointwise [stack]
  · pointwise [stack]
  · pointwise [stack]

/-- The queries' rows at an entry. -/
theorem qrows_apply (z : FVec Ideal S2x8192x4x192 .f32) (r : FVec Ideal S2x8192x4x64 .f32) (b : Fin 2) (h : Fin 4)
    (n : Fin 8192) (l : Fin 256) :
    qrows z r (ix4 b h n l) = (if hl : l.val < 128 then z (ix4 b n h ⟨l.val, by omega⟩)
      else if (l.val - 128) / 64 = h.val % 2 then r (ix4 b n h ⟨(l.val - 128) % 64, Nat.mod_lt _ (by decide)⟩)
      else 0) * Ideal.ofBits .f32 0x3DD53B95#32 := by
  have h2 : (l.val - 128) / 64 < 2 := by omega
  pointwise [qrows]
  refine congrArg (· * _) ?_
  fin_cases h
  · refine (stack_apply _ _ _ _ b n l).1.trans ((slab_apply _ _ _ b n l).trans ?_)
    rw [none64_apply]
    exact dite_congr rfl (fun _ => (nope_apply z b n _).1) fun _ => by rw [(slot_apply r b n _).1]; rfl
  · refine (stack_apply _ _ _ _ b n l).2.1.trans ((slab_apply _ _ _ b n l).trans ?_)
    rw [none64_apply]
    refine dite_congr rfl (fun _ => (nope_apply z b n _).2.1) fun _ => ?_
    rw [(slot_apply r b n _).2.1]
    by_cases hk : (l.val - 128) / 64 = 0
    · rw [if_pos hk]
      exact (if_neg (by show ¬(l.val - 128) / 64 = 1; omega)).symm
    · rw [if_neg hk]
      exact (if_pos (by show (l.val - 128) / 64 = 1; omega)).symm
  · refine (stack_apply _ _ _ _ b n l).2.2.1.trans ((slab_apply _ _ _ b n l).trans ?_)
    rw [none64_apply]
    exact dite_congr rfl (fun _ => (nope_apply z b n _).2.2.1) fun _ => by rw [(slot_apply r b n _).2.2.1]; rfl
  · refine (stack_apply _ _ _ _ b n l).2.2.2.trans ((slab_apply _ _ _ b n l).trans ?_)
    rw [none64_apply]
    refine dite_congr rfl (fun _ => (nope_apply z b n _).2.2.2) fun _ => ?_
    rw [(slot_apply r b n _).2.2.2]
    by_cases hk : (l.val - 128) / 64 = 0
    · rw [if_pos hk]
      exact (if_neg (by show ¬(l.val - 128) / 64 = 1; omega)).symm
    · rw [if_neg hk]
      exact (if_pos (by show (l.val - 128) / 64 = 1; omega)).symm

/-- The two slots of a pair. -/
theorem pair_apply (r : FVec Ideal S2x8192x4x64 .f32) (b : Fin 2) (n : Fin 8192) (e : ℕ) (he : e < 2) (p : ℕ) (hp : p < 2)
    (j : Fin 64) (i i' : Fin 4) (hi : i.val = 2 * p) (hi' : i'.val = 2 * p + 1) :
    (if e = 0 then r (ix4 b n i j) else r (ix4 b n i' j)) = r (ix4 b n ⟨2 * p + e, by omega⟩ j) := by
  split_ifs with h
  · exact congrArg (fun k => r (ix4 b n k j)) (Fin.ext (by dsimp only; omega))
  · exact congrArg (fun k => r (ix4 b n k j)) (Fin.ext (by dsimp only; omega))

/-- The keys' rows at an entry. -/
theorem krows_apply (z : FVec Ideal S2x8192x4x192 .f32) (r : FVec Ideal S2x8192x4x64 .f32) (b : Fin 2) (h : Fin 4)
    (n : Fin 8192) (l : Fin 256) :
    krows z r (ix4 b h n l) = if hl : l.val < 128 then z (ix4 b n h ⟨l.val, by omega⟩)
      else r (ix4 b n ⟨2 * (h.val / 2) + (l.val - 128) / 64, by omega⟩ ⟨(l.val - 128) % 64, Nat.mod_lt _ (by decide)⟩) := by
  have h2 : (l.val - 128) / 64 < 2 := by omega
  pointwise [krows]
  fin_cases h
  · refine (stack_apply _ _ _ _ b n l).1.trans ((slab_apply _ _ _ b n l).trans ?_)
    refine dite_congr rfl (fun _ => (nope_apply z b n _).1) fun _ => ?_
    rw [(slot_apply r b n _).1, (slot_apply r b n _).2.1]
    exact pair_apply r b n _ h2 0 (by decide) _ 0 1 rfl rfl
  · refine (stack_apply _ _ _ _ b n l).2.1.trans ((slab_apply _ _ _ b n l).trans ?_)
    refine dite_congr rfl (fun _ => (nope_apply z b n _).2.1) fun _ => ?_
    rw [(slot_apply r b n _).1, (slot_apply r b n _).2.1]
    exact pair_apply r b n _ h2 0 (by decide) _ 0 1 rfl rfl
  · refine (stack_apply _ _ _ _ b n l).2.2.1.trans ((slab_apply _ _ _ b n l).trans ?_)
    refine dite_congr rfl (fun _ => (nope_apply z b n _).2.2.1) fun _ => ?_
    rw [(slot_apply r b n _).2.2.1, (slot_apply r b n _).2.2.2]
    exact pair_apply r b n _ h2 1 (by decide) _ 2 3 rfl rfl
  · refine (stack_apply _ _ _ _ b n l).2.2.2.trans ((slab_apply _ _ _ b n l).trans ?_)
    refine dite_congr rfl (fun _ => (nope_apply z b n _).2.2.2) fun _ => ?_
    rw [(slot_apply r b n _).2.2.1, (slot_apply r b n _).2.2.2]
    exact pair_apply r b n _ h2 1 (by decide) _ 2 3 rfl rfl

/-- The queries at an entry, from the heads' entries. -/
theorem qhead_apply (z : FVec Ideal S2x8192x4x192 .f32) (g : FVec Ideal S192 .f32) (ca sa cb sb : FVec Ideal S8192x16 .f32)
    (b : Fin 2) (h : Fin 4) (n : Fin 8192) (l : Fin 256) :
    qrows (normed192 z g) (turned (last (normed192 z g)) ca sa cb sb) (ix4 b h n l)
      = qhead (fun d => z (ix4 b n h d)) (fun d => g (ix1 d)) (fun k => ca (ix2 n k)) (fun k => cb (ix2 n k))
          (fun k => sa (ix2 n k)) (fun k => sb (ix2 n k)) h l := by
  rw [qrows_apply]
  unfold qhead
  simp only [turned_apply, last_apply, normed192_apply]

/-- The keys at an entry, from the heads' entries. -/
theorem khead_apply (z : FVec Ideal S2x8192x4x192 .f32) (g : FVec Ideal S192 .f32) (ca sa cb sb : FVec Ideal S8192x16 .f32)
    (b : Fin 2) (h : Fin 4) (n : Fin 8192) (l : Fin 256) :
    krows (normed192 z g) (turned (last (normed192 z g)) ca sa cb sb) (ix4 b h n l)
      = khead (fun h d => z (ix4 b n h d)) (fun d => g (ix1 d)) (fun k => ca (ix2 n k)) (fun k => cb (ix2 n k))
          (fun k => sa (ix2 n k)) (fun k => sb (ix2 n k)) h l := by
  rw [krows_apply]
  unfold khead
  simp only [turned_apply, last_apply, normed192_apply]

end Cert.Reference2Ideal.Mix

end
-- ==== Proof.Mix.Equal.lean ====
/- The queries and keys in the two orders of computing them. -/
module

public import proofs.«01_k».proof.Proof.Mix.Spec

@[expose] public section

set_option maxRecDepth 16384

noncomputable section

namespace Cert.Mix

open Idealize.ShloMosaic Idealize.ShloMosaic.TcCoe
open scoped BigOperators

/-- The queries' scale is a nonnegative real. -/
theorem scale_real : Ideal.ofBits .f32 0x3DD53B95#32 = ((13974421 / 134217728 : ℝ) : EReal) := by
  simp [Ideal.ofBits, Ideal.ieee]; rw [← EReal.coe_mul]; norm_num

theorem mul_swap (x I C g : EReal) : x * (I * C) * g = x * I * g * C := by ac_rfl

/-- The scale may be taken inside a rotation. -/
theorem turn_scale (v c s : Fin 64 → EReal) (j : Fin 64) :
    turn v c s j * Ideal.ofBits .f32 0x3DD53B95#32 = turn (fun k => v k * Ideal.ofBits .f32 0x3DD53B95#32) c s j := by
  have h0 : 0 ≤ Ideal.ofBits .f32 0x3DD53B95#32 := by
    rw [scale_real]; exact EReal.coe_nonneg.mpr (by norm_num)
  have h1 : Ideal.ofBits .f32 0x3DD53B95#32 ≠ ⊤ := by
    rw [scale_real]; exact EReal.coe_ne_top _
  generalize Ideal.ofBits .f32 0x3DD53B95#32 = C at h0 h1
  have e : ∀ a b : EReal, a * b * C = a * C * b := fun a b => by rw [mul_assoc, mul_comm b C, ← mul_assoc]
  unfold turn
  split_ifs with h
  · rw [sub_eq_add_neg, sub_eq_add_neg, EReal.right_distrib_of_nonneg_of_ne_top h0 h1, e, ← mul_neg, e, mul_neg]
  · rw [EReal.right_distrib_of_nonneg_of_ne_top h0 h1, e, e]

/-- The cosines over the lanes. -/
theorem cosl_ang (a b : Fin 16 → EReal) (k : Fin 128) :
    cosl a b k = ang a b ⟨k.val % 64, Nat.mod_lt _ (by decide)⟩ := by
  have e : k.val % 64 % 16 = k.val % 16 := by omega
  unfold cosl ang
  simp only [e]

/-- The rotation over the lanes, where the lanes of one half are the 64 entries. -/
theorem rot_turn (v : Fin 128 → EReal) (u : Fin 64 → EReal) (ca cb sa sb : Fin 16 → EReal) (k : Fin 128)
    (hv : ∀ l : Fin 128, l.val / 64 = k.val / 64 → v l = u ⟨l.val % 64, Nat.mod_lt _ (by decide)⟩) :
    rot v (cosl ca cb) (sinl sa sb) k
      = turn u (ang ca cb) (ang sa sb) ⟨k.val % 64, Nat.mod_lt _ (by decide)⟩ := by
  unfold rot turn sinl
  rw [cosl_ang, cosl_ang, hv k rfl]
  by_cases h : k.val % 32 < 16
  · have h' : k.val % 64 % 32 < 16 := by omega
    have e : partner k = ⟨(k.val + 16) % 128, by omega⟩ := by
      unfold partner
      rw [if_pos h]
    rw [e, dif_pos h', if_pos h, mul_neg, sub_eq_add_neg, hv _ (by dsimp only; omega)]
    exact congrArg (fun x => _ + -(u x * _)) (Fin.ext (by dsimp only; omega))
  · have h' : ¬k.val % 64 % 32 < 16 := by omega
    have e : partner k = ⟨(k.val + 112) % 128, by omega⟩ := by
      unfold partner
      rw [if_neg h]
    rw [e, dif_neg h', if_neg h, hv _ (by dsimp only; omega), add_comm]
    exact congrArg (fun x => u x * _ + _) (Fin.ext (by dsimp only; omega))

/-- The rotation of zeros. -/
theorem rot_zero (v c s : Fin 128 → EReal) (k : Fin 128) (hv : ∀ l : Fin 128, l.val / 64 = k.val / 64 → v l = 0) :
    rot v c s k = 0 := by
  unfold rot
  rw [hv k rfl, hv (partner k) (by unfold partner; split_ifs <;> (dsimp only; omega)), zero_mul, zero_mul, add_zero]

/-- A sum over a head's entries in its two parts. -/
theorem sum_parts (f : Fin 192 → EReal) :
    ∑ k, f k = (∑ k : Fin 128, f ⟨k.val, by omega⟩) + ∑ j : Fin 64, f ⟨128 + j.val, by omega⟩ :=
  Fin.sum_univ_add (a := 128) (b := 64) f

/-- A sum over the lanes of entries that are zero outside one half. -/
theorem sum_half (p : ℕ) (hp : p < 2) (f : Fin 128 → EReal) (g : Fin 64 → EReal)
    (own : ∀ j : Fin 64, f ⟨64 * p + j.val, by omega⟩ = g j) (other : ∀ x : Fin 128, x.val / 64 ≠ p → f x = 0) :
    ∑ x, f x = ∑ j, g j := by
  symm
  refine Fintype.sum_of_injective (fun j : Fin 64 => (⟨64 * p + j.val, by omega⟩ : Fin 128)) ?_ _ _ ?_ ?_
  · intro a b e
    have := Fin.val_eq_of_eq e
    exact Fin.ext (by simpa using this)
  · intro x hx
    refine other x fun e => hx ⟨⟨x.val - 64 * p, by omega⟩, Fin.ext ?_⟩
    show 64 * p + (x.val - 64 * p) = x.val
    omega
  · exact fun j => (own j).symm

/-- A sum over the lanes whose halves repeat the 64 entries. -/
theorem sum_twice (g : Fin 64 → EReal) :
    ∑ x : Fin 128, g ⟨x.val % 64, Nat.mod_lt _ (by decide)⟩ = (∑ j, g j) + ∑ j, g j := by
  refine (Fin.sum_univ_add (a := 64) (b := 64) fun x : Fin 128 => g ⟨x.val % 64, Nat.mod_lt _ (by decide)⟩).trans ?_
  refine congrArg₂ (· + ·) (Finset.sum_congr rfl fun j _ => congrArg g (Fin.ext ?_))
    (Finset.sum_congr rfl fun j _ => congrArg g (Fin.ext ?_))
  · show j.val % 64 = j.val
    omega
  · show (64 + j.val) % 64 = j.val
    omega

/-- Half of a doubled number. -/
theorem half_twice (S : EReal) : Ideal.ofBits .f32 0x3F000000#32 * (S + S) = S := by
  have e : Ideal.ofBits .f32 0x3F000000#32 = ((1 / 2 : ℝ) : EReal) := by
    simp [Ideal.ofBits, Ideal.ieee]; rw [← EReal.coe_mul]; norm_num
  rw [e]
  induction S with
  | bot => rw [EReal.bot_add, EReal.coe_mul_bot_of_pos (by norm_num)]
  | top => rw [EReal.top_add_top, EReal.coe_mul_top_of_pos (by norm_num)]
  | coe x => rw [← EReal.coe_add, ← EReal.coe_mul]; congr 1; ring

/-- A query's factor. -/
theorem qfac_eq (z : Fin 192 → EReal) (p : ℕ) (hp : p < 2) (n w : Fin 128 → EReal)
    (hn : ∀ k : Fin 128, n k = z ⟨k.val, by omega⟩) (hw : ∀ j : Fin 64, w ⟨64 * p + j.val, by omega⟩ = z ⟨128 + j.val, by omega⟩) :
    qfac p n w = inv192 (∑ k, z k * z k) * Ideal.ofBits .f32 0x3DD53B95#32 := by
  unfold qfac
  rw [sum_parts, sum_half p hp (fun x => own p w x * own p w x)
    (fun j => z ⟨128 + j.val, by omega⟩ * z ⟨128 + j.val, by omega⟩)]
  · simp only [hn]
  · intro j
    have e : own p w ⟨64 * p + j.val, by omega⟩ = z ⟨128 + j.val, by omega⟩ := by
      unfold own
      rw [if_pos (by dsimp only; omega), hw]
    rw [e]
  · intro x hx
    have e : own p w x = 0 := if_neg hx
    rw [e, zero_mul]

/-- A key's factor. -/
theorem kfac_eq (z : Fin 192 → EReal) (n w : Fin 128 → EReal) (hn : ∀ k : Fin 128, n k = z ⟨k.val, by omega⟩)
    (hw : ∀ x : Fin 128, w x = z ⟨128 + x.val % 64, by omega⟩) : kfac n w = inv192 (∑ k, z k * z k) := by
  unfold kfac
  rw [sum_parts]
  simp only [hn, hw]
  rw [sum_twice fun j => z ⟨128 + j.val, by omega⟩ * z ⟨128 + j.val, by omega⟩, half_twice]

theorem gcol_low (l : Fin 256) (h : l.val < 192) : gcol l = ⟨l.val, h⟩ := dif_pos h

theorem gcol_high (k : Fin 128) : gcol ⟨128 + k.val, by omega⟩ = ⟨128 + k.val % 64, by omega⟩ := by
  unfold gcol
  by_cases h : 128 + k.val < 192
  · rw [dif_pos h]
    exact Fin.ext (by show 128 + k.val = 128 + k.val % 64; omega)
  · rw [dif_neg h]
    exact Fin.ext (by show 128 + k.val - 64 = 128 + k.val % 64; omega)

/-- The queries. -/
theorem qhead_eq (z : Fin 768 → EReal) (g : Fin 192 → EReal) (ca cb sa sb : Fin 16 → EReal) (h : Fin 4) (l : Fin 256) :
    qhead (fun k => z ⟨192 * h.val + k.val, by omega⟩) g ca cb sa sb h l = qent z g ca cb sa sb h l := by
  have hf := qfac_eq (fun k => z ⟨192 * h.val + k.val, by omega⟩) (h.val % 2) (by omega)
    (fun k => z ⟨192 * h.val + k.val, by omega⟩)
    (fun k => z ⟨192 * (2 * (h.val / 2) + k.val / 64) + 128 + k.val % 64, by omega⟩) (fun k => rfl)
    (fun j => congrArg z (Fin.ext (by dsimp only; omega)))
  unfold qhead qent qrow
  rw [hf]
  unfold unit
  generalize inv192 _ = I
  by_cases hl : l.val < 128
  · rw [dif_pos hl, dif_pos hl]
    beta_reduce
    rw [gcol_low l (by omega)]
    exact (mul_swap _ _ _ _).symm
  · rw [dif_neg hl, dif_neg hl]
    by_cases hk : (l.val - 128) / 64 = h.val % 2
    · rw [if_pos hk, turn_scale]
      refine (rot_turn _ _ ca cb sa sb ⟨l.val - 128, by omega⟩ fun x hx => ?_).symm
      have ho : own (h.val % 2) (fun k => z ⟨192 * (2 * (h.val / 2) + k.val / 64) + 128 + k.val % 64, by omega⟩) x
          = z ⟨192 * h.val + (128 + x.val % 64), by omega⟩ := by
        unfold own
        dsimp only at hx
        rw [if_pos (hx.trans hk)]
        exact congrArg z (Fin.ext (by dsimp only; omega))
      beta_reduce
      rw [ho, gcol_high]
      exact mul_swap _ _ _ _
    · rw [if_neg hk, zero_mul]
      refine (rot_zero _ _ _ _ fun x hx => ?_).symm
      have ho : own (h.val % 2) (fun k => z ⟨192 * (2 * (h.val / 2) + k.val / 64) + 128 + k.val % 64, by omega⟩) x = 0 := by
        unfold own
        dsimp only at hx
        exact if_neg fun e => hk (hx.symm.trans e)
      beta_reduce
      rw [ho, zero_mul, zero_mul]

/-- The keys. -/
theorem khead_eq (y : Fin 1024 → EReal) (w : Fin 64 → EReal) (g : Fin 192 → EReal) (ca cb sa sb : Fin 16 → EReal)
    (h : Fin 4) (l : Fin 256) : khead (entries y w) g ca cb sa sb h l = kent y w g ca cb sa sb h l := by
  have low : ∀ (h : Fin 4) (k : Fin 128), entries y w h ⟨k.val, by omega⟩ = y ⟨256 * h.val + k.val, by omega⟩ :=
    fun h k => dif_pos k.isLt
  have high : ∀ (h : Fin 4) (j : Fin 64), entries y w h ⟨128 + j.val, by omega⟩ = w j := by
    intro h j
    unfold entries
    rw [dif_neg (by dsimp only; omega)]
    exact congrArg w (Fin.ext (by dsimp only; omega))
  have hf : ∀ h : Fin 4, kfac (fun k => y ⟨256 * h.val + k.val, by omega⟩) (fun k => w ⟨k.val % 64, Nat.mod_lt _ (by decide)⟩)
      = inv192 (∑ k, entries y w h k * entries y w h k) :=
    fun h => kfac_eq (entries y w h) _ _ (fun k => (low h k).symm) fun x => (high h ⟨x.val % 64, Nat.mod_lt _ (by decide)⟩).symm
  have ha := hf ⟨2 * (h.val / 2), by omega⟩
  have hb := hf ⟨2 * (h.val / 2) + 1, by omega⟩
  dsimp only at ha hb
  unfold khead kent krow
  rw [hf h, ha, hb]
  unfold unit
  by_cases hl : l.val < 128
  · rw [dif_pos hl, dif_pos hl]
    beta_reduce
    rw [gcol_low l (by omega), low h ⟨l.val, hl⟩]
  · rw [dif_neg hl, dif_neg hl]
    refine (rot_turn _ _ ca cb sa sb ⟨l.val - 128, by omega⟩ fun x hx => ?_).symm
    dsimp only at hx
    beta_reduce
    rw [high _ ⟨x.val % 64, Nat.mod_lt _ (by decide)⟩, gcol_high]
    refine congrArg (fun t => _ * t * _) ?_
    unfold kpair
    by_cases h0 : x.val / 64 = 0
    · rw [if_pos h0]
      have e : (⟨2 * (h.val / 2) + (l.val - 128) / 64, by omega⟩ : Fin 4) = ⟨2 * (h.val / 2), by omega⟩ :=
        Fin.ext (by dsimp only; omega)
      rw [e]
    · rw [if_neg h0]
      have e : (⟨2 * (h.val / 2) + (l.val - 128) / 64, by omega⟩ : Fin 4) = ⟨2 * (h.val / 2) + 1, by omega⟩ :=
        Fin.ext (by dsimp only; omega)
      rw [e]

end Cert.Mix

end
-- ==== Proof.Mix.Reference.lean ====
/- The input projection reference's run: its six results by their values. -/
module

public import proofs.«01_k».proof.Proof.Mix.RefHeads
public import proofs.«01_k».proof.Proof.Mix.Equal
public import Idealize.ShloMosaic.Lib.Quiescent

@[expose] public section

set_option maxRecDepth 16384

noncomputable section

namespace Cert.Reference2Ideal.Mix

open Cert.Reference2Ideal Cert.Reference2Ideal.Gen Cert.Mix
open Idealize.ShloMosaic Idealize.ShloMosaic.TcCoe
open Idealize.SL Idealize.SL.Sem

variable (m : (ℓ : Loc nD τ sig) → Buf (Elt Ideal) ℓ)

/-- The projected rows of the arguments. -/
def projected (c : Dev nD) : FVec Ideal S2x8192x1216 .f32 :=
  project (m ((c : Thread nD τ).loc main_arg0)) (m ((c : Thread nD τ).loc main_arg1)) (m ((c : Thread nD τ).loc main_arg2))
    (m ((c : Thread nD τ).loc main_arg3))

/-- The keys without position and the values of the arguments. -/
def shared (c : Dev nD) : FVec Ideal S2x8192x4x256 .f32 :=
  expanded (projected m c) (m ((c : Thread nD τ).loc main_arg10)) (m ((c : Thread nD τ).loc main_arg11))

/-- The queries of the arguments, normalised. -/
def query (c : Dev nD) : FVec Ideal S2x8192x4x192 .f32 :=
  normed192 (queries (projected m c) (m ((c : Thread nD τ).loc main_arg8)) (m ((c : Thread nD τ).loc main_arg9)))
    (m ((c : Thread nD τ).loc main_arg12))

/-- The keys of the arguments, normalised. -/
def key (c : Dev nD) : FVec Ideal S2x8192x4x192 .f32 :=
  normed192 (keys (projected m c) (shared m c)) (m ((c : Thread nD τ).loc main_arg13))

/-- The run: the six results as stages of the arguments, and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v281) = mixed (projected m c) (m ((c : Thread nD τ).loc main_arg4))
          (m ((c : Thread nD τ).loc main_arg5)) (m ((c : Thread nD τ).loc main_arg6))
      ∧ r.2.mem ((c : Thread nD τ).loc main_v282) = left (channels (projected m c) (m ((c : Thread nD τ).loc main_arg7)))
      ∧ r.2.mem ((c : Thread nD τ).loc main_v283) = right (channels (projected m c) (m ((c : Thread nD τ).loc main_arg7)))
      ∧ r.2.mem ((c : Thread nD τ).loc main_v284) = qrows (query m c) (turned (last (query m c)) (m ((c : Thread nD τ).loc main_arg14))
          (m ((c : Thread nD τ).loc main_arg15)) (m ((c : Thread nD τ).loc main_arg16)) (m ((c : Thread nD τ).loc main_arg17)))
      ∧ r.2.mem ((c : Thread nD τ).loc main_v285) = krows (key m c) (turned (last (key m c)) (m ((c : Thread nD τ).loc main_arg14))
          (m ((c : Thread nD τ).loc main_arg15)) (m ((c : Thread nD τ).loc main_arg16)) (m ((c : Thread nD τ).loc main_arg17)))
      ∧ r.2.mem ((c : Thread nD τ).loc main_v287) = values (shared m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  Value.run m ρ

/-- The projected rows at every entry. -/
theorem project_eq (x : FVec Ideal S2x8192x1024 .f32) (h s : FVec Ideal S2x1x1024 .f32) (w : FVec Ideal S1024x1216 .f32) :
    (fun b n j => project x h s w (ix3 b n j)) = proj (fun b n d => x (ix3 b n d)) (fun b d => h (ix3 b 0 d))
      (fun b d => s (ix3 b 0 d)) (fun d j => w (ix2 d j)) := by
  funext b n j
  exact project_apply _ _ _ _ b n j

/-- The first result. -/
theorem mixed_eq (p : FVec Ideal S2x8192x1216 .f32) (g : FVec Ideal S256 .f32) (w : FVec Ideal S4x128x128 .f32)
    (b : FVec Ideal S4x128 .f32) :
    mixed p g w b = fun i : S2x8192x256.Idx => gated (fun b n j => p (ix3 b n j)) (fun j => g (ix1 j))
      (fun h p q => w (ix3 h p q)) (fun h p => b (ix2 h p)) (i 0) (i 1) (i 2) := by
  funext i
  exact (congrArg (mixed p g w b) (eq_ix3 i)).trans (mixed_apply p g w b (i 0) (i 1) (i 2))

/-- The second result. -/
theorem first_eq (p : FVec Ideal S2x8192x1216 .f32) (f : FVec Ideal S256x512 .f32) :
    left (channels p f)
      = fun i : S2x8192x256.Idx => chan (fun b n j => p (ix3 b n j)) (fun j k => f (ix2 j k)) (i 0) (i 1)
          ⟨(i 2).val, by have : (i 2).val < 256 := (i 2).isLt; omega⟩ := by
  funext i
  refine (congrArg (left (channels p f)) (eq_ix3 i)).trans ((left_apply (channels p f) (i 0) (i 1) (i 2)).trans ?_)
  exact channels_apply p f (i 0) (i 1) _

/-- The third result. -/
theorem second_eq (p : FVec Ideal S2x8192x1216 .f32) (f : FVec Ideal S256x512 .f32) :
    right (channels p f)
      = fun i : S2x8192x256.Idx => chan (fun b n j => p (ix3 b n j)) (fun j k => f (ix2 j k)) (i 0) (i 1)
          ⟨256 + (i 2).val, by have : (i 2).val < 256 := (i 2).isLt; omega⟩ := by
  funext i
  refine (congrArg (right (channels p f)) (eq_ix3 i)).trans ((right_apply (channels p f) (i 0) (i 1) (i 2)).trans ?_)
  exact channels_apply p f (i 0) (i 1) _

/-- The values. -/
theorem values_eq (p : FVec Ideal S2x8192x1216 .f32) (g : FVec Ideal S128 .f32) (w : FVec Ideal S128x1024 .f32) :
    values (expanded p g w) = fun i : S2x4x8192x128.Idx => expand (fun b n j => p (ix3 b n j)) (fun j => g (ix1 j))
      (fun j k => w (ix2 j k)) (i 0) (i 2) ⟨256 * (i 1).val + 128 + (i 3).val, by
        have : (i 1).val < 4 := (i 1).isLt
        have : (i 3).val < 128 := (i 3).isLt
        omega⟩ := by
  funext i
  refine (congrArg (values (expanded p g w)) (eq_ix4 i)).trans ((values_apply (expanded p g w) (i 0) (i 1) (i 2) (i 3)).trans ?_)
  refine (expanded_apply p g w (i 0) (i 2) (i 1) _).trans ?_
  exact congrArg (expand _ _ _ (i 0) (i 2)) (Fin.ext (Nat.add_assoc _ _ _).symm)

/-- The queries. -/
theorem queries_eq (p : FVec Ideal S2x8192x1216 .f32) (a : FVec Ideal S256 .f32) (w : FVec Ideal S256x768 .f32)
    (g : FVec Ideal S192 .f32) (ca sa cb sb : FVec Ideal S8192x16 .f32) :
    qrows (normed192 (queries p a w) g) (turned (last (normed192 (queries p a w) g)) ca sa cb sb)
      = fun i : S2x4x8192x256.Idx => qent (quer (fun b n j => p (ix3 b n j)) (fun j => a (ix1 j)) (fun j k => w (ix2 j k))
          (i 0) (i 2)) (fun k => g (ix1 k)) (fun k => ca (ix2 (i 2) k)) (fun k => cb (ix2 (i 2) k)) (fun k => sa (ix2 (i 2) k))
          (fun k => sb (ix2 (i 2) k)) (i 1) (i 3) := by
  funext i
  refine (congrArg (qrows _ _) (eq_ix4 i)).trans ((qhead_apply (queries p a w) g ca sa cb sb (i 0) (i 1) (i 2) (i 3)).trans ?_)
  refine (congrArg (fun z => qhead z _ _ _ _ _ (i 1) (i 3)) (funext fun d => queries_apply p a w (i 0) (i 2) (i 1) d)).trans ?_
  exact qhead_eq (quer (fun b n j => p (ix3 b n j)) (fun j => a (ix1 j)) (fun j k => w (ix2 j k)) (i 0) (i 2)) _ _ _ _ _
    (i 1) (i 3)

/-- A key's entries before its normalisation. -/
theorem keys_entries (p : FVec Ideal S2x8192x1216 .f32) (a : FVec Ideal S128 .f32) (w : FVec Ideal S128x1024 .f32)
    (b : Fin 2) (n : Fin 8192) (h : Fin 4) (d : Fin 192) :
    keys p (expanded p a w) (ix4 b n h d)
      = entries (expand (fun b n j => p (ix3 b n j)) (fun j => a (ix1 j)) (fun j k => w (ix2 j k)) b n)
          (fun j => p (ix3 b n ⟨1152 + j.val, by omega⟩)) h d := by
  rw [keys_apply]
  unfold entries
  exact dite_congr rfl (fun _ => expanded_apply p a w b n h _) fun _ => rfl

/-- The keys. -/
theorem keys_eq (p : FVec Ideal S2x8192x1216 .f32) (a : FVec Ideal S128 .f32) (w : FVec Ideal S128x1024 .f32)
    (g : FVec Ideal S192 .f32) (ca sa cb sb : FVec Ideal S8192x16 .f32) (P : Fin 2 → Fin 8192 → Fin 1216 → EReal)
    (hP : (fun b n j => p (ix3 b n j)) = P) :
    krows (normed192 (keys p (expanded p a w)) g) (turned (last (normed192 (keys p (expanded p a w)) g)) ca sa cb sb)
      = fun i : S2x4x8192x256.Idx => kent (expand P (fun j => a (ix1 j)) (fun j k => w (ix2 j k))
          (i 0) (i 2)) (fun j => P (i 0) (i 2) ⟨1152 + j.val, by omega⟩) (fun k => g (ix1 k)) (fun k => ca (ix2 (i 2) k))
          (fun k => cb (ix2 (i 2) k)) (fun k => sa (ix2 (i 2) k)) (fun k => sb (ix2 (i 2) k)) (i 1) (i 3) := by
  subst hP
  funext i
  refine (congrArg (krows _ _) (eq_ix4 i)).trans
    ((khead_apply (keys p (expanded p a w)) g ca sa cb sb (i 0) (i 1) (i 2) (i 3)).trans ?_)
  refine (congrArg (fun z => khead z _ _ _ _ _ (i 1) (i 3))
    (funext fun h => funext fun d => keys_entries p a w (i 0) (i 2) h d)).trans ?_
  exact khead_eq (expand (fun b n j => p (ix3 b n j)) (fun j => a (ix1 j)) (fun j k => w (ix2 j k)) (i 0) (i 2))
    (fun j => p (ix3 (i 0) (i 2) ⟨1152 + j.val, by omega⟩)) _ _ _ _ _ (i 1) (i 3)

end Cert.Reference2Ideal.Mix

end
-- ==== Proof.Out.Tiles.lean ====
/- The layout of the second result's block: 512 rows of 1024 numbers, stored as 512 strips of eight rows by 128, each strip
   every eighth row of the block. -/
module

public import proofs.«01_k».proof.Proof.Gen.Kernel3Ideal.Skeleton
public import Idealize.ShloMosaic.Lib.Pointwise
public import Idealize.ShloMosaic.Lib.Pipeline.Value

@[expose] public section

noncomputable section

namespace Cert.Kernel3Ideal.Out

open Cert.Kernel3Ideal Cert.Kernel3Ideal.Gen
open Idealize.ShloMosaic Idealize.ShloMosaic.TcCoe
open Idealize.SL Idealize.SL.Sem

variable {F : FTy → Type} [FloatOps F]

/-- Row `r` of the block holds 128 columns of token `r / 8`: the `r % 8`-th group of them. -/
def tiles (h : FVec F S512x1024 .f32) : Vec F S1x4096x128 .f32 := fun y =>
  h (ix2 ⟨(y 1).val / 8, by have : (y 1).val < 4096 := (y 1).isLt; omega⟩
    ⟨128 * ((y 1).val % 8) + (y 2).val, by have : (y 2).val < 128 := (y 2).isLt; omega⟩)

theorem cell_slices (k : ℕ) : S512x1024.Slices ![8 * (k % 512 / 8), 128 * (k % 8)] S8x128 :=
  ⟨rfl, fun a => by
    match a with
    | ⟨0, _⟩ => show 8 * (k % 512 / 8) + 8 ≤ 512; omega
    | ⟨1, _⟩ => show 128 * (k % 8) + 128 ≤ 1024; omega⟩

/-- Strip `k` of the rows: tokens from `8 (k / 8)`, columns from `128 (k % 8)`; -/
def cell (h : FVec F S512x1024 .f32) (k : ℕ) : FVec F S1x8x128 .f32 :=
  shapeCast S1x8x128 (extractStridedSlice S8x128 ![8 * (k % 512 / 8), 128 * (k % 8)] h (cell_slices k)) shapeCasts_S8x128_S1x8x128

/-- and where it is stored. -/
def place (k : ℕ) : Rect S1x4096x128 where
  off := ![0, 64 * (k % 512 / 8) + k % 8, 0]
  size := S1x8x128.size
  stride := ![1, 8, 1]
  inb a := by
    match a with
    | ⟨0, _⟩ => exact Or.inr (show 0 + 1 * (1 - 1) < 1 by omega)
    | ⟨1, _⟩ => exact Or.inr (show 64 * (k % 512 / 8) + k % 8 + 8 * (8 - 1) < 4096 by omega)
    | ⟨2, _⟩ => exact Or.inr (show 0 + 1 * (128 - 1) < 128 by omega)
  stride_pos a := by
    match a with
    | ⟨0, _⟩ => exact Nat.one_pos
    | ⟨1, _⟩ => show 0 < 8; omega
    | ⟨2, _⟩ => exact Nat.one_pos

/-- The first `n` strips, the last one stored first. -/
def strips (h : FVec F S512x1024 .f32) : ℕ → List (View.Piece (Elt F) S1x4096x128 .f32)
  | 0 => []
  | n + 1 => ⟨place n, cell h n⟩ :: strips h n

theorem cell_apply (h : FVec F S512x1024 .f32) (k : ℕ) (a : Fin 8) (b : Fin 128) :
    cell h k (ix3 0 a b) = h (ix2 ⟨8 * (k % 512 / 8) + a.val, by omega⟩ ⟨128 * (k % 8) + b.val, by omega⟩) := by
  pointwise [cell]

theorem cell_eq (h : FVec F S512x1024 .f32) (k : ℕ) (x : S1x8x128.Idx) : cell h k x = tiles h ((place k).emb x) := by
  have h0 : (x 0).val < 1 := (x 0).isLt
  have h1 : (x 1).val < 8 := (x 1).isLt
  have h2 : (x 2).val < 128 := (x 2).isLt
  have hx : x = (ix3 0 (x 1) (x 2) : S1x8x128.Idx) := by
    funext a
    fin_cases a
    · exact Fin.ext (show (x 0).val = 0 by omega)
    · rfl
    · rfl
  refine (congrArg (cell h k) hx).trans ((cell_apply h k (x 1) (x 2)).trans (congrArg h ?_))
  refine congrArg₂ ix2 (Fin.ext ?_) (Fin.ext ?_)
  · show 8 * (k % 512 / 8) + (x 1).val = (64 * (k % 512 / 8) + k % 8 + 8 * (x 1).val) / 8
    omega
  · show 128 * (k % 8) + (x 2).val = 128 * ((64 * (k % 512 / 8) + k % 8 + 8 * (x 1).val) % 8) + (0 + 1 * (x 2).val)
    omega

theorem strips_agree (h : FVec F S512x1024 .f32) (n : ℕ) : ∀ p ∈ strips h n, ∀ x : p.1.shape.Idx, p.2 x = tiles h (p.1.emb x) := by
  induction n with
  | zero => intro p hp; exact absurd hp List.not_mem_nil
  | succ n ih =>
    intro p hp
    rcases List.mem_cons.mp hp with rfl | hp
    · exact cell_eq h n
    · exact ih p hp

theorem strips_mem (h : FVec F S512x1024 .f32) {n k : ℕ} (hk : k < n) : (⟨place k, cell h k⟩ : View.Piece (Elt F) S1x4096x128 .f32) ∈ strips h n := by
  induction n with
  | zero => exact absurd hk (Nat.not_lt_zero k)
  | succ n ih =>
    rcases Nat.lt_succ_iff_lt_or_eq.mp hk with hk | rfl
    · exact List.mem_cons_of_mem _ (ih hk)
    · exact List.mem_cons_self

theorem strips_cover (h : FVec F S512x1024 .f32) (y : S1x4096x128.Idx) : ∃ p ∈ strips h 512, y ∈ p.1.set := by
  have h0 : (y 0).val < 1 := (y 0).isLt
  have h1 : (y 1).val < 4096 := (y 1).isLt
  have h2 : (y 2).val < 128 := (y 2).isLt
  refine ⟨_, strips_mem h (k := 8 * ((y 1).val / 64) + (y 1).val % 8) (by omega), ?_⟩
  rw [LoadRect.mem_set]
  intro a
  match a with
  | ⟨0, _⟩ => exact ⟨0, Nat.one_pos, show (y 0).val = 0 + 1 * 0 by omega⟩
  | ⟨1, _⟩ =>
    refine ⟨(y 1).val % 64 / 8, show (y 1).val % 64 / 8 < 8 by omega, ?_⟩
    show (y 1).val = 64 * ((8 * ((y 1).val / 64) + (y 1).val % 8) % 512 / 8) + (8 * ((y 1).val / 64) + (y 1).val % 8) % 8
      + 8 * ((y 1).val % 64 / 8)
    omega
  | ⟨2, _⟩ => exact ⟨(y 2).val, h2, show (y 2).val = 0 + 1 * (y 2).val by omega⟩

/-- After the 512 strips of `h`, the block holds the tiles of `h`. -/
theorem read_strips {sp : Space} (v : View sig .tc sp S1x4096x128 .f32) (f : v.ty.Contents (Elt F))
    (L : List (View.Piece (Elt F) S1x4096x128 .f32)) (h : FVec F S512x1024 .f32) (hL : L = strips h 512) :
    v.read (Elt F) (v.writes (Elt F) f L) = tiles h := by
  subst hL
  exact (View.read_writes_eq_canon v f _ (strips_cover h)).trans
    (funext fun y => View.canon_apply_of_pieces (tiles h) _ (strips_agree h 512) y (strips_cover h y))

end Cert.Kernel3Ideal.Out

end
-- ==== Proof.Out.Body.lean ====
/- One grid point of the output projection call: what it leaves in the blocks of its three results. -/
module

public import proofs.«01_k».proof.Proof.Out.Tiles
public import Idealize.ShloMosaic.Lib.VecWindow
public import Idealize.ShloMosaic.Lib.Pipeline.Value
public import Idealize.ShloMosaic.Lib.Tactic
public import Idealize.ShloMosaic.Lib.Tactic.Stretches

@[expose] public section

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first 256 rows of the output weights, -/
def top (w : Vec F S1024x1024 .bf16) : Vec F S256x1024 .bf16 := fun y =>
  w (Fin.cons (⟨(y 0).val, by have : (y 0).val < 256 := (y 0).isLt; omega⟩ : Fin 1024) (Fin.cons (y 1) finZeroElim))
/-- the next 256, -/
def mid (w : Vec F S1024x1024 .bf16) : Vec F S256x1024 .bf16 := fun y =>
  w (Fin.cons (⟨256 + (y 0).val, by have : (y 0).val < 256 := (y 0).isLt; omega⟩ : Fin 1024) (Fin.cons (y 1) finZeroElim))
/-- and the last 512. -/
def bot (w : Vec F S1024x1024 .bf16) : Vec F S512x1024 .bf16 := fun y =>
  w (Fin.cons (⟨512 + (y 0).val, by have : (y 0).val < 512 := (y 0).isLt; omega⟩ : Fin 1024) (Fin.cons (y 1) finZeroElim))

section Reads

variable {sp : Space} (v : View sig .tc sp S1024x1024 .bf16) (X : v.ty.Contents (Elt F))

/-- The loads of the output weights' three parts. -/
theorem read_top (inb) : v.readAt (Elt F) (Rect.unit (s := S1024x1024) ![0, 0] S256x1024.size inb).toLoadRect X = top (v.read (Elt F) X) := by
  funext y
  refine congrArg (v.read (Elt F) X) (funext fun a => Fin.ext ?_)
  match a with
  | ⟨0, _⟩ => show 0 + 1 * (y 0).val = (y 0).val; omega
  | ⟨1, _⟩ => show 0 + 1 * (y 1).val = (y 1).val; omega
theorem read_mid (inb) : v.readAt (Elt F) (Rect.unit (s := S1024x1024) ![256, 0] S256x1024.size inb).toLoadRect X = mid (v.read (Elt F) X) := by
  funext y
  refine congrArg (v.read (Elt F) X) (funext fun a => Fin.ext ?_)
  match a with
  | ⟨0, _⟩ => show 256 + 1 * (y 0).val = 256 + (y 0).val; omega
  | ⟨1, _⟩ => show 0 + 1 * (y 1).val = (y 1).val; omega
theorem read_bot (inb) : v.readAt (Elt F) (Rect.unit (s := S1024x1024) ![512, 0] S512x1024.size inb).toLoadRect X = bot (v.read (Elt F) X) := by
  funext y
  refine congrArg (v.read (Elt F) X) (funext fun a => Fin.ext ?_)
  match a with
  | ⟨0, _⟩ => show 512 + 1 * (y 0).val = 512 + (y 0).val; omega
  | ⟨1, _⟩ => show 0 + 1 * (y 1).val = (y 1).val; omega

end Reads

/-- What a grid point leaves in the first result's block. -/
def blockOut (x2 : Vec F S1x512x1024 .f32) (x3 : Vec F S1x512x256 .bf16) (x4 : Vec F S1x512x256 .f32) (x5 : Vec F S1x512x512 .bf16)
    (x6 : Vec F S1024x1024 .bf16) (x7 : Vec F S1x1x1024 .f32) : Vec F S1x512x1024 .f32 :=
  k0_pay3 x3 (top x6) x4 (mid x6) x5 (bot x6) x2 x7

/-- The modulated norm of the new latents that a grid point computes. -/
def normed (x2 : Vec F S1x512x1024 .f32) (x3 : Vec F S1x512x256 .bf16) (x4 : Vec F S1x512x256 .f32) (x5 : Vec F S1x512x512 .bf16)
    (x6 : Vec F S1024x1024 .bf16) (x7 x8 x9 : Vec F S1x1x1024 .f32) : FVec F S512x1024 .f32 :=
  k0_pay5 (k0_pay2 x3 (top x6) x4 (mid x6) x5 (bot x6) x2 x7) (k0_pay4 x3 (top x6) x4 (mid x6) x5 (bot x6) x2 x7) x9 x8

/-- What a grid point leaves in the third result's block: the affinities of the modulated norm's rows. -/
def affinities (h : FVec F S512x1024 .f32) (x10 x11 : Vec F S16x1024 .bf16) : FVec F S1x16x512 .f32 :=
  k0_pay1 (k0_pay552 h) (k0_pay553 h x10) (k0_pay554 h x10) x11

variable (𝒱 : Variants) (c : Dev nD) (bd : Option 𝒱.V) (E : Set ℕ) (i : grid0.Coords)
  (arg2 : Memref sig .tc .vmem S1x512x1024 .f32) (harg2 : arg2.IsWhole) (arg3 : Memref sig .tc .vmem S1x512x256 .bf16) (harg3 : arg3.IsWhole) (arg4 : Memref sig .tc .vmem S1x512x256 .f32) (harg4 : arg4.IsWhole) (arg5 : Memref sig .tc .vmem S1x512x512 .bf16) (harg5 : arg5.IsWhole) (arg6 : Memref sig .tc .vmem S1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S16x1024 .bf16) (harg10 : arg10.IsWhole) (arg11 : Memref sig .tc .vmem S16x1024 .bf16) (harg11 : arg11.IsWhole) (arg12 : Memref sig .tc .vmem S1x512x1024 .f32) (harg12 : arg12.IsWhole) (arg13 : Memref sig .tc .vmem S1x4096x128 .f32) (harg13 : arg13.IsWhole) (arg14 : Memref sig .tc .vmem S1x16x512 .f32) (harg14 : arg14.IsWhole)

set_option maxHeartbeats 40000000 in
set_option maxRecDepth 65536 in
/-- One grid point: the inputs' blocks stay as they are, the first result's block is left at `blockOut` of them,
    the second's at the tiles of `normed`, and the third's at the affinities of `normed`. -/
theorem body (x2 : Vec F S1x512x1024 .f32) (x3 : Vec F S1x512x256 .bf16) (x4 : Vec F S1x512x256 .f32) (x5 : Vec F S1x512x512 .bf16) (x6 : Vec F S1024x1024 .bf16) (x7 : Vec F S1x1x1024 .f32) (x8 : Vec F S1x1x1024 .f32) (x9 : Vec F S1x1x1024 .f32) (x10 : Vec F S16x1024 .bf16) (x11 : Vec F S16x1024 .bf16) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
      ∗ (∃ x, owns (c : Thread nD τ) arg12 fullShare x) ∗ (∃ x, owns (c : Thread nD τ) arg13 fullShare x) ∗ (∃ x, owns (c : Thread nD τ) arg14 fullShare x) : sProp 𝕄)
    ⊢ wp frame (wpE (defs₀ (F := F)) 𝒱 (c : Thread nD τ) bd) E
        (cc0_mix_out (F := F) i arg2 harg2 arg3 harg3 arg4 harg4 arg5 harg5 arg6 harg6 arg7 harg7 arg8 harg8 arg9 harg9 arg10 harg10 arg11 harg11 arg12 harg12 arg13 harg13 arg14 harg14)
        (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
          ∗ owns (c : Thread nD τ) arg12 fullShare (blockOut x2 x3 x4 x5 x6 x7) ∗ owns (c : Thread nD τ) arg13 fullShare (tiles (normed x2 x3 x4 x5 x6 x7 x8 x9)) ∗ owns (c : Thread nD τ) arg14 fullShare (affinities (normed x2 x3 x4 x5 x6 x7 x8 x9) x10 x11))) := by
  simp only [cc0_mix_out_eq_skeleton]
  unfold cc0_mix_out_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%x12, %f12, %h12, H12⟩, ⟨%x13, %f13, %h13, H13⟩, ⟨%x14, %f14, %h14, H14⟩⟩
  subst h2; subst h3; subst h4; subst h5; subst h6; subst h7; subst h8; subst h9; subst h10; subst h11
  sl_exec_parts
  sl_step
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _
    isplitr
    rotate_left
    · iexact H12
    · ipureintro
      sl_open_run
      simp -proj only [View.readAt_full, View.readCov_full, View.read_writes_full, View.readAt_writes_full, read_top, read_mid, read_bot]
      rfl
  isplitl [H13]
  · iexists _
    isplitr
    rotate_left
    · iexact H13
    · ipureintro
      sl_open_run
      refine (read_strips arg13.view f13 _ _ rfl).trans (congrArg tiles ?_)
      simp -proj only [View.readAt_full, View.readCov_full, View.read_writes_full, View.readAt_writes_full, read_top, read_mid, read_bot]
      rfl
  · iexists _
    isplitr
    rotate_left
    · iexact H14
    · ipureintro
      sl_open_run
      simp -proj only [View.readAt_full, View.readCov_full, View.read_writes_full, View.readAt_writes_full, read_top, read_mid, read_bot]
      rfl

end Cert.Kernel3Ideal.Out

end
-- ==== Proof.Out.Launch.lean ====
/- The output projection call's launch: the pipeline's proof data over the blocks' functions, the body obligation at every
   grid point, the run of `main`, and the frame. -/
module

public import proofs.«01_k».proof.Proof.Out.Body
public import proofs.«01_k».proof.Proof.Gen.Kernel3Ideal.Frame
public import Idealize.ShloMosaic.Lib.Claim

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's staging memref at point `t`. -/

abbrev stg0 (t : Fin cfg0.N) : Memref sig .tc .vmem S1x512x1024 .f32 := win0_0.stage (cfg0.slots t 0)
abbrev stg1 (t : Fin cfg0.N) : Memref sig .tc .vmem S1x512x256 .bf16 := win0_1.stage (cfg0.slots t 1)
abbrev stg2 (t : Fin cfg0.N) : Memref sig .tc .vmem S1x512x256 .f32 := win0_2.stage (cfg0.slots t 2)
abbrev stg3 (t : Fin cfg0.N) : Memref sig .tc .vmem S1x512x512 .bf16 := win0_3.stage (cfg0.slots t 3)
abbrev stg4 (t : Fin cfg0.N) : Memref sig .tc .vmem S1024x1024 .bf16 := win0_4.stage (cfg0.slots t 4)
abbrev stg5 (t : Fin cfg0.N) : Memref sig .tc .vmem S1x1x1024 .f32 := win0_5.stage (cfg0.slots t 5)
abbrev stg6 (t : Fin cfg0.N) : Memref sig .tc .vmem S1x1x1024 .f32 := win0_6.stage (cfg0.slots t 6)
abbrev stg7 (t : Fin cfg0.N) : Memref sig .tc .vmem S1x1x1024 .f32 := win0_7.stage (cfg0.slots t 7)
abbrev stg8 (t : Fin cfg0.N) : Memref sig .tc .vmem S16x1024 .bf16 := win0_8.stage (cfg0.slots t 8)
abbrev stg9 (t : Fin cfg0.N) : Memref sig .tc .vmem S16x1024 .bf16 := win0_9.stage (cfg0.slots t 9)
abbrev stg10 (t : Fin cfg0.N) : Memref sig .tc .vmem S1x512x1024 .f32 := win0_10.stage (cfg0.slots t 10)
abbrev stg11 (t : Fin cfg0.N) : Memref sig .tc .vmem S1x4096x128 .f32 := win0_11.stage (cfg0.slots t 11)
abbrev stg12 (t : Fin cfg0.N) : Memref sig .tc .vmem S1x16x512 .f32 := win0_12.stage (cfg0.slots t 12)

/-- What point `t` leaves in the first result's block. -/
def outsAt (c : Dev nD) (t : Fin cfg0.N) : Vec F S1x512x1024 .f32 :=
  blockOut (iblk m c 0 t) (iblk m c 1 t) (iblk m c 2 t) (iblk m c 3 t) (iblk m c 4 t) (iblk m c 5 t)

/-- What point `t` leaves in the second result's block. -/
def tilesAt (c : Dev nD) (t : Fin cfg0.N) : Vec F S1x4096x128 .f32 :=
  tiles (normed (iblk m c 0 t) (iblk m c 1 t) (iblk m c 2 t) (iblk m c 3 t) (iblk m c 4 t) (iblk m c 5 t) (iblk m c 6 t) (iblk m c 7 t))

/-- What point `t` leaves in the third result's block. -/
def affAt (c : Dev nD) (t : Fin cfg0.N) : Vec F S1x16x512 .f32 :=
  affinities (normed (iblk m c 0 t) (iblk m c 1 t) (iblk m c 2 t) (iblk m c 3 t) (iblk m c 4 t) (iblk m c 5 t) (iblk m c 6 t) (iblk m c 7 t))
    (iblk m c 8 t) (iblk m c 9 t)

/-- The proof data: the arrays as the region finds them, every input's block left in place, the first result's at `outsAt`,
    the second's at `tilesAt`, the third's at `affAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outsAt m c t
    | ⟨11, _⟩ => tilesAt m c t
    | ⟨12, _⟩ => affAt m c t
  Φ _ := Pipeline.ΦA spec0 c
  q _ := fullShare
  owed _ := 0

theorem A_eq (c : Dev nD) (w : Fin cfg0.W) : (dats m 0 c).A w = V m c (Pipeline.arrRef spec0 w) := by dsimp only [dats]

/-! What the body leaves and what it finds, window by window. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outsAt m c t := by dsimp only [dats]
theorem after_11 (c : Dev nD) (t : Fin cfg0.N) : (dats m 0 c).after 11 t = tilesAt m c t := by dsimp only [dats]
theorem after_12 (c : Dev nD) (t : Fin cfg0.N) : (dats m 0 c).after 12 t = affAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t)
    ∗ owns (c : Thread nD τ) (stg12 t) fullShare ((dats m 0 c).after 12 t))

set_option maxHeartbeats 1600000 in
/-- The body at any point, by `body` at the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  unfold outsAt tilesAt affAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (wp_wand_r Idealize.ShloMosaic.frame (wpE (defs₀ (F := F)) Variants.none (c : Thread nD τ) none) Set.univ)
  isplitl [H0 H1 H2 H3 H4 H5 H6 H7 H8 H9 H10 H11 H12]
  · iapply (body (F := F) Variants.none c none Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    iexists _; iexact H12
  · iintro %yld ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution of `main` ends with the pipeline's arrays at what the proof data gives, every other unscoped buffer as
    the region found it, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel3Ideal.Out

end
-- ==== Proof.Out.Spec.lean ====
/- The output projection over the extended reals, as functions of coordinates. -/
module

public import Idealize.ShloMosaic.PureOps.Ideal

@[expose] public section

noncomputable section

namespace Cert.Out

open Idealize.ShloMosaic
open scoped BigOperators

/-- An entry of the new latents: the latents plus a gain times the three mixers' columns multiplied by the weights' rows,
    the first mixer's 256, the second's 256 and the attention's 512. -/
def latent (x : Fin 2 → Fin 8192 → Fin 1024 → EReal) (ya yb : Fin 2 → Fin 8192 → Fin 256 → EReal)
    (yc : Fin 2 → Fin 8192 → Fin 512 → EReal) (w : Fin 1024 → Fin 1024 → EReal) (g : Fin 2 → Fin 1024 → EReal)
    (b : Fin 2) (n : Fin 8192) (e : Fin 1024) : EReal :=
  x b n e + g b e * (((∑ j : Fin 256, ya b n j * w ⟨j.val, by omega⟩ e) + ∑ j : Fin 256, yb b n j * w ⟨256 + j.val, by omega⟩ e)
    + ∑ j : Fin 512, yc b n j * w ⟨512 + j.val, by omega⟩ e)

/-- A sum over 1024 from its first 256 terms, the next 256 and the last 512. -/
theorem sum_parts (f : Fin 1024 → EReal) : (∑ j, f j)
    = ((∑ j : Fin 256, f ⟨j.val, by omega⟩) + ∑ j : Fin 256, f ⟨256 + j.val, by omega⟩) + ∑ j : Fin 512, f ⟨512 + j.val, by omega⟩ :=
  (Fin.sum_univ_add (a := 512) (b := 512) f).trans
    (congrArg (· + _) (Fin.sum_univ_add (a := 256) (b := 256) fun j => f (Fin.castAdd 512 j)))

/-- The greatest entry of a row of 16. -/
def top (l : Fin 16 → EReal) : EReal := Finset.univ.fold max ⊥ l

/-- The literal that stands for no entry yet. -/
theorem bottom : Ideal.ofBits .f32 0xFF800000#32 = ⊥ := by simp [Ideal.ofBits, Ideal.ieee]

/-- The softmax of a row of 16. -/
def soft (l : Fin 16 → EReal) (e : Fin 16) : EReal :=
  Ideal.div (Ideal.exp (l e - top l)) (∑ x, Ideal.exp (l x - top l))

end Cert.Out

end
-- ==== Proof.Out.Value.lean ====
/- The output projection call's blocks as reads of the arguments, and the arrays of its results. -/
module

public import proofs.«01_k».proof.Proof.Out.Launch
public import proofs.«01_k».proof.Proof.Out.Spec
public import proofs.«01_k».proof.Proof.Mix.Spec
public import Idealize.ShloMosaic.Lib.Pointwise
public import Idealize.ShloMosaic.Lib.Pipeline.ValueKit.Point
public import Idealize.ShloMosaic.Lib.StableHlo.ReadAt

@[expose] public section

set_option maxRecDepth 16384

noncomputable section

namespace Cert.Kernel3Ideal.Out

open Cert.Kernel3Ideal Cert.Kernel3Ideal.Gen
open Idealize.ShloMosaic Idealize.ShloMosaic.TcCoe
open Idealize.SL Idealize.SL.Sem
open scoped BigOperators

variable (m : (ℓ : Loc nD τ sig) → Buf (Elt Ideal) ℓ) (ρ : Dev nD → PrngReg)

/-- The batch entry of a grid point. -/
def ptB (t : Fin cfg0.N) : Fin 2 := grid0.coords t 0
/-- The row block of a grid point. -/
def ptI (t : Fin cfg0.N) : Fin 16 := grid0.coords t 1

theorem index0 : ∀ t : Fin cfg0.N, win0_0.index t = ![(ptB t).val, (ptI t).val, 0] :=
  (by decide +kernel : ∀ t : Fin grid0.N, win0_0.index t = ![(grid0.coords t 0).val, (grid0.coords t 1).val, 0])
theorem index1 : ∀ t : Fin cfg0.N, win0_1.index t = ![(ptB t).val, (ptI t).val, 0] :=
  (by decide +kernel : ∀ t : Fin grid0.N, win0_1.index t = ![(grid0.coords t 0).val, (grid0.coords t 1).val, 0])
theorem index2 : ∀ t : Fin cfg0.N, win0_2.index t = ![(ptB t).val, (ptI t).val, 0] :=
  (by decide +kernel : ∀ t : Fin grid0.N, win0_2.index t = ![(grid0.coords t 0).val, (grid0.coords t 1).val, 0])
theorem index3 : ∀ t : Fin cfg0.N, win0_3.index t = ![(ptB t).val, (ptI t).val, 0] :=
  (by decide +kernel : ∀ t : Fin grid0.N, win0_3.index t = ![(grid0.coords t 0).val, (grid0.coords t 1).val, 0])
theorem index4 : ∀ t : Fin cfg0.N, win0_4.index t = ![0, 0] := (by decide +kernel : ∀ t : Fin grid0.N, win0_4.index t = ![0, 0])
theorem index5 : ∀ t : Fin cfg0.N, win0_5.index t = ![(ptB t).val, 0, 0] :=
  (by decide +kernel : ∀ t : Fin grid0.N, win0_5.index t = ![(grid0.coords t 0).val, 0, 0])
theorem index6 : ∀ t : Fin cfg0.N, win0_6.index t = ![(ptB t).val, 0, 0] :=
  (by decide +kernel : ∀ t : Fin grid0.N, win0_6.index t = ![(grid0.coords t 0).val, 0, 0])
theorem index7 : ∀ t : Fin cfg0.N, win0_7.index t = ![(ptB t).val, 0, 0] :=
  (by decide +kernel : ∀ t : Fin grid0.N, win0_7.index t = ![(grid0.coords t 0).val, 0, 0])
theorem index11 : ∀ t : Fin cfg0.N, win0_11.index t = ![(ptB t).val, (ptI t).val, 0] :=
  (by decide +kernel : ∀ t : Fin grid0.N, win0_11.index t = ![(grid0.coords t 0).val, (grid0.coords t 1).val, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index12 : ∀ t : Fin cfg0.N, win0_12.index t = ![(ptB t).val, 0, (ptI t).val] :=
  (by decide +kernel : ∀ t : Fin grid0.N, win0_12.index t = ![(grid0.coords t 0).val, 0, (grid0.coords t 1).val])
theorem index10 : ∀ t : Fin cfg0.N, win0_10.index t = ![(ptB t).val, (ptI t).val, 0] :=
  (by decide +kernel : ∀ t : Fin grid0.N, win0_10.index t = ![(grid0.coords t 0).val, (grid0.coords t 1).val, 0])

/-- The latents' block: 512 rows of one batch entry. -/
theorem blk0 (c : Dev nD) (t : Fin cfg0.N) (r : Fin 512) (d : Fin 1024) :
    iblk m c 0 t (ix3 0 r d) = m ((c : Thread nD τ).loc main_arg0) (ix3 (ptB t) ⟨512 * (ptI t).val + r.val, by omega⟩ d) := by
  blk_simp [iblk]
  entry_read
  pointwise
  blk_ext [index0]

/-- The first mixer's block. -/
theorem blk1 (c : Dev nD) (t : Fin cfg0.N) (r : Fin 512) (d : Fin 256) :
    iblk m c 1 t (ix3 0 r d) = m ((c : Thread nD τ).loc main_arg1) (ix3 (ptB t) ⟨512 * (ptI t).val + r.val, by omega⟩ d) := by
  blk_simp [iblk]
  entry_read
  pointwise
  blk_ext [index1]

/-- The second mixer's block. -/
theorem blk2 (c : Dev nD) (t : Fin cfg0.N) (r : Fin 512) (d : Fin 256) :
    iblk m c 2 t (ix3 0 r d) = m ((c : Thread nD τ).loc main_arg2) (ix3 (ptB t) ⟨512 * (ptI t).val + r.val, by omega⟩ d) := by
  blk_simp [iblk]
  entry_read
  pointwise
  blk_ext [index2]

/-- The attention's block. -/
theorem blk3 (c : Dev nD) (t : Fin cfg0.N) (r : Fin 512) (d : Fin 512) :
    iblk m c 3 t (ix3 0 r d) = m ((c : Thread nD τ).loc main_arg3) (ix3 (ptB t) ⟨512 * (ptI t).val + r.val, by omega⟩ d) := by
  blk_simp [iblk]
  entry_read
  pointwise
  blk_ext [index3]

/-- The weights. -/
theorem blk4 (c : Dev nD) (t : Fin cfg0.N) (j d : Fin 1024) :
    iblk m c 4 t (ix2 j d) = m ((c : Thread nD τ).loc main_arg4) (ix2 j d) := by
  blk_simp [iblk]
  entry_read
  pointwise
  blk_ext [index4]

/-- The gain of a batch entry. -/
theorem blk5 (c : Dev nD) (t : Fin cfg0.N) (d : Fin 1024) :
    iblk m c 5 t (ix3 0 0 d) = m ((c : Thread nD τ).loc main_arg5) (ix3 (ptB t) 0 d) := by
  blk_simp [iblk]
  entry_read
  pointwise
  blk_ext [index5]

/-- The shift of a batch entry. -/
theorem blk6 (c : Dev nD) (t : Fin cfg0.N) (d : Fin 1024) :
    iblk m c 6 t (ix3 0 0 d) = m ((c : Thread nD τ).loc main_arg6) (ix3 (ptB t) 0 d) := by
  blk_simp [iblk]
  entry_read
  pointwise
  blk_ext [index6]

/-- The scale of a batch entry. -/
theorem blk7 (c : Dev nD) (t : Fin cfg0.N) (d : Fin 1024) :
    iblk m c 7 t (ix3 0 0 d) = m ((c : Thread nD τ).loc main_arg7) (ix3 (ptB t) 0 d) := by
  blk_simp [iblk]
  entry_read
  pointwise
  blk_ext [index7]

/-- The router's weights. -/
def router (c : Dev nD) (d : Fin 1024) (e : Fin 16) : EReal := m ((c : Thread nD τ).loc main_arg8) (ix2 d e)

/-- Their block, -/
theorem blk8 (c : Dev nD) (t : Fin cfg0.N) (e : Fin 16) (d : Fin 1024) :
    iblk m c 8 t (ix2 e d) = router m c d e := by
  blk_simp [iblk]
  entry_read
  pointwise [router]
  blk_ext [index8]

/-- and what is left of them. -/
theorem blk9 (c : Dev nD) (t : Fin cfg0.N) (e : Fin 16) (d : Fin 1024) :
    iblk m c 9 t (ix2 e d) = router m c d e - router m c d e := by
  blk_simp [iblk]
  entry_read
  pointwise [router]
  refine congrArg₂ (fun x y : EReal => x - y) ?_ ?_ <;> blk_ext [index9]

/-! The three parts of the weights at an entry. -/

theorem top_apply (w : Vec Ideal S1024x1024 .bf16) (j : Fin 256) (e : Fin 1024) : top w (ix2 j e) = w (ix2 ⟨j.val, by omega⟩ e) :=
  congrArg w (funext fun a => by fin_cases a <;> rfl)
theorem mid_apply (w : Vec Ideal S1024x1024 .bf16) (j : Fin 256) (e : Fin 1024) : mid w (ix2 j e) = w (ix2 ⟨256 + j.val, by omega⟩ e) :=
  congrArg w (funext fun a => by fin_cases a <;> rfl)
theorem bot_apply (w : Vec Ideal S1024x1024 .bf16) (j : Fin 512) (e : Fin 1024) : bot w (ix2 j e) = w (ix2 ⟨512 + j.val, by omega⟩ e) :=
  congrArg w (funext fun a => by fin_cases a <;> rfl)

/-- An entry of the block of the first result. -/
theorem blockOut_apply (x2 : Vec Ideal S1x512x1024 .f32) (x3 : Vec Ideal S1x512x256 .bf16) (x4 : Vec Ideal S1x512x256 .f32)
    (x5 : Vec Ideal S1x512x512 .bf16) (x6 : Vec Ideal S1024x1024 .bf16) (x7 : Vec Ideal S1x1x1024 .f32) (r : Fin 512) (e : Fin 1024) :
    blockOut x2 x3 x4 x5 x6 x7 (ix3 0 r e)
      = x2 (ix3 0 r e) + x7 (ix3 0 0 e) * (((∑ j : Fin 256, x3 (ix3 0 r j) * x6 (ix2 ⟨j.val, by omega⟩ e))
        + ∑ j : Fin 256, x4 (ix3 0 r j) * x6 (ix2 ⟨256 + j.val, by omega⟩ e))
        + ∑ j : Fin 512, x5 (ix3 0 r j) * x6 (ix2 ⟨512 + j.val, by omega⟩ e)) := by
  pointwise [blockOut, k0_pay3, k0_pay2, dot_S512x256_S256x1024_S512x1024_1_0_0_1_n_n, dot_S512x512_S512x1024_S512x1024_1_0_0_1_n_n]
  simp only [top_apply, mid_apply, bot_apply]

/-- The rows of the first result's block. -/
theorem pay2_apply (x2 : Vec Ideal S1x512x1024 .f32) (x3 : Vec Ideal S1x512x256 .bf16) (x4 : Vec Ideal S1x512x256 .f32)
    (x5 : Vec Ideal S1x512x512 .bf16) (x6 : Vec Ideal S1024x1024 .bf16) (x7 : Vec Ideal S1x1x1024 .f32) (r : Fin 512) (e : Fin 1024) :
    k0_pay2 x3 (top x6) x4 (mid x6) x5 (bot x6) x2 x7 (ix2 r e) = blockOut x2 x3 x4 x5 x6 x7 (ix3 0 r e) := by
  pointwise [blockOut, k0_pay3]

/-- An entry of the modulated norm. -/
theorem normed_apply (x2 : Vec Ideal S1x512x1024 .f32) (x3 : Vec Ideal S1x512x256 .bf16) (x4 : Vec Ideal S1x512x256 .f32)
    (x5 : Vec Ideal S1x512x512 .bf16) (x6 : Vec Ideal S1024x1024 .bf16) (x7 x8 x9 : Vec Ideal S1x1x1024 .f32) (r : Fin 512) (e : Fin 1024) :
    normed x2 x3 x4 x5 x6 x7 x8 x9 (ix2 r e) = Cert.Mix.hid (fun d => blockOut x2 x3 x4 x5 x6 x7 (ix3 0 r d))
      (fun d => x9 (ix3 0 0 d)) (fun d => x8 (ix3 0 0 d)) e := by
  pointwise [normed, k0_pay5, k0_pay4]
  simp only [pay2_apply]
  rfl

/-- The scores of a row of the modulated norm, in the three parts in which they are computed. -/
def scores (h : FVec Ideal S512x1024 .f32) (x10 x11 : Vec Ideal S16x1024 .bf16) (r : Fin 512) (e : Fin 16) : EReal :=
  ((∑ d : Fin 1024, x10 (ix2 e d) * h (ix2 r d)) + ∑ d : Fin 1024, x10 (ix2 e d) * (h (ix2 r d) - h (ix2 r d)))
    + ∑ d : Fin 1024, x11 (ix2 e d) * h (ix2 r d)

/-- An entry of the block of the third result. -/
theorem affinities_apply (h : FVec Ideal S512x1024 .f32) (x10 x11 : Vec Ideal S16x1024 .bf16) (e : Fin 16) (r : Fin 512) :
    affinities h x10 x11 (ix3 0 e r) = Cert.Out.soft (scores h x10 x11 r) e := by
  pointwise [affinities, k0_pay1, k0_pay552, k0_pay553, k0_pay554, dot_S16x1024_S512x1024_S16x512_1_1_0_0_n_n]
  rw [Cert.Out.bottom]
  rfl

/-- The first result. -/
def res (c : Dev nD) : Buf (Elt Ideal) ((c : Thread nD τ).loc main_v6_0) := fun i : S2x8192x1024.Idx =>
  Cert.Out.latent (fun b n d => m ((c : Thread nD τ).loc main_arg0) (ix3 b n d)) (fun b n d => m ((c : Thread nD τ).loc main_arg1) (ix3 b n d))
    (fun b n d => m ((c : Thread nD τ).loc main_arg2) (ix3 b n d)) (fun b n d => m ((c : Thread nD τ).loc main_arg3) (ix3 b n d))
    (fun j d => m ((c : Thread nD τ).loc main_arg4) (ix2 j d)) (fun b d => m ((c : Thread nD τ).loc main_arg5) (ix3 b 0 d)) (i 0) (i 1) (i 2)

theorem outsAt_apply (c : Dev nD) (t : Fin cfg0.N) (i : S2x8192x1024.Idx) (r : Fin 512) (e : Fin 1024) (h0 : (i 0 : ℕ) = ptB t)
    (h1 : (i 1 : ℕ) = 512 * (ptI t).val + r.val) (h2 : (i 2 : ℕ) = e.val) : outsAt m c t (ix3 0 r e) = res m c i := by
  have a0 : i 0 = ptB t := Fin.ext h0
  have a1 : i 1 = (⟨512 * (ptI t).val + r.val, by omega⟩ : Fin 8192) := Fin.ext h1
  have a2 : i 2 = e := Fin.ext h2
  unfold outsAt res
  rw [blockOut_apply, a0, a1, a2]
  simp only [blk0, blk1, blk2, blk3, blk4, blk5]
  rfl

/-- The array of the first result. -/
theorem arr10 (c : Dev nD) : (dats m 0 c).arrAt 10 cfg0.N = res m c := by
  refine (dats m 0 c).arrAt_eq_of_covers 10 _ (by decide +kernel) fun t hf y => ?_
  blk_simp
  have hy : y = (ix3 0 (y 1) (y 2) : S1x512x1024.Idx) := by
    funext a
    fin_cases a
    · exact Fin.ext (by have : (y 0).val < 1 := (y 0).isLt; show (y 0).val = 0; omega)
    · rfl
    · rfl
  refine (congrArg (outsAt m c t) hy).trans (outsAt_apply m c t _ (y 1) (y 2) ?_ ?_ ?_)
  · blk_simp [index10]; try omega
  · blk_simp [index10]; try omega
  · blk_simp [index10]; try omega

/-- The modulated norm of the first result at a token's entry. -/
def hidden (c : Dev nD) (b : Fin 2) (n : Fin 8192) (e : Fin 1024) : EReal :=
  Cert.Mix.hid (fun d => res m c (ix3 b n d)) (fun d => m ((c : Thread nD τ).loc main_arg7) (ix3 b 0 d))
    (fun d => m ((c : Thread nD τ).loc main_arg6) (ix3 b 0 d)) e

theorem normed_blk (c : Dev nD) (t : Fin cfg0.N) (r : Fin 512) (e : Fin 1024) :
    normed (iblk m c 0 t) (iblk m c 1 t) (iblk m c 2 t) (iblk m c 3 t) (iblk m c 4 t) (iblk m c 5 t) (iblk m c 6 t) (iblk m c 7 t) (ix2 r e)
      = hidden m c (ptB t) ⟨512 * (ptI t).val + r.val, by omega⟩ e := by
  rw [normed_apply]
  simp only [blk6, blk7]
  exact congrArg (fun x => Cert.Mix.hid x _ _ e) (funext fun d => outsAt_apply m c t (ix3 (ptB t) ⟨512 * (ptI t).val + r.val, by omega⟩ d) r d rfl rfl rfl)

/-- The second result: each token's row of the modulated norm cut into eight rows. -/
def res1 (c : Dev nD) : Buf (Elt Ideal) ((c : Thread nD τ).loc main_v6_1) := fun i : S2x65536x128.Idx =>
  hidden m c (i 0) ⟨(i 1).val / 8, by have : (i 1).val < 65536 := (i 1).isLt; omega⟩
    ⟨128 * ((i 1).val % 8) + (i 2).val, by have : (i 2).val < 128 := (i 2).isLt; omega⟩

theorem tilesAt_apply (c : Dev nD) (t : Fin cfg0.N) (i : S2x65536x128.Idx) (r : Fin 4096) (l : Fin 128) (h0 : (i 0 : ℕ) = ptB t)
    (h1 : (i 1 : ℕ) = 4096 * (ptI t).val + r.val) (h2 : (i 2 : ℕ) = l.val) : tilesAt m c t (ix3 0 r l) = res1 m c i := by
  refine (normed_blk m c t ⟨r.val / 8, by omega⟩ ⟨128 * (r.val % 8) + l.val, by omega⟩).trans ?_
  have a0 : ptB t = i 0 := Fin.ext h0.symm
  unfold res1
  rw [a0]
  refine congrArg₂ (hidden m c (i 0)) (Fin.ext ?_) (Fin.ext ?_)
  · show 512 * (ptI t).val + r.val / 8 = (i 1).val / 8
    omega
  · show 128 * (r.val % 8) + l.val = 128 * ((i 1).val % 8) + (i 2).val
    omega

/-- The array of the second result. -/
theorem arr11 (c : Dev nD) : (dats m 0 c).arrAt 11 cfg0.N = res1 m c := by
  refine (dats m 0 c).arrAt_eq_of_covers 11 _ (by decide +kernel) fun t hf y => ?_
  blk_simp
  have hy : y = (ix3 0 (y 1) (y 2) : S1x4096x128.Idx) := by
    funext a
    fin_cases a
    · exact Fin.ext (by have : (y 0).val < 1 := (y 0).isLt; show (y 0).val = 0; omega)
    · rfl
    · rfl
  refine (congrArg (tilesAt m c t) hy).trans (tilesAt_apply m c t _ (y 1) (y 2) ?_ ?_ ?_)
  · blk_simp [index11]; try omega
  · blk_simp [index11]; try omega
  · blk_simp [index11]; try omega

/-- The third result: the softmax of each token's scores. -/
def res2 (c : Dev nD) : Buf (Elt Ideal) ((c : Thread nD τ).loc main_v6_2) := fun i : S2x16x8192.Idx =>
  Cert.Out.soft (fun e => ((∑ d : Fin 1024, router m c d e * hidden m c (i 0) (i 2) d)
      + ∑ d : Fin 1024, router m c d e * (hidden m c (i 0) (i 2) d - hidden m c (i 0) (i 2) d))
      + ∑ d : Fin 1024, (router m c d e - router m c d e)
        * hidden m c (i 0) (i 2) d) (i 1)

theorem affAt_apply (c : Dev nD) (t : Fin cfg0.N) (i : S2x16x8192.Idx) (e : Fin 16) (r : Fin 512) (h0 : (i 0 : ℕ) = ptB t)
    (h1 : (i 1 : ℕ) = e.val) (h2 : (i 2 : ℕ) = 512 * (ptI t).val + r.val) : affAt m c t (ix3 0 e r) = res2 m c i := by
  have a0 : i 0 = ptB t := Fin.ext h0
  have a1 : i 1 = e := Fin.ext h1
  have a2 : i 2 = (⟨512 * (ptI t).val + r.val, by omega⟩ : Fin 8192) := Fin.ext h2
  unfold affAt res2
  rw [affinities_apply, a0, a1, a2]
  unfold scores
  simp only [blk8, blk9, normed_blk]

/-- The array of the third result. -/
theorem arr12 (c : Dev nD) : (dats m 0 c).arrAt 12 cfg0.N = res2 m c := by
  refine (dats m 0 c).arrAt_eq_of_covers 12 _ (by decide +kernel) fun t hf y => ?_
  blk_simp
  have hy : y = (ix3 0 (y 1) (y 2) : S1x16x512.Idx) := by
    funext a
    fin_cases a
    · exact Fin.ext (by have : (y 0).val < 1 := (y 0).isLt; show (y 0).val = 0; omega)
    · rfl
    · rfl
  refine (congrArg (affAt m c t) hy).trans (affAt_apply m c t _ (y 1) (y 2) ?_ ?_ ?_)
  · blk_simp [index12]; try omega
  · blk_simp [index12]; try omega
  · blk_simp [index12]; try omega

/-- Every execution ends with the results as `res`, `res1` and `res2`, and the arguments unchanged. -/
theorem run : θ_run defs (onTc (τ := τ) (main (F := Ideal))) ⟨m, fun _ => 0, ρ⟩ (fun r => ∀ c : Dev nD,
      r.2.mem ((c.tc : Thread nD τ).loc main_v6_0) = res m c
      ∧ r.2.mem ((c.tc : Thread nD τ).loc main_v6_1) = res1 m c
      ∧ r.2.mem ((c.tc : Thread nD τ).loc main_v6_2) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h.1.1.out_eq c 10).trans (arr10 m c), (h.1.1.out_eq c 11).trans (arr11 m c),
    (h.1.1.out_eq c 12).trans (arr12 m c), h.2.1 c⟩) (θ_run_and (run_main m ρ) (frame m ρ))

end Cert.Kernel3Ideal.Out

end
-- ==== Proof.Out.Reference.lean ====
/- The output projection reference's results at an entry. -/
module

public import proofs.«01_k».proof.Proof.Gen.Reference3Ideal.Run
public import proofs.«01_k».proof.Proof.Out.Spec
public import proofs.«01_k».proof.Proof.Mix.RefOps
public import Idealize.ShloMosaic.Lib.Pointwise
public import Idealize.ShloMosaic.Lib.IdealHost

@[expose] public section

set_option maxRecDepth 16384

noncomputable section

namespace Cert.Reference3Ideal.Out

open Cert.Reference3Ideal Cert.Reference3Ideal.Gen
open Idealize.ShloMosaic Idealize.ShloMosaic.TcCoe
open scoped BigOperators

variable (x : FVec Ideal S2x8192x1024 .f32) (ya : FVec Ideal S2x8192x256 .bf16) (yb : FVec Ideal S2x8192x256 .f32)
  (yc : FVec Ideal S2x8192x512 .bf16) (w : FVec Ideal S1024x1024 .f32) (g : FVec Ideal S2x1x1024 .f32)

/-- The mixers' columns side by side. -/
def columns : FVec Ideal S2x8192x1024 .f32 :=
  concatenate S2x8192x1024 2 [⟨S2x8192x256, extf .f32 ya bitsLt_bf16_f32⟩, ⟨S2x8192x256, yb⟩, ⟨S2x8192x512, extf .f32 yc bitsLt_bf16_f32⟩]
    concatenates_S2x8192x256_S2x8192x256_S2x8192x512_S2x8192x1024_d2

theorem columns_first (b : Fin 2) (n : Fin 8192) (j : Fin 256) : columns ya yb yc (ix3 b n ⟨j.val, by omega⟩) = ya (ix3 b n j) := by
  pointwise [columns]

theorem columns_second (b : Fin 2) (n : Fin 8192) (j : Fin 256) : columns ya yb yc (ix3 b n ⟨256 + j.val, by omega⟩) = yb (ix3 b n j) := by
  pointwise [columns]

theorem columns_third (b : Fin 2) (n : Fin 8192) (j : Fin 512) : columns ya yb yc (ix3 b n ⟨512 + j.val, by omega⟩) = yc (ix3 b n j) := by
  pointwise [columns]
  refine (dif_neg (by omega)).trans ((dif_neg (by omega)).trans (congrArg yc (congrArg (ix3 b n) (Fin.ext ?_))))
  show 512 + j.val - 256 - 256 = j.val
  omega

/-- The reference's result. -/
def result : FVec Ideal S2x8192x1024 .f32 :=
  addf x (mulf (broadcastInDim S2x8192x1024 ![0, 1, 2] bcast_S2x1x1024_S2x8192x1024_0_1_2 g)
    (Host.dotGeneral dot_S2x8192x1024_S1024x1024_S2x8192x1024_2_0_01_1_n_n none (columns ya yb yc) w))

theorem result_apply (b : Fin 2) (n : Fin 8192) (e : Fin 1024) :
    result x ya yb yc w g (ix3 b n e) = Cert.Out.latent (fun b n d => x (ix3 b n d)) (fun b n d => ya (ix3 b n d))
      (fun b n d => yb (ix3 b n d)) (fun b n d => yc (ix3 b n d)) (fun j d => w (ix2 j d)) (fun b d => g (ix3 b 0 d)) b n e := by
  pointwise [result]
  rw [Cert.Out.sum_parts]
  simp only [columns_first, columns_second, columns_third]
  rfl

/-- The modulated norm of the reference's first result, a row for each token. -/
def rows (z : FVec Ideal S2x8192x1024 .f32) (h s : FVec Ideal S2x1x1024 .f32) : FVec Ideal S2x8192x1024 .f32 :=
  addf (mulf (mulf z (broadcastInDim S2x8192x1024 ![0, 1, 2] bcast_S2x8192x1_S2x8192x1024_0_1_2
    (Host.rsqrt (addf (Host.divf (broadcastInDim S2x8192x1 ![0, 1] bcast_S2x8192_S2x8192x1_0_1
      (Host.reduceAdd (mulf z z) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S2x1x1024_S2x8192x1024_0_1_2
      (addf (broadcastInDim S2x1x1024 ![] bcast_S_S2x1x1024 (constant S_ .f32 0x3F800000#32)) s)))
    (broadcastInDim S2x8192x1024 ![0, 1, 2] bcast_S2x1x1024_S2x8192x1024_0_1_2 h)

theorem rows_apply (z : FVec Ideal S2x8192x1024 .f32) (h s : FVec Ideal S2x1x1024 .f32) (b : Fin 2) (n : Fin 8192) (d : Fin 1024) :
    rows z h s (ix3 b n d) = Cert.Mix.hid (fun d => z (ix3 b n d)) (fun d => s (ix3 b 0 d)) (fun d => h (ix3 b 0 d)) d := by
  pointwise [rows]
  rw [Cert.Reference2Ideal.Mix.div_1024]
  rfl

/-- The reference's second result: those rows cut into eight each. -/
def modulated (z : FVec Ideal S2x8192x1024 .f32) (h s : FVec Ideal S2x1x1024 .f32) : FVec Ideal S2x65536x128 .f32 :=
  shapeCast _ (rows z h s) shapeCasts_S2x8192x1024_S2x65536x128

theorem modulated_apply (z : FVec Ideal S2x8192x1024 .f32) (h s : FVec Ideal S2x1x1024 .f32) (b : Fin 2) (r : Fin 65536) (l : Fin 128) :
    modulated z h s (ix3 b r l) = Cert.Mix.hid (fun d => z (ix3 b ⟨r.val / 8, by omega⟩ d)) (fun d => s (ix3 b 0 d))
      (fun d => h (ix3 b 0 d)) ⟨128 * (r.val % 8) + l.val, by omega⟩ := by
  pointwise [modulated]
  rw [rows_apply]
  have e : (⟨r.val % 8 * 128 + l.val, by omega⟩ : Fin 1024) = ⟨128 * (r.val % 8) + l.val, by omega⟩ :=
    Fin.ext (show r.val % 8 * 128 + l.val = 128 * (r.val % 8) + l.val by omega)
  exact congrArg (Cert.Mix.hid (fun d => z (ix3 b ⟨r.val / 8, by omega⟩ d)) (fun d => s (ix3 b 0 d)) fun d => h (ix3 b 0 d)) e

/-- The router's scores. -/
def logits (y : FVec Ideal S2x8192x1024 .f32) (r : FVec Ideal S1024x16 .f32) : FVec Ideal S2x8192x16 .f32 :=
  Host.dotGeneral dot_S2x8192x1024_S1024x16_S2x8192x16_2_0_01_1_n_n none y r

theorem logits_apply (y : FVec Ideal S2x8192x1024 .f32) (r : FVec Ideal S1024x16 .f32) (b : Fin 2) (n : Fin 8192) (e : Fin 16) :
    logits y r (ix3 b n e) = ∑ d : Fin 1024, y (ix3 b n d) * r (ix2 d e) := by
  pointwise [logits]

/-- The exponential of each score less the greatest of its token. -/
def exps (l : FVec Ideal S2x8192x16 .f32) : FVec Ideal S2x8192x16 .f32 :=
  Host.exp (subf l (broadcastInDim S2x8192x16 ![0, 1, 2] bcast_S2x8192x1_S2x8192x16_0_1_2
    (broadcastInDim S2x8192x1 ![0, 1] bcast_S2x8192_S2x8192x1_0_1
      (maximumf (broadcastInDim S2x8192 ![] bcast_S_S2x8192 (constant S_ .f32 0xFF800000#32))
        (Host.reduce FloatOps.maximumf l (constant S_ .f32 0xFF800000#32) reducesTo_S2x8192x16_S2x8192_d2 h_S_)))))

theorem exps_apply (l : FVec Ideal S2x8192x16 .f32) (b : Fin 2) (n : Fin 8192) (e : Fin 16) :
    exps l (ix3 b n e) = Ideal.exp (l (ix3 b n e) - Cert.Out.top fun e => l (ix3 b n e)) := by
  pointwise [exps]
  rw [Cert.Out.bottom, max_eq_right bot_le]
  rfl

/-- The router's affinities, each expert's a row. -/
def routed (x : FVec Ideal S2x8192x16 .f32) : FVec Ideal S2x16x8192 .f32 :=
  transpose S2x16x8192 [0, 2, 1] (Host.divf x (broadcastInDim S2x8192x16 ![0, 1, 2] bcast_S2x8192x1_S2x8192x16_0_1_2
    (broadcastInDim S2x8192x1 ![0, 1] bcast_S2x8192_S2x8192x1_0_1
      (Host.reduceAdd x (constant S_ .f32 0x00000000#32) reducesTo_S2x8192x16_S2x8192_d2 h_S_)))) transposes_S2x8192x16_S2x16x8192_0_2_1

theorem routed_apply (l : FVec Ideal S2x8192x16 .f32) (b : Fin 2) (e : Fin 16) (n : Fin 8192) :
    routed (exps l) (ix3 b e n) = Cert.Out.soft (fun e => l (ix3 b n e)) e := by
  pointwise [routed]
  simp only [exps_apply]
  rfl

end Cert.Reference3Ideal.Out

end
-- ==== Proof.Out.Real.lean ====
/- The output projection's router input is real where its shift and scale are, and what a split into a value and the rest adds up
   to there. -/
module

public import proofs.«01_k».proof.Proof.Out.Spec
public import proofs.«01_k».proof.Proof.Mix.Spec
public import proofs.«01_k».proof.Proof.Attn.Spec

@[expose] public section

noncomputable section

namespace Cert.Out

open Idealize.ShloMosaic
open scoped BigOperators

/-- Not an infinity. -/
def IsReal (x : EReal) : Prop := ∃ r : ℝ, x = r

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sub_self {x : EReal} : IsReal x → x - x = 0
  | ⟨a, ha⟩ => by rw [ha, ← EReal.coe_sub, _root_.sub_self, EReal.coe_zero]

/-- The two literals of the norm are positive reals. -/
theorem over_1024 : ∃ r : ℝ, 0 < r ∧ Ideal.ofBits .f32 0x3A800000#32 = (r : EReal) := by
  refine ⟨_, ?_, by simp [Ideal.ofBits, Ideal.ieee]; rfl⟩
  positivity
theorem eps_pos : ∃ r : ℝ, 0 < r ∧ Ideal.ofBits .f32 0x358637BD#32 = (r : EReal) := by
  refine ⟨_, ?_, by simp [Ideal.ofBits, Ideal.ieee]; rfl⟩
  positivity

/-- The reciprocal root of a real row's mean square is a real. -/
theorem scale_real (v : Fin 1024 → EReal) (hv : ∀ i, IsReal (v i)) : IsReal (Cert.Mix.scale v (Ideal.ofBits .f32 0x3A800000#32)) := by
  choose u hu using hv
  obtain ⟨k, hk, ek⟩ := over_1024
  obtain ⟨p, hp, ep⟩ := eps_pos
  have hs : (∑ i, v i * v i) = ((∑ i, u i * u i : ℝ) : EReal) := by
    rw [Softmax.coe_sum]; exact Finset.sum_congr rfl fun i _ => by rw [hu, EReal.coe_mul]
  have h0 : 0 ≤ ∑ i, u i * u i := Finset.sum_nonneg fun i _ => mul_self_nonneg (u i)
  unfold Cert.Mix.scale
  rw [hs, ek, ep, ← EReal.coe_mul, ← EReal.coe_add]
  have h1 : 0 < (∑ i, u i * u i) * k + p := by positivity
  exact ⟨_, by rw [Ideal.rsqrt_coe, if_neg h1.le.not_gt, if_neg h1.ne']⟩

/-- A square is not negative. -/
theorem square_nonneg : ∀ x : EReal, 0 ≤ x * x
  | ⊥ => by rw [EReal.bot_mul_bot]; exact le_top
  | ⊤ => by rw [EReal.top_mul_top]; exact le_top
  | (r : ℝ) => by rw [← EReal.coe_mul]; exact EReal.coe_nonneg.2 (mul_self_nonneg r)

/-- The square of an infinity. -/
theorem square_top : ∀ x : EReal, ¬ IsReal x → x * x = ⊤
  | ⊥ => fun _ => EReal.bot_mul_bot
  | ⊤ => fun _ => EReal.top_mul_top
  | (r : ℝ) => fun h => (h ⟨r, rfl⟩).elim

/-- A row at unit mean square is real, whatever the row holds: an infinity makes the reciprocal root zero. -/
theorem norm_real (v : Fin 1024 → EReal) (d : Fin 1024) : IsReal (v d * Cert.Mix.scale v (Ideal.ofBits .f32 0x3A800000#32)) := by
  by_cases hv : ∀ i, IsReal (v i)
  · exact (hv d).mul (scale_real v hv)
  · obtain ⟨i, hi⟩ := not_forall.1 hv
    have ht : (∑ i, v i * v i) = ⊤ := top_le_iff.1 ((square_top _ hi).symm.le.trans
      (Finset.single_le_sum (f := fun i => v i * v i) (fun j _ => square_nonneg (v j)) (Finset.mem_univ i)))
    obtain ⟨k, hk, ek⟩ := over_1024
    obtain ⟨p, -, ep⟩ := eps_pos
    refine ⟨0, ?_⟩
    unfold Cert.Mix.scale
    rw [ht, ek, ep, EReal.top_mul_coe_of_pos hk, EReal.top_add_coe]
    exact mul_zero _

/-- A modulated row of a real shift and scale. -/
theorem hid_real (x s h : Fin 1024 → EReal) (hs : ∀ i, IsReal (s i)) (hh : ∀ i, IsReal (h i)) (d : Fin 1024) :
    IsReal (Cert.Mix.hid x s h d) :=
  ((norm_real x d).mul (IsReal.add ⟨1, rfl⟩ (hs d))).add (hh d)

/-- The router's product in three parts, when both operands are real: the second and the third part vanish. -/
theorem parts (w h : Fin 1024 → EReal) (hw : ∀ d, IsReal (w d)) (hh : ∀ d, IsReal (h d)) :
    ((∑ d, w d * h d) + ∑ d, w d * (h d - h d)) + ∑ d, (w d - w d) * h d = ∑ d, h d * w d := by
  have e1 : (∑ d, w d * (h d - h d)) = 0 := Finset.sum_eq_zero fun d _ => by rw [(hh d).sub_self, mul_zero]
  have e2 : (∑ d, (w d - w d) * h d) = 0 := Finset.sum_eq_zero fun d _ => by rw [(hw d).sub_self, zero_mul]
  rw [e1, e2, add_zero, add_zero]
  exact Finset.sum_congr rfl fun d _ => mul_comm _ _

end Cert.Out

end
-- ==== Proof.Out.Finite.lean ====
/- The mask of the output projection's third result read: where it is set, the shift, the scale and the router's weights hold reals only. -/
module

public import proofs.«01_k».proof.On_reals_for_the_router
public import proofs.«01_k».proof.Proof.Attn.Finite
public import proofs.«01_k».proof.Proof.Out.Real
public import Idealize.ShloMosaic.Lib.ReduceAll

@[expose] public section

set_option maxRecDepth 16384

noncomputable section

namespace Cert.On_reals_for_the_router

open Idealize.ShloMosaic

/-- The relations of shapes the mask's operations take. -/
theorem facts : Facts where
  bcast_S_S2x1x1024 := by decide
  reducesTo_S2x1x1024_S_d0_1_2 := by decide
  h_S_ := by decide
  bcast_S_S1024x16 := by decide
  reducesTo_S1024x16_S_d0_1 := by decide
  bcast_S_S2x8192x1024 := by decide
  bcast_S_S2x65536x128 := by decide
  bcast_S_S2x16x8192 := by decide

instance : Subsingleton S_.Idx := ⟨fun a b => funext fun k => k.elim0⟩

/-- An array each of whose entries is below the infinity in absolute value, folded to one word. -/
theorem reals {s : Shape} {axes : List (Fin s.rank)} (x : FVec Ideal s .f32) (hb : S_.BroadcastsInDim s (![] : Fin 0 → Fin s.rank))
    (hr : s.ReducesTo axes S_) (hu : 0 < S_.numel) (v : IVec S_ 1) (j : S_.Idx)
    (h : Host.reduce IntOp.andi (cmpf .olt (Host.absf x) (broadcastInDim s ![] hb (constant S_ .f32 0x7F800000#32))) v hr hu j = 1#1)
    (i : s.Idx) : Cert.Out.IsReal (x i) :=
  Cert.Pre_finite_queries_and_keys.real_of_abs_lt (x i) (Host.reduce_andi_all _ v hr hu j h i)

variable [Facts] (x : FVec Ideal S2x8192x1024 .f32) (ya : FVec Ideal S2x8192x256 .bf16) (yb : FVec Ideal S2x8192x256 .f32)
  (yc : FVec Ideal S2x8192x512 .bf16) (w : FVec Ideal S1024x1024 .f32) (g h s : FVec Ideal S2x1x1024 .f32) (r : FVec Ideal S1024x16 .f32)

/-- The shift `h`, the scale `s` and the router's weights `r` hold reals only. -/
structure Reals : Prop where
  h : ∀ i, Cert.Out.IsReal (h i)
  s : ∀ i, Cert.Out.IsReal (s i)
  r : ∀ i, Cert.Out.IsReal (r i)

theorem third (i : S2x16x8192.Idx) (e : (fn x ya yb yc w g h s r).2.2 i = 1#1) : Reals h s r := by
  obtain ⟨e, er⟩ := IntOp.andi_eq_one.1 e
  obtain ⟨eh, es⟩ := IntOp.andi_eq_one.1 e
  exact ⟨reals h _ _ _ _ _ eh, reals s _ _ _ _ _ es, reals r _ _ _ _ _ er⟩

end Cert.On_reals_for_the_router

end
-- ==== Proof.Out.Affinities.lean ====
/- The third result of the output projection call for a real shift, scale and router, and its reference's second and third. -/
module

public import proofs.«01_k».proof.Proof.Out.Value
public import proofs.«01_k».proof.Proof.Out.Finite
public import proofs.«01_k».proof.Proof.Out.Reference

@[expose] public section

set_option maxRecDepth 16384

noncomputable section

open Idealize.ShloMosaic Idealize.ShloMosaic.TcCoe
open scoped BigOperators

namespace Cert.Kernel3Ideal.Out

open Cert.Kernel3Ideal Cert.Kernel3Ideal.Gen

variable (m : (ℓ : Loc nD τ sig) → Buf (Elt Ideal) ℓ) (c : Dev nD)

/-- The shift, the scale and the router's weights hold no infinity. -/
abbrev Reals : Prop :=
  Cert.On_reals_for_the_router.Reals (m ((c : Thread nD τ).loc main_arg6)) (m ((c : Thread nD τ).loc main_arg7))
    (m ((c : Thread nD τ).loc main_arg8))

/-- The modulated norm is real then. -/
theorem hidden_real (R : Reals m c) (b : Fin 2) (n : Fin 8192) (e : Fin 1024) : Cert.Out.IsReal (hidden m c b n e) :=
  Cert.Out.hid_real _ _ _ (fun _ => R.s _) (fun _ => R.h _) e

/-- And the third result is the softmax of one product. -/
theorem res2_eq (R : Reals m c) (i : S2x16x8192.Idx) :
    res2 m c i = Cert.Out.soft (fun e => ∑ d : Fin 1024, hidden m c (i 0) (i 2) d * router m c d e) (i 1) :=
  congrArg (fun l => Cert.Out.soft l (i 1))
    (funext fun e => Cert.Out.parts (fun d => router m c d e) (hidden m c (i 0) (i 2)) (fun _ => R.r _) (hidden_real m c R (i 0) (i 2)))

end Cert.Kernel3Ideal.Out

namespace Cert.Reference3Ideal.Out

open Cert.Reference3Ideal Cert.Reference3Ideal.Gen

/-- The reference's second result of its arguments. -/
def second (m : (ℓ : Loc nD τ sig) → Buf (Elt Ideal) ℓ) (c : Dev nD) : FVec Ideal S2x65536x128 .f32 :=
  modulated (result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)))
    (m ((c : Thread nD τ).loc main_arg6)) (m ((c : Thread nD τ).loc main_arg7))

/-- The reference's third result of its arguments. -/
theorem third_eq (m : (ℓ : Loc nD τ sig) → Buf (Elt Ideal) ℓ) (c : Dev nD) :
    Cert.Reference3Ideal.Value.res_main_v36 m c
      = routed (exps (logits (rows (result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5))) (m ((c : Thread nD τ).loc main_arg6)) (m ((c : Thread nD τ).loc main_arg7)))
          (m ((c : Thread nD τ).loc main_arg8)))) := by
  unfold Cert.Reference3Ideal.Value.res_main_v36
  rfl

/-- An entry of the third result. -/
theorem third_apply (z : FVec Ideal S2x8192x1024 .f32) (h s : FVec Ideal S2x1x1024 .f32) (r : FVec Ideal S1024x16 .f32)
    (b : Fin 2) (e : Fin 16) (n : Fin 8192) :
    routed (exps (logits (rows z h s) r)) (ix3 b e n) = Cert.Out.soft (fun e => ∑ d : Fin 1024, Cert.Mix.hid (fun d => z (ix3 b n d))
      (fun d => s (ix3 b 0 d)) (fun d => h (ix3 b 0 d)) d * r (ix2 d e)) e := by
  simp only [routed_apply, logits_apply, rows_apply]

end Cert.Reference3Ideal.Out

end
-- ==== Proof.OutBits.Body.lean ====
/- One grid point of the output projection call: what it leaves in the block of its first result; of the other two
   results' blocks only that they are held again. -/
module

public import proofs.«01_k».proof.Proof.Gen.Kernel3.Skeleton
public import Idealize.ShloMosaic.Lib.VecWindow
public import Idealize.ShloMosaic.Lib.Pipeline.Value
public import Idealize.ShloMosaic.Lib.Tactic
public import Idealize.ShloMosaic.Lib.Tactic.Stretches

@[expose] public section

noncomputable section

namespace Cert.Kernel3.Out

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first 256 rows of the output weights, -/
def top (w : Vec F S1024x1024 .bf16) : Vec F S256x1024 .bf16 := fun y =>
  w (Fin.cons (⟨(y 0).val, by have : (y 0).val < 256 := (y 0).isLt; omega⟩ : Fin 1024) (Fin.cons (y 1) finZeroElim))
/-- the next 256, -/
def mid (w : Vec F S1024x1024 .bf16) : Vec F S256x1024 .bf16 := fun y =>
  w (Fin.cons (⟨256 + (y 0).val, by have : (y 0).val < 256 := (y 0).isLt; omega⟩ : Fin 1024) (Fin.cons (y 1) finZeroElim))
/-- and the last 512. -/
def bot (w : Vec F S1024x1024 .bf16) : Vec F S512x1024 .bf16 := fun y =>
  w (Fin.cons (⟨512 + (y 0).val, by have : (y 0).val < 512 := (y 0).isLt; omega⟩ : Fin 1024) (Fin.cons (y 1) finZeroElim))

section Reads

variable {sp : Space} (v : View sig .tc sp S1024x1024 .bf16) (X : v.ty.Contents (Elt F))

/-- The loads of the output weights' three parts. -/
theorem read_top (inb) : v.readAt (Elt F) (Rect.unit (s := S1024x1024) ![0, 0] S256x1024.size inb).toLoadRect X = top (v.read (Elt F) X) := by
  funext y
  refine congrArg (v.read (Elt F) X) (funext fun a => Fin.ext ?_)
  match a with
  | ⟨0, _⟩ => show 0 + 1 * (y 0).val = (y 0).val; omega
  | ⟨1, _⟩ => show 0 + 1 * (y 1).val = (y 1).val; omega
theorem read_mid (inb) : v.readAt (Elt F) (Rect.unit (s := S1024x1024) ![256, 0] S256x1024.size inb).toLoadRect X = mid (v.read (Elt F) X) := by
  funext y
  refine congrArg (v.read (Elt F) X) (funext fun a => Fin.ext ?_)
  match a with
  | ⟨0, _⟩ => show 256 + 1 * (y 0).val = 256 + (y 0).val; omega
  | ⟨1, _⟩ => show 0 + 1 * (y 1).val = (y 1).val; omega
theorem read_bot (inb) : v.readAt (Elt F) (Rect.unit (s := S1024x1024) ![512, 0] S512x1024.size inb).toLoadRect X = bot (v.read (Elt F) X) := by
  funext y
  refine congrArg (v.read (Elt F) X) (funext fun a => Fin.ext ?_)
  match a with
  | ⟨0, _⟩ => show 512 + 1 * (y 0).val = 512 + (y 0).val; omega
  | ⟨1, _⟩ => show 0 + 1 * (y 1).val = (y 1).val; omega

end Reads

/-- What a grid point leaves in the first result's block. -/
def blockOut (x2 : Vec F S1x512x1024 .f32) (x3 : Vec F S1x512x256 .bf16) (x4 : Vec F S1x512x256 .f32) (x5 : Vec F S1x512x512 .bf16)
    (x6 : Vec F S1024x1024 .bf16) (x7 : Vec F S1x1x1024 .f32) : Vec F S1x512x1024 .f32 :=
  k0_pay3 x3 (top x6) x4 (mid x6) x5 (bot x6) x2 x7

/-- Owning a memref's elements at some contents is owning it at some value. -/
theorem owned (c : Dev nD) {sp : Space} {s : Shape} {e : EltTy} (v : Memref sig .tc sp s e) (f : BufTy.Contents (Elt F) v.view.ty) :
    (v.view.loc (c : Thread nD τ) ↦[v.view.set]{fullShare} f : sProp 𝕄)
      ⊢ iprop(∃ x g, ⌜v.view.read (Elt F) g = x⌝ ∗ (v.view.loc (c : Thread nD τ) ↦[v.view.set]{fullShare} g)) := by
  iintro H
  iexists (v.view.read (Elt F) f)
  iexists f
  isplitr
  · ipureintro; rfl
  iexact H

variable (𝒱 : Variants) (c : Dev nD) (bd : Option 𝒱.V) (E : Set ℕ) (i : grid0.Coords)
  (arg2 : Memref sig .tc .vmem S1x512x1024 .f32) (harg2 : arg2.IsWhole) (arg3 : Memref sig .tc .vmem S1x512x256 .bf16) (harg3 : arg3.IsWhole) (arg4 : Memref sig .tc .vmem S1x512x256 .f32) (harg4 : arg4.IsWhole) (arg5 : Memref sig .tc .vmem S1x512x512 .bf16) (harg5 : arg5.IsWhole) (arg6 : Memref sig .tc .vmem S1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S16x1024 .bf16) (harg10 : arg10.IsWhole) (arg11 : Memref sig .tc .vmem S16x1024 .bf16) (harg11 : arg11.IsWhole) (arg12 : Memref sig .tc .vmem S1x512x1024 .f32) (harg12 : arg12.IsWhole) (arg13 : Memref sig .tc .vmem S1x4096x128 .f32) (harg13 : arg13.IsWhole) (arg14 : Memref sig .tc .vmem S1x16x512 .f32) (harg14 : arg14.IsWhole)

set_option maxHeartbeats 40000000 in
set_option maxRecDepth 65536 in
/-- One grid point: the inputs' blocks stay as they are, and the first result's block is left at `blockOut` of them. -/
theorem body (x2 : Vec F S1x512x1024 .f32) (x3 : Vec F S1x512x256 .bf16) (x4 : Vec F S1x512x256 .f32) (x5 : Vec F S1x512x512 .bf16) (x6 : Vec F S1024x1024 .bf16) (x7 : Vec F S1x1x1024 .f32) (x8 : Vec F S1x1x1024 .f32) (x9 : Vec F S1x1x1024 .f32) (x10 : Vec F S16x1024 .bf16) (x11 : Vec F S16x1024 .bf16) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
      ∗ (∃ x, owns (c : Thread nD τ) arg12 fullShare x) ∗ (∃ x, owns (c : Thread nD τ) arg13 fullShare x) ∗ (∃ x, owns (c : Thread nD τ) arg14 fullShare x) : sProp 𝕄)
    ⊢ wp frame (wpE (defs₀ (F := F)) 𝒱 (c : Thread nD τ) bd) E
        (cc0_mix_out (F := F) i arg2 harg2 arg3 harg3 arg4 harg4 arg5 harg5 arg6 harg6 arg7 harg7 arg8 harg8 arg9 harg9 arg10 harg10 arg11 harg11 arg12 harg12 arg13 harg13 arg14 harg14)
        (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
          ∗ owns (c : Thread nD τ) arg12 fullShare (blockOut x2 x3 x4 x5 x6 x7) ∗ (∃ x, owns (c : Thread nD τ) arg13 fullShare x) ∗ (∃ x, owns (c : Thread nD τ) arg14 fullShare x))) := by
  simp only [cc0_mix_out_eq_skeleton]
  unfold cc0_mix_out_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%x12, %f12, %h12, H12⟩, ⟨%x13, %f13, %h13, H13⟩, ⟨%x14, %f14, %h14, H14⟩⟩
  subst h2; subst h3; subst h4; subst h5; subst h6; subst h7; subst h8; subst h9; subst h10; subst h11
  sl_exec_parts
  sl_step
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _
    isplitr
    rotate_left
    · iexact H12
    · ipureintro
      sl_open_run
      simp -proj only [View.readAt_full, View.readCov_full, View.read_writes_full, View.readAt_writes_full, read_top, read_mid, read_bot]
      rfl
  isplitl [H13]
  · iapply (owned (F := F) c arg13 _) $$ [H13]; iexact H13
  iapply (owned (F := F) c arg14 _) $$ [H14]; iexact H14

end Cert.Kernel3.Out

end
-- ==== Proof.OutBits.Launch.lean ====
/- The output projection call's launch: the pipeline's proof data over the block function, with nothing said of what the
   body leaves in the blocks of its last two results; the body obligation at every grid point, the run of `main`, and
   the frame. -/
module

public import proofs.«01_k».proof.Proof.OutBits.Body
public import proofs.«01_k».proof.Proof.Gen.Kernel3.Frame
public import Idealize.ShloMosaic.Lib.Claim

@[expose] public section

set_option maxRecDepth 16384

noncomputable section

namespace Cert.Kernel3.Out

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's staging memref at point `t`. -/

abbrev stg0 (t : Fin cfg0.N) : Memref sig .tc .vmem S1x512x1024 .f32 := win0_0.stage (cfg0.slots t 0)
abbrev stg1 (t : Fin cfg0.N) : Memref sig .tc .vmem S1x512x256 .bf16 := win0_1.stage (cfg0.slots t 1)
abbrev stg2 (t : Fin cfg0.N) : Memref sig .tc .vmem S1x512x256 .f32 := win0_2.stage (cfg0.slots t 2)
abbrev stg3 (t : Fin cfg0.N) : Memref sig .tc .vmem S1x512x512 .bf16 := win0_3.stage (cfg0.slots t 3)
abbrev stg4 (t : Fin cfg0.N) : Memref sig .tc .vmem S1024x1024 .bf16 := win0_4.stage (cfg0.slots t 4)
abbrev stg5 (t : Fin cfg0.N) : Memref sig .tc .vmem S1x1x1024 .f32 := win0_5.stage (cfg0.slots t 5)
abbrev stg6 (t : Fin cfg0.N) : Memref sig .tc .vmem S1x1x1024 .f32 := win0_6.stage (cfg0.slots t 6)
abbrev stg7 (t : Fin cfg0.N) : Memref sig .tc .vmem S1x1x1024 .f32 := win0_7.stage (cfg0.slots t 7)
abbrev stg8 (t : Fin cfg0.N) : Memref sig .tc .vmem S16x1024 .bf16 := win0_8.stage (cfg0.slots t 8)
abbrev stg9 (t : Fin cfg0.N) : Memref sig .tc .vmem S16x1024 .bf16 := win0_9.stage (cfg0.slots t 9)
abbrev stg10 (t : Fin cfg0.N) : Memref sig .tc .vmem S1x512x1024 .f32 := win0_10.stage (cfg0.slots t 10)
abbrev stg11 (t : Fin cfg0.N) : Memref sig .tc .vmem S1x4096x128 .f32 := win0_11.stage (cfg0.slots t 11)
abbrev stg12 (t : Fin cfg0.N) : Memref sig .tc .vmem S1x16x512 .f32 := win0_12.stage (cfg0.slots t 12)

/-- The windows of which nothing is said: those of the last two results. -/
def fgt : Fin cfg0.W → Bool
  | ⟨11, _⟩ => true
  | ⟨12, _⟩ => true
  | _ => false

/-- What point `t` leaves in the first result's block. -/
def outsAt (c : Dev nD) (t : Fin cfg0.N) : Vec F S1x512x1024 .f32 :=
  blockOut (iblk m c 0 t) (iblk m c 1 t) (iblk m c 2 t) (iblk m c 3 t) (iblk m c 4 t) (iblk m c 5 t)

/-- The proof data: the arrays as the region finds them, every input's block left in place, the first result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outsAt m c t
    | ⟨11, _⟩ => Dat.unnamed (cfg := cfg0) 11 t
    | ⟨12, _⟩ => Dat.unnamed (cfg := cfg0) 12 t
  Φ _ := Pipeline.ΦA spec0 c
  q _ := fullShare
  owed _ := 0

theorem A_eq (c : Dev nD) (w : Fin cfg0.W) : (dats m 0 c).A w = V m c (Pipeline.arrRef spec0 w) := by dsimp only [dats]

/-! What the body leaves and what it finds, window by window. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outsAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ X, owns (c : Thread nD τ) (stg11 t) fullShare X)
    ∗ (∃ X, owns (c : Thread nD τ) (stg12 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ (∃ X, owns (c : Thread nD τ) (stg11 t) fullShare X)
    ∗ (∃ X, owns (c : Thread nD τ) (stg12 t) fullShare X))

set_option maxHeartbeats 1600000 in
/-- The body at any point, by `body` at the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  unfold outsAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12⟩
  iapply (wp_wand_r Idealize.ShloMosaic.frame (wpE (defs₀ (F := F)) Variants.none (c : Thread nD τ) none) Set.univ)
  isplitl [H0 H1 H2 H3 H4 H5 H6 H7 H8 H9 H10 H11 H12]
  · iapply (body (F := F) Variants.none c none Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    iexact H12
  · iintro %yld ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- Every execution of `main` ends with the pipeline's arrays at what the proof data gives where it says something, every
    other unscoped buffer as the region found it, and every semaphore counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem kept {r} (h : Pipeline.RDat.FramePost cfg0 (fun c => (dats m 0 c).toRForget fgt) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(Pipeline.RDat.FramePost.arr_in h c 0 rfl).trans (V_main_arg0 m c),
    (Pipeline.RDat.FramePost.arr_in h c 1 rfl).trans (V_main_arg1 m c),
    (Pipeline.RDat.FramePost.arr_in h c 2 rfl).trans (V_main_arg2 m c),
    (Pipeline.RDat.FramePost.arr_in h c 3 rfl).trans (V_main_arg3 m c),
    ((h c).2 main_arg4 (Pipeline.mem_restRefs_of main_arg4 (by decide) (by decide))).trans (V_main_arg4 m c),
    (Pipeline.RDat.FramePost.arr_in h c 5 rfl).trans (V_main_arg5 m c),
    (Pipeline.RDat.FramePost.arr_in h c 6 rfl).trans (V_main_arg6 m c),
    (Pipeline.RDat.FramePost.arr_in h c 7 rfl).trans (V_main_arg7 m c),
    ((h c).2 main_arg8 (Pipeline.mem_restRefs_of main_arg8 (by decide) (by decide))).trans (V_main_arg8 m c)⟩

/-- The frame: the argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨kept m h.1, h.2⟩) (run_main m ρ)

end Cert.Kernel3.Out

end
-- ==== Proof.lean ====
/- The claim: every frame, the ideal kernels kept from the kernels, the attention call equal to its reference over the
   extended reals for queries and keys that are real, and the input and output projection calls equal to their
   references, the router's affinities where the shift, the scale and the router's weights are real. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Attn.Value
public import proofs.«01_k».proof.Proof.Attn.Reference
public import proofs.«01_k».proof.Proof.Attn.Finite
public import proofs.«01_k».proof.Proof.AttnBits.Launch
public import proofs.«01_k».proof.Proof.Mix.Value
public import proofs.«01_k».proof.Proof.Mix.Reference
public import proofs.«01_k».proof.Proof.Out.Value
public import proofs.«01_k».proof.Proof.Out.Reference
public import proofs.«01_k».proof.Proof.Out.Affinities
public import proofs.«01_k».proof.Proof.OutBits.Launch
public import Idealize.ShloMosaic.Lib.Quiescent
public import Idealize.ShloMosaic.Lib.Claim

@[expose] public section

set_option maxRecDepth 16384

noncomputable section

namespace Cert.Proof

open Idealize.ShloMosaic Idealize.ShloMosaic.TcCoe Idealize.SL Idealize.SL.Sem

/-- The reference ends with its arguments unchanged and no counter raised. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's result is the attention, for real queries and keys. -/
theorem reference_result (q : FVec Ideal Cert.ReferenceIdeal.S2x4x8192x256 .bf16)
    (a : FVec Ideal Cert.ReferenceIdeal.S2x4x256x256 .bf16) (va : FVec Ideal Cert.ReferenceIdeal.S2x4x256x128 .bf16)
    (z : FVec Ideal Cert.ReferenceIdeal.S2x4x8192x256 .bf16) (vz : FVec Ideal Cert.ReferenceIdeal.S2x4x8192x128 .bf16)
    (hq : Softmax.Real4 fun b h n k => q (ix4 b h n k)) (ha : Softmax.Real4 fun b h n k => a (ix4 b h n k))
    (hz : Softmax.Real4 fun b h n k => z (ix4 b h n k)) :
    Cert.ReferenceIdeal.Attn.mean va vz (Cert.ReferenceIdeal.Attn.softmax (Cert.ReferenceIdeal.Attn.logits q a z))
      = fun i : Cert.ReferenceIdeal.S2x8192x512.Idx => Softmax.attention (fun b h n k => q (ix4 b h n k))
          (fun b h n k => a (ix4 b h n k)) (fun b h n k => va (ix4 b h n k)) (fun b h n k => z (ix4 b h n k))
          (fun b h n k => vz (ix4 b h n k)) (i 0) (i 1)
          ⟨(i 2).val / 128, by have : (i 2).val < 512 := (i 2).isLt; omega⟩ ⟨(i 2).val % 128, Nat.mod_lt _ (by decide)⟩ := by
  funext i
  exact (congrArg (Cert.ReferenceIdeal.Attn.mean va vz
    (Cert.ReferenceIdeal.Attn.softmax (Cert.ReferenceIdeal.Attn.logits q a z))) (eq_ix3 i)).trans
      (Cert.ReferenceIdeal.Attn.result_apply q a va z vz hq ha hz (i 0) (i 1) (i 2))

/-- The kernel and its reference end with equal results. -/
theorem attention_eq : Cert.algebraic_KernelIdeal_ReferenceIdeal_pre_finite_queries_and_keys
    (hKernelIdeal := Cert.KernelIdeal.Gen.facts) (hReferenceIdeal := Cert.ReferenceIdeal.Gen.facts)
    (hPre_finite_queries_and_keys := Cert.Pre_finite_queries_and_keys.facts) := by
  intro m ρ m' ρ' hpre hargs
  letI := Cert.Pre_finite_queries_and_keys.facts
  have hq : ∀ c, Softmax.Real4 (Cert.KernelIdeal.Attn.arg0 m c) := fun c =>
    Cert.Pre_finite_queries_and_keys.queries _ _ _ _ _ (hpre c).1
  have ha : ∀ c, Softmax.Real4 (Cert.KernelIdeal.Attn.arg1 m c) := fun c =>
    Cert.Pre_finite_queries_and_keys.context_keys _ _ _ _ _ (hpre c).2.1
  have hz : ∀ c, Softmax.Real4 (Cert.KernelIdeal.Attn.arg3 m c) := fun c =>
    Cert.Pre_finite_queries_and_keys.sequence_keys _ _ _ _ _ (hpre c).2.2
  refine ⟨fun c => Cert.KernelIdeal.Attn.result m c, Cert.KernelIdeal.Attn.run m ρ hq ha hz, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4⟩ := hargs c
  rw [e0, e1, e2, e3, e4]
  exact reference_result _ _ _ _ _ (hq c) (ha c) (hz c)

/-- The input projection reference ends with its arguments unchanged and no counter raised. -/
theorem reference2_frame (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal)))
      ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17))
      ∧ r.2.sem = fun _ => 0) :=
  (θ_run Cert.Reference2Ideal.defs _ _).mono
    (fun r h => ⟨fun c => (h c).2.2.2.2.2.2, Idealize.ShloMosaic.sem_eq_zero_of_no_sems (by decide) r.2⟩)
    (Cert.Reference2Ideal.Mix.run m ρ)

/-- The input projection call and its reference end with equal results. -/
theorem mix_eq : Cert.algebraic_Kernel2Ideal_Reference2Ideal
    (hKernel2Ideal := Cert.Kernel2Ideal.Gen.facts) (hReference2Ideal := Cert.Reference2Ideal.Gen.facts) := by
  intro m ρ m' ρ' _ hargs
  refine ⟨fun c => Cert.Kernel2Ideal.Mix.res0 m c, fun c => Cert.Kernel2Ideal.Mix.res1 m c,
    fun c => Cert.Kernel2Ideal.Mix.res2 m c, fun c => Cert.Kernel2Ideal.Mix.res3 m c,
    fun c => Cert.Kernel2Ideal.Mix.res4 m c, fun c => Cert.Kernel2Ideal.Mix.res5 m c, Cert.Kernel2Ideal.Mix.run m ρ, ?_⟩
  refine (θ_run Cert.Reference2Ideal.defs _ _).mono (fun r h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2⟩) (Cert.Reference2Ideal.Mix.run m' ρ')
  all_goals obtain ⟨e0, e1, e2, e3, e4, e5, e6, e7, e8, e9, e10, e11, e12, e13, e14, e15, e16, e17⟩ := hargs c
  · unfold Cert.Reference2Ideal.Mix.projected
    rw [Cert.Reference2Ideal.Mix.mixed_eq, Cert.Reference2Ideal.Mix.project_eq, e0, e1, e2, e3, e4, e5, e6]
    rfl
  · unfold Cert.Reference2Ideal.Mix.projected
    rw [Cert.Reference2Ideal.Mix.first_eq, Cert.Reference2Ideal.Mix.project_eq, e0, e1, e2, e3, e7]
    rfl
  · unfold Cert.Reference2Ideal.Mix.projected
    rw [Cert.Reference2Ideal.Mix.second_eq, Cert.Reference2Ideal.Mix.project_eq, e0, e1, e2, e3, e7]
    rfl
  · unfold Cert.Reference2Ideal.Mix.query
    rw [Cert.Reference2Ideal.Mix.queries_eq]
    unfold Cert.Reference2Ideal.Mix.projected
    rw [Cert.Reference2Ideal.Mix.project_eq, e0, e1, e2, e3, e8, e9, e12, e14, e15, e16, e17]
    rfl
  · unfold Cert.Reference2Ideal.Mix.key Cert.Reference2Ideal.Mix.shared
    unfold Cert.Reference2Ideal.Mix.projected
    rw [Cert.Reference2Ideal.Mix.keys_eq _ _ _ _ _ _ _ _ _ (Cert.Reference2Ideal.Mix.project_eq _ _ _ _), e0, e1, e2, e3, e10, e11, e13, e14, e15, e16, e17]
    rfl
  · unfold Cert.Reference2Ideal.Mix.shared Cert.Reference2Ideal.Mix.projected
    rw [Cert.Reference2Ideal.Mix.values_eq, Cert.Reference2Ideal.Mix.project_eq, e0, e1, e2, e3, e10, e11]
    rfl

/-- The one constant named in the input projection call. -/
theorem constant : IdealRules.named_const.Statement Cert.Kernel2Ideal.κ "inv_qk_dim" .f32 0x3BAAAAAB#32
    ((1 / 192 : ℝ) : EReal) :=
  IdealRules.named_const.statement Cert.Kernel2Ideal.κ "inv_qk_dim" .f32 0x3BAAAAAB#32 ((1 / 192 : ℝ) : EReal) rfl

/-- The output projection reference ends with its arguments unchanged and no counter raised. -/
theorem reference3_frame (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal)))
      ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0) :=
  (θ_run Cert.Reference3Ideal.defs _ _).mono
    (fun r h => ⟨fun c => (h c).2.2.2, Idealize.ShloMosaic.sem_eq_zero_of_no_sems (by decide) r.2⟩)
    (Cert.Reference3Ideal.Value.run (F := Ideal) m ρ)

/-- The output projection reference's first result at every entry. -/
theorem reference3_first (x : FVec Ideal Cert.Reference3Ideal.S2x8192x1024 .f32) (ya : FVec Ideal Cert.Reference3Ideal.S2x8192x256 .bf16)
    (yb : FVec Ideal Cert.Reference3Ideal.S2x8192x256 .f32) (yc : FVec Ideal Cert.Reference3Ideal.S2x8192x512 .bf16)
    (w : FVec Ideal Cert.Reference3Ideal.S1024x1024 .f32) (g : FVec Ideal Cert.Reference3Ideal.S2x1x1024 .f32) :
    Cert.Reference3Ideal.Out.result x ya yb yc w g
      = fun i : Cert.Reference3Ideal.S2x8192x1024.Idx => Cert.Out.latent (fun b n d => x (ix3 b n d)) (fun b n d => ya (ix3 b n d))
          (fun b n d => yb (ix3 b n d)) (fun b n d => yc (ix3 b n d)) (fun j d => w (ix2 j d)) (fun b d => g (ix3 b 0 d)) (i 0) (i 1) (i 2) := by
  funext i
  exact (congrArg (Cert.Reference3Ideal.Out.result x ya yb yc w g) (eq_ix3 i)).trans
    (Cert.Reference3Ideal.Out.result_apply x ya yb yc w g (i 0) (i 1) (i 2))

/-- The output projection call and its reference end with equal results, the third where its mask is set. -/
theorem out_eq : Cert.algebraic_Kernel3Ideal_Reference3Ideal_on_reals_for_the_router
    (hKernel3Ideal := Cert.Kernel3Ideal.Gen.facts) (hReference3Ideal := Cert.Reference3Ideal.Gen.facts)
    (hOn_reals_for_the_router := Cert.On_reals_for_the_router.facts) := by
  letI := Cert.On_reals_for_the_router.facts
  intro m ρ m' ρ' _ hargs
  refine ⟨fun c => Cert.Kernel3Ideal.Out.res m c, fun c => Cert.Kernel3Ideal.Out.res1 m c, fun c => Cert.Kernel3Ideal.Out.res2 m c,
    (θ_run Cert.Kernel3Ideal.defs _ _).mono (fun r h c => ⟨fun i _ => congrFun (h c).1 i, fun i _ => congrFun (h c).2.1 i,
      fun i _ => congrFun (h c).2.2.1 i, (h c).2.2.2⟩) (Cert.Kernel3Ideal.Out.run m ρ), ?_⟩
  refine (θ_run Cert.Reference3Ideal.defs _ _).mono (fun r h c => ⟨fun i _ => congrFun ((h c).1.trans ?_) i,
    fun i _ => congrFun ((h c).2.1.trans (?_ : Cert.Reference3Ideal.Out.second m' c = _)) i, fun i e => (congrFun ((h c).2.2.1.trans (Cert.Reference3Ideal.Out.third_eq m' c)) i).trans ?_,
    (h c).2.2.2⟩) (Cert.Reference3Ideal.Value.run (F := Ideal) m' ρ')
  rotate_left
  all_goals obtain ⟨e0, e1, e2, e3, e4, e5, e6, e7, e8⟩ := hargs c
  · rw [e0, e1, e2, e3, e4, e5]
    exact reference3_first _ _ _ _ _ _
  · unfold Cert.Reference3Ideal.Out.second
    rw [e0, e1, e2, e3, e4, e5, e6, e7, reference3_first]
    funext i
    exact (congrArg (Cert.Reference3Ideal.Out.modulated _ _ _) (eq_ix3 i)).trans
      (Cert.Reference3Ideal.Out.modulated_apply _ _ _ (i 0) (i 1) (i 2))
  · rw [e0, e1, e2, e3, e4, e5, e6, e7, e8, reference3_first]
    exact ((congrArg (Cert.Reference3Ideal.Out.routed _) (eq_ix3 i)).trans
      (Cert.Reference3Ideal.Out.third_apply _ _ _ _ (i 0) (i 1) (i 2))).trans
      (Cert.Kernel3Ideal.Out.res2_eq m c (Cert.On_reals_for_the_router.third _ _ _ _ _ _ _ _ _ i e) i).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Pre_finite_queries_and_keys.facts, Cert.On_reals_for_the_router.facts, fun m ρ _ => Cert.Kernel.Attn.frame m ρ,
    fun m ρ _ => Cert.KernelIdeal.Attn.frame m ρ, fun m ρ _ => Cert.KernelIdeal.Attn.frame m ρ,
    fun m ρ _ => reference_frame m ρ, fun m ρ _ => reference_frame m ρ,
    fun m ρ _ => Cert.Kernel2.Gen.frame m ρ, fun m ρ _ => Cert.Kernel2Ideal.Gen.frame m ρ,
    fun m ρ _ => reference2_frame m ρ,
    fun m ρ _ => Cert.Kernel3.Out.frame m ρ, fun m ρ _ => Cert.Kernel3Ideal.Out.frame m ρ,
    fun m ρ _ => reference3_frame m ρ, trivial, attention_eq, constant, mix_eq, trivial, out_eq⟩

end Cert.Proof

end
